-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_gates_KernelIdeal [hPre_finite_gates_KernelIdeal : Cert.Pre_finite_gates_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_finite_gates_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_gates_ReferenceIdeal [hPre_finite_gates_ReferenceIdeal : Cert.Pre_finite_gates_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_gates_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite_gates_KernelIdeal [hKernelIdeal : Cert.KernelIdeal.Facts] [hPre_finite_gates_KernelIdeal : Cert.Pre_finite_gates_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_gates_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite_gates_ReferenceIdeal [hReferenceIdeal : Cert.ReferenceIdeal.Facts] [hPre_finite_gates_ReferenceIdeal : Cert.Pre_finite_gates_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_gates_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal_pre_finite_gates_KernelIdeal [hKernelIdeal : Cert.KernelIdeal.Facts] [hReferenceIdeal : Cert.ReferenceIdeal.Facts] [hPre_finite_gates_KernelIdeal : Cert.Pre_finite_gates_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_gates_KernelIdeal m →
    (∀ c : Dev Cert.KernelIdeal.nD,
      m ((c.tc : Thread Cert.KernelIdeal.nD Cert.KernelIdeal.τ).loc Cert.KernelIdeal.main_arg0) = Layout.block ⟨2, ![256, 1024]⟩ ⟨2, ![1024, 1024]⟩ 0 4 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![1024, 4]⟩ ⟨2, ![1024, 16]⟩ 1 4 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = Layout.block ⟨3, ![4, 1024, 2048]⟩ ⟨3, ![16, 1024, 2048]⟩ 0 4 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.block ⟨3, ![4, 2048, 1024]⟩ ⟨3, ![16, 2048, 1024]⟩ 0 4 c (m' (((0 : Dev Cert.ReferenceIdeal.nD).tc : Thread Cert.ReferenceIdeal.nD Cert.ReferenceIdeal.τ).loc Cert.ReferenceIdeal.main_arg3))) →
    ∃ (v0 : Buf (Elt Ideal) (((0 : Dev Cert.ReferenceIdeal.nD).tc : Thread Cert.ReferenceIdeal.nD Cert.ReferenceIdeal.τ).loc Cert.ReferenceIdeal.main_v53)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![256, 1024]⟩ ⟨2, ![1024, 1024]⟩ 0 4 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v53) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_gates_KernelIdeal : Cert.Pre_finite_gates_KernelIdeal.Facts) (hPre_finite_gates_ReferenceIdeal : Cert.Pre_finite_gates_ReferenceIdeal.Facts),
    quiescent_Kernel (hKernel := hKernel)
    ∧ quiescent_KernelIdeal (hKernelIdeal := hKernelIdeal)
    ∧ quiescent_KernelIdeal_pre_finite_gates_KernelIdeal (hKernelIdeal := hKernelIdeal) (hPre_finite_gates_KernelIdeal := hPre_finite_gates_KernelIdeal)
    ∧ quiescent_ReferenceIdeal (hReferenceIdeal := hReferenceIdeal)
    ∧ quiescent_ReferenceIdeal_pre_finite_gates_ReferenceIdeal (hReferenceIdeal := hReferenceIdeal) (hPre_finite_gates_ReferenceIdeal := hPre_finite_gates_ReferenceIdeal)
    ∧ preserves_Kernel_KernelIdeal
    ∧ algebraic_KernelIdeal_ReferenceIdeal_pre_finite_gates_KernelIdeal (hKernelIdeal := hKernelIdeal) (hReferenceIdeal := hReferenceIdeal) (hPre_finite_gates_KernelIdeal := hPre_finite_gates_KernelIdeal)
-- ==== Pre_finite_gates_KernelIdeal.lean ====
abbrev S256x1024 : Shape := ⟨2, ![256, 1024]⟩
abbrev S1024x4 : Shape := ⟨2, ![1024, 4]⟩
abbrev S4x1024x2048 : Shape := ⟨3, ![4, 1024, 2048]⟩
abbrev S4x2048x1024 : Shape := ⟨3, ![4, 2048, 1024]⟩
abbrev S_ : Shape := ⟨0, ![]⟩

class Facts : Prop where
  bcast_S_S256x1024 : S_.BroadcastsInDim S256x1024 (![] : Fin 0 → Fin S256x1024.rank)
  reducesTo_S256x1024_S_d0_1 : S256x1024.ReducesTo [0, 1] S_
  h_S_ : 0 < S_.numel
  bcast_S_S1024x4 : S_.BroadcastsInDim S1024x4 (![] : Fin 0 → Fin S1024x4.rank)
  reducesTo_S1024x4_S_d0_1 : S1024x4.ReducesTo [0, 1] S_

variable [Facts]

def fn {F : FTy → Type} [FloatOps F] (main_arg0 : FVec F S256x1024 .f32) (main_arg1 : FVec F S1024x4 .f32) (main_arg2 : FVec F S4x1024x2048 .f32) (main_arg3 : FVec F S4x2048x1024 .f32) : IVec S_ 1 :=
  let main_v0 : FVec F S256x1024 .f32 := Host.absf main_arg0
  let main_cst : FVec F S_ .f32 := constant S_ .f32 0x7F800000#32
  let main_v1 : FVec F S256x1024 .f32 := broadcastInDim S256x1024 ![] bcast_S_S256x1024 main_cst
  let main_v2 : IVec S256x1024 1 := cmpf .olt main_v0 main_v1
  let main_c : IVec S_ 1 := constantI S_ 1 1#1
  let main_v3 : IVec S_ 1 := (fun x v => Host.reduce IntOp.andi x v reducesTo_S256x1024_S_d0_1 h_S_) main_v2 main_c
  let main_v4 : FVec F S1024x4 .f32 := Host.absf main_arg1
  let main_cst_0 : FVec F S_ .f32 := constant S_ .f32 0x7F800000#32
  let main_v5 : FVec F S1024x4 .f32 := broadcastInDim S1024x4 ![] bcast_S_S1024x4 main_cst_0
  let main_v6 : IVec S1024x4 1 := cmpf .olt main_v4 main_v5
  let main_c_1 : IVec S_ 1 := constantI S_ 1 1#1
  let main_v7 : IVec S_ 1 := (fun x v => Host.reduce IntOp.andi x v reducesTo_S1024x4_S_d0_1 h_S_) main_v6 main_c_1
  let main_v8 : IVec S_ 1 := andi main_v3 main_v7
  main_v8
-- ==== Pre_finite_gates_ReferenceIdeal.lean ====
abbrev S1024x1024 : Shape := ⟨2, ![1024, 1024]⟩
abbrev S1024x16 : Shape := ⟨2, ![1024, 16]⟩
abbrev S16x1024x2048 : Shape := ⟨3, ![16, 1024, 2048]⟩
abbrev S16x2048x1024 : Shape := ⟨3, ![16, 2048, 1024]⟩
abbrev S_ : Shape := ⟨0, ![]⟩

class Facts : Prop where
  bcast_S_S1024x1024 : S_.BroadcastsInDim S1024x1024 (![] : Fin 0 → Fin S1024x1024.rank)
  reducesTo_S1024x1024_S_d0_1 : S1024x1024.ReducesTo [0, 1] S_
  h_S_ : 0 < S_.numel
  bcast_S_S1024x16 : S_.BroadcastsInDim S1024x16 (![] : Fin 0 → Fin S1024x16.rank)
  reducesTo_S1024x16_S_d0_1 : S1024x16.ReducesTo [0, 1] S_

variable [Facts]

def fn {F : FTy → Type} [FloatOps F] (main_arg0 : FVec F S1024x1024 .f32) (main_arg1 : FVec F S1024x16 .f32) (main_arg2 : FVec F S16x1024x2048 .f32) (main_arg3 : FVec F S16x2048x1024 .f32) : IVec S_ 1 :=
  let main_v0 : FVec F S1024x1024 .f32 := Host.absf main_arg0
  let main_cst : FVec F S_ .f32 := constant S_ .f32 0x7F800000#32
  let main_v1 : FVec F S1024x1024 .f32 := broadcastInDim S1024x1024 ![] bcast_S_S1024x1024 main_cst
  let main_v2 : IVec S1024x1024 1 := cmpf .olt main_v0 main_v1
  let main_c : IVec S_ 1 := constantI S_ 1 1#1
  let main_v3 : IVec S_ 1 := (fun x v => Host.reduce IntOp.andi x v reducesTo_S1024x1024_S_d0_1 h_S_) main_v2 main_c
  let main_v4 : FVec F S1024x16 .f32 := Host.absf main_arg1
  let main_cst_0 : FVec F S_ .f32 := constant S_ .f32 0x7F800000#32
  let main_v5 : FVec F S1024x16 .f32 := broadcastInDim S1024x16 ![] bcast_S_S1024x16 main_cst_0
  let main_v6 : IVec S1024x16 1 := cmpf .olt main_v4 main_v5
  let main_c_1 : IVec S_ 1 := constantI S_ 1 1#1
  let main_v7 : IVec S_ 1 := (fun x v => Host.reduce IntOp.andi x v reducesTo_S1024x16_S_d0_1 h_S_) main_v6 main_c_1
  let main_v8 : IVec S_ 1 := andi main_v3 main_v7
  main_v8
-- ==== Kernel.lean ====
abbrev S256x1024 : Shape := ⟨2, ![256, 1024]⟩
abbrev S1024x4 : Shape := ⟨2, ![1024, 4]⟩
abbrev S4x1024x2048 : Shape := ⟨3, ![4, 1024, 2048]⟩
abbrev S4x2048x1024 : Shape := ⟨3, ![4, 2048, 1024]⟩
abbrev S4x256x1024 : Shape := ⟨3, ![4, 256, 1024]⟩
abbrev S4x1024x4 : Shape := ⟨3, ![4, 1024, 4]⟩
abbrev S4x256x4 : Shape := ⟨3, ![4, 256, 4]⟩
abbrev S2x1024x1024 : Shape := ⟨3, ![2, 1024, 1024]⟩
abbrev S3x256x1024 : Shape := ⟨3, ![3, 256, 1024]⟩
abbrev S3 : Shape := ⟨1, ![3]⟩
abbrev S4 : Shape := ⟨1, ![4]⟩
abbrev S2 : Shape := ⟨1, ![2]⟩
abbrev S1 : Shape := ⟨1, ![1]⟩
abbrev S_ : Shape := ⟨0, ![]⟩
abbrev S1x1024x1024 : Shape := ⟨3, ![1, 1024, 1024]⟩
abbrev S1024x1024 : Shape := ⟨2, ![1024, 1024]⟩
abbrev S1x256x1024 : Shape := ⟨3, ![1, 256, 1024]⟩
abbrev S1x1024x4 : Shape := ⟨3, ![1, 1024, 4]⟩
abbrev S1024x16 : Shape := ⟨2, ![1024, 16]⟩
abbrev S256x16 : Shape := ⟨2, ![256, 16]⟩
abbrev S256 : Shape := ⟨1, ![256]⟩
abbrev S256x1 : Shape := ⟨2, ![256, 1]⟩
abbrev S256x4 : Shape := ⟨2, ![256, 4]⟩
abbrev S1x256x4 : Shape := ⟨3, ![1, 256, 4]⟩
abbrev S1024x1 : Shape := ⟨2, ![1024, 1]⟩

abbrev nBuf : Space → Nat
  | .hbm => 5
  | .vmem => 11
  | .smem => 0
  | _ => 0

abbrev bufTy : (tb : Table) → Fin (tcTables nBuf tb) → BufTy
  | .hbm, ⟨0, _⟩ => ⟨S256x1024, .f32⟩
  | .hbm, ⟨1, _⟩ => ⟨S1024x4, .f32⟩
  | .hbm, ⟨2, _⟩ => ⟨S4x1024x2048, .f32⟩
  | .hbm, ⟨3, _⟩ => ⟨S4x2048x1024, .f32⟩
  | .hbm, ⟨4, _⟩ => ⟨S256x1024, .f32⟩
  | .local _ .vmem, ⟨0, _⟩ => ⟨S256x1024, .f32⟩
  | .local _ .vmem, ⟨1, _⟩ => ⟨S1024x4, .f32⟩
  | .local _ .vmem, ⟨2, _⟩ => ⟨S256x1024, .f32⟩
  | .local _ .vmem, ⟨3, _⟩ => ⟨S4x256x1024, .bf16⟩
  | .local _ .vmem, ⟨4, _⟩ => ⟨S4x1024x4, .f32⟩
  | .local _ .vmem, ⟨5, _⟩ => ⟨S4x256x4, .f32⟩
  | .local _ .vmem, ⟨6, _⟩ => ⟨S2x1024x1024, .f32⟩
  | .local _ .vmem, ⟨7, _⟩ => ⟨S2x1024x1024, .f32⟩
  | .local _ .vmem, ⟨8, _⟩ => ⟨S4x256x1024, .f32⟩
  | .local _ .vmem, ⟨9, _⟩ => ⟨S3x256x1024, .bf16⟩
  | .local _ .vmem, ⟨10, _⟩ => ⟨S4x256x1024, .bf16⟩
  | _, _ => ⟨S256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 1 → Bool
  | ⟨0, _⟩ => false
  | _ => false

abbrev dmaSemScoped : Fin 35 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | _ => false

abbrev sig : RefSig :=
  (ofTc nBuf bufTy 1 35 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc0_scratch1 : Ref sig .tc := ⟨.vmem, 4, rfl⟩
abbrev cc0_scratch2 : Ref sig .tc := ⟨.vmem, 5, rfl⟩
abbrev cc0_scratch3 : Ref sig .tc := ⟨.vmem, 6, rfl⟩
abbrev cc0_scratch4 : Ref sig .tc := ⟨.vmem, 7, rfl⟩
abbrev cc0_scratch5 : Ref sig .tc := ⟨.vmem, 8, rfl⟩
abbrev cc0_scratch6 : Ref sig .tc := ⟨.vmem, 9, rfl⟩
abbrev cc0_scratch7 : Ref sig .tc := ⟨.vmem, 10, rfl⟩
abbrev cc0_sem0_0 : DmaSem sig := 0
abbrev cc0_sem1_0 : DmaSem sig := 1
abbrev cc0_sem2_0 : DmaSem sig := 2
abbrev barrier0 : Sem sig := 0

abbrev nD : Nat := 4
abbrev τ : Topo := Topo.v7x

variable {F : FTy → Type} [FloatOps F]

abbrev grid0 : Pipeline.Grid := .none

def k0_off1 (d0 : Dev nD) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v31 : Index := Scalar.indexCast v2
  let c0_27 : Index := 0#32
  let c0_28 : Index := 0#32
  ![v31.toNat, 0, 0]
def k0_off2 (d0 : Dev nD) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v38 : Index := Scalar.indexCast v2
  let c0_31 : Index := 0#32
  let c0_32 : Index := 0#32
  ![v38.toNat, 0, 0]
def k0_dev1 (d0 : Dev nD) : Nat :=
  let c0_i32_37 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_33 : BitVec 32 := 1#32
  let v43 : BitVec 32 := Scalar.addi v2 c1_i32_33
  let c4_i32_34 : BitVec 32 := 4#32
  let v44 : BitVec 32 := Scalar.remsi v43 c4_i32_34
  let c1_i32_36 : BitVec 32 := 1#32
  let v45 : BitVec 32 := Scalar.muli v44 c1_i32_36
  let v46 : BitVec 32 := Scalar.addi c0_i32_37 v45
  v46.toNat
def k0_dev2 (d0 : Dev nD) : Nat :=
  let c0_i32_41 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let v47 : BitVec 32 := Scalar.addi v2 c2_i32
  let c4_i32_38 : BitVec 32 := 4#32
  let v48 : BitVec 32 := Scalar.remsi v47 c4_i32_38
  let c1_i32_40 : BitVec 32 := 1#32
  let v49 : BitVec 32 := Scalar.muli v48 c1_i32_40
  let v50 : BitVec 32 := Scalar.addi c0_i32_41 v49
  v50.toNat
def k0_dev3 (d0 : Dev nD) : Nat :=
  let c0_i32_45 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v51 : BitVec 32 := Scalar.addi v2 c3_i32
  let c4_i32_42 : BitVec 32 := 4#32
  let v52 : BitVec 32 := Scalar.remsi v51 c4_i32_42
  let c1_i32_44 : BitVec 32 := 1#32
  let v53 : BitVec 32 := Scalar.muli v52 c1_i32_44
  let v54 : BitVec 32 := Scalar.addi c0_i32_45 v53
  v54.toNat
def k0_off3 (d0 : Dev nD) : Fin 1 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  ![v2.toNat]
def k0_off4 (d0 : Dev nD) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_52 : BitVec 32 := 0#32
  let c0_i32_53 : BitVec 32 := 0#32
  ![v2.toNat, 0, 0]
def k0_dev4 (d0 : Dev nD) : Nat :=
  let c0_i32_51 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_47 : BitVec 32 := 1#32
  let v55 : BitVec 32 := Scalar.addi v2 c1_i32_47
  let c4_i32_48 : BitVec 32 := 4#32
  let v56 : BitVec 32 := Scalar.remsi v55 c4_i32_48
  let c1_i32_50 : BitVec 32 := 1#32
  let v57 : BitVec 32 := Scalar.muli v56 c1_i32_50
  let v58 : BitVec 32 := Scalar.addi c0_i32_51 v57
  v58.toNat
def k0_off5 (d0 : Dev nD) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_59 : BitVec 32 := 0#32
  let c0_i32_60 : BitVec 32 := 0#32
  ![v2.toNat, 0, 0]
def k0_dev5 (d0 : Dev nD) : Nat :=
  let c0_i32_58 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_47 : BitVec 32 := 1#32
  let v55 : BitVec 32 := Scalar.addi v2 c1_i32_47
  let c4_i32_48 : BitVec 32 := 4#32
  let v56 : BitVec 32 := Scalar.remsi v55 c4_i32_48
  let c1_i32_57 : BitVec 32 := 1#32
  let v67 : BitVec 32 := Scalar.muli v56 c1_i32_57
  let v68 : BitVec 32 := Scalar.addi c0_i32_58 v67
  v68.toNat
def k0_dev6 (d0 : Dev nD) : Nat :=
  let c0_i32_67 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_63 : BitVec 32 := 2#32
  let v77 : BitVec 32 := Scalar.addi v2 c2_i32_63
  let c4_i32_64 : BitVec 32 := 4#32
  let v78 : BitVec 32 := Scalar.remsi v77 c4_i32_64
  let c1_i32_66 : BitVec 32 := 1#32
  let v79 : BitVec 32 := Scalar.muli v78 c1_i32_66
  let v80 : BitVec 32 := Scalar.addi c0_i32_67 v79
  v80.toNat
def k0_dev7 (d0 : Dev nD) : Nat :=
  let c0_i32_74 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_63 : BitVec 32 := 2#32
  let v77 : BitVec 32 := Scalar.addi v2 c2_i32_63
  let c4_i32_64 : BitVec 32 := 4#32
  let v78 : BitVec 32 := Scalar.remsi v77 c4_i32_64
  let c1_i32_73 : BitVec 32 := 1#32
  let v89 : BitVec 32 := Scalar.muli v78 c1_i32_73
  let v90 : BitVec 32 := Scalar.addi c0_i32_74 v89
  v90.toNat
def k0_dev8 (d0 : Dev nD) : Nat :=
  let c0_i32_83 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_79 : BitVec 32 := 3#32
  let v99 : BitVec 32 := Scalar.addi v2 c3_i32_79
  let c4_i32_80 : BitVec 32 := 4#32
  let v100 : BitVec 32 := Scalar.remsi v99 c4_i32_80
  let c1_i32_82 : BitVec 32 := 1#32
  let v101 : BitVec 32 := Scalar.muli v100 c1_i32_82
  let v102 : BitVec 32 := Scalar.addi c0_i32_83 v101
  v102.toNat
def k0_dev9 (d0 : Dev nD) : Nat :=
  let c0_i32_90 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_79 : BitVec 32 := 3#32
  let v99 : BitVec 32 := Scalar.addi v2 c3_i32_79
  let c4_i32_80 : BitVec 32 := 4#32
  let v100 : BitVec 32 := Scalar.remsi v99 c4_i32_80
  let c1_i32_89 : BitVec 32 := 1#32
  let v111 : BitVec 32 := Scalar.muli v100 c1_i32_89
  let v112 : BitVec 32 := Scalar.addi c0_i32_90 v111
  v112.toNat
def k0_off6 (d0 : Dev nD) (c1_i32_95 : BitVec 32) : Fin 1 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v121 : BitVec 32 := Scalar.addi v2 c1_i32_95
  let c4_i32_96 : BitVec 32 := 4#32
  let v122 : BitVec 32 := Scalar.remsi v121 c4_i32_96
  ![v122.toNat]
def k0_off7 (d0 : Dev nD) (c1_i32_95 : BitVec 32) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v121 : BitVec 32 := Scalar.addi v2 c1_i32_95
  let c4_i32_96 : BitVec 32 := 4#32
  let v122 : BitVec 32 := Scalar.remsi v121 c4_i32_96
  let c0_i32_100 : BitVec 32 := 0#32
  let c0_i32_101 : BitVec 32 := 0#32
  ![v122.toNat, 0, 0]
def k0_off8 (d0 : Dev nD) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v197 : Index := Scalar.indexCast v2
  let c0_142 : Index := 0#32
  let c0_143 : Index := 0#32
  ![v197.toNat, 0, 0]
def k0_off9 (d0 : Dev nD) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_149 : BitVec 32 := 0#32
  let c0_i32_150 : BitVec 32 := 0#32
  ![v2.toNat, 0, 0]
def k0_dev10 (d0 : Dev nD) : Nat :=
  let c0_i32_148 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_144 : BitVec 32 := 1#32
  let v201 : BitVec 32 := Scalar.addi v2 c1_i32_144
  let c4_i32_145 : BitVec 32 := 4#32
  let v202 : BitVec 32 := Scalar.remsi v201 c4_i32_145
  let c1_i32_147 : BitVec 32 := 1#32
  let v203 : BitVec 32 := Scalar.muli v202 c1_i32_147
  let v204 : BitVec 32 := Scalar.addi c0_i32_148 v203
  v204.toNat
def k0_dev11 (d0 : Dev nD) : Nat :=
  let c0_i32_157 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_153 : BitVec 32 := 2#32
  let v213 : BitVec 32 := Scalar.addi v2 c2_i32_153
  let c4_i32_154 : BitVec 32 := 4#32
  let v214 : BitVec 32 := Scalar.remsi v213 c4_i32_154
  let c1_i32_156 : BitVec 32 := 1#32
  let v215 : BitVec 32 := Scalar.muli v214 c1_i32_156
  let v216 : BitVec 32 := Scalar.addi c0_i32_157 v215
  v216.toNat
def k0_dev12 (d0 : Dev nD) : Nat :=
  let c0_i32_166 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_162 : BitVec 32 := 3#32
  let v225 : BitVec 32 := Scalar.addi v2 c3_i32_162
  let c4_i32_163 : BitVec 32 := 4#32
  let v226 : BitVec 32 := Scalar.remsi v225 c4_i32_163
  let c1_i32_165 : BitVec 32 := 1#32
  let v227 : BitVec 32 := Scalar.muli v226 c1_i32_165
  let v228 : BitVec 32 := Scalar.addi c0_i32_166 v227
  v228.toNat
def k0_off10 (d0 : Dev nD) (c1_i32_171 : BitVec 32) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v237 : BitVec 32 := Scalar.addi v2 c1_i32_171
  let c4_i32_172 : BitVec 32 := 4#32
  let v238 : BitVec 32 := Scalar.remsi v237 c4_i32_172
  let c0_i32_176 : BitVec 32 := 0#32
  let c0_i32_177 : BitVec 32 := 0#32
  ![v238.toNat, 0, 0]
def k0_off11 (d0 : Dev nD) (c1_i32_171 : BitVec 32) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v237 : BitVec 32 := Scalar.addi v2 c1_i32_171
  let c4_i32_172 : BitVec 32 := 4#32
  let v238 : BitVec 32 := Scalar.remsi v237 c4_i32_172
  let c0_i32_183 : BitVec 32 := 0#32
  let c0_i32_184 : BitVec 32 := 0#32
  ![v238.toNat, 0, 0]
def k0_off12 (d0 : Dev nD) (c1_i32_529 : BitVec 32) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v657 : BitVec 32 := Scalar.addi v2 c1_i32_529
  let c4_i32_530 : BitVec 32 := 4#32
  let v658 : BitVec 32 := Scalar.remsi v657 c4_i32_530
  let v659 : Index := Scalar.indexCast v658
  let c0_531 : Index := 0#32
  let c0_532 : Index := 0#32
  ![v659.toNat, 0, 0]
def k0_dev13 (d0 : Dev nD) : Nat :=
  let c0_i32_539 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_529 : BitVec 32 := 1#32
  let v657 : BitVec 32 := Scalar.addi v2 c1_i32_529
  let c4_i32_530 : BitVec 32 := 4#32
  let v658 : BitVec 32 := Scalar.remsi v657 c4_i32_530
  let c1_i32_538 : BitVec 32 := 1#32
  let v665 : BitVec 32 := Scalar.muli v658 c1_i32_538
  let v666 : BitVec 32 := Scalar.addi c0_i32_539 v665
  v666.toNat
def k0_dev14 (d0 : Dev nD) : Nat :=
  let c0_i32_554 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_544 : BitVec 32 := 2#32
  let v675 : BitVec 32 := Scalar.addi v2 c2_i32_544
  let c4_i32_545 : BitVec 32 := 4#32
  let v676 : BitVec 32 := Scalar.remsi v675 c4_i32_545
  let c1_i32_553 : BitVec 32 := 1#32
  let v683 : BitVec 32 := Scalar.muli v676 c1_i32_553
  let v684 : BitVec 32 := Scalar.addi c0_i32_554 v683
  v684.toNat
def k0_dev15 (d0 : Dev nD) : Nat :=
  let c0_i32_569 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_559 : BitVec 32 := 3#32
  let v693 : BitVec 32 := Scalar.addi v2 c3_i32_559
  let c4_i32_560 : BitVec 32 := 4#32
  let v694 : BitVec 32 := Scalar.remsi v693 c4_i32_560
  let c1_i32_568 : BitVec 32 := 1#32
  let v701 : BitVec 32 := Scalar.muli v694 c1_i32_568
  let v702 : BitVec 32 := Scalar.addi c0_i32_569 v701
  v702.toNat
abbrev stage0_0 : Fin 1 → Memref sig .tc .vmem S256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x4 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S256x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== ReferenceIdeal.lean ====
abbrev S1024x1024 : Shape := ⟨2, ![1024, 1024]⟩
abbrev S1024x16 : Shape := ⟨2, ![1024, 16]⟩
abbrev S16x1024x2048 : Shape := ⟨3, ![16, 1024, 2048]⟩
abbrev S16x2048x1024 : Shape := ⟨3, ![16, 2048, 1024]⟩
abbrev S1024x2 : Shape := ⟨2, ![1024, 2]⟩
abbrev S_ : Shape := ⟨0, ![]⟩
abbrev S1024x2x1 : Shape := ⟨3, ![1024, 2, 1]⟩
abbrev S1 : Shape := ⟨1, ![1]⟩
abbrev S1x1x1 : Shape := ⟨3, ![1, 1, 1]⟩
abbrev S1024 : Shape := ⟨1, ![1024]⟩
abbrev S1024x1 : Shape := ⟨2, ![1024, 1]⟩
abbrev S16x1024x1024 : Shape := ⟨3, ![16, 1024, 1024]⟩
abbrev S1x1024 : Shape := ⟨2, ![1, 1024]⟩
abbrev S16 : Shape := ⟨1, ![16]⟩
abbrev S16x1 : Shape := ⟨2, ![16, 1]⟩
abbrev S16x1024 : Shape := ⟨2, ![16, 1024]⟩
abbrev S16x1024x1 : Shape := ⟨3, ![16, 1024, 1]⟩
abbrev S1x1024x1 : Shape := ⟨3, ![1, 1024, 1]⟩

abbrev nBuf : Space → Nat
  | .hbm => 95
  | .vmem => 0
  | .smem => 0
  | _ => 0

abbrev bufTy : (tb : Table) → Fin (tcTables nBuf tb) → BufTy
  | .hbm, ⟨0, _⟩ => ⟨S1024x1024, .f32⟩
  | .hbm, ⟨1, _⟩ => ⟨S1024x16, .f32⟩
  | .hbm, ⟨2, _⟩ => ⟨S16x1024x2048, .f32⟩
  | .hbm, ⟨3, _⟩ => ⟨S16x2048x1024, .f32⟩
  | .hbm, ⟨4, _⟩ => ⟨S1024x16, .f32⟩
  | .hbm, ⟨5, _⟩ => ⟨S1024x16, .f32⟩
  | .hbm, ⟨6, _⟩ => ⟨S1024x16, .i32⟩
  | .hbm, ⟨7, _⟩ => ⟨S1024x16, .f32⟩
  | .hbm, ⟨8, _⟩ => ⟨S1024x16, .i32⟩
  | .hbm, ⟨9, _⟩ => ⟨S1024x2, .i32⟩
  | .hbm, ⟨10, _⟩ => ⟨S_, .i32⟩
  | .hbm, ⟨11, _⟩ => ⟨S1024x2, .i32⟩
  | .hbm, ⟨12, _⟩ => ⟨S1024x2, .i1⟩
  | .hbm, ⟨13, _⟩ => ⟨S_, .i32⟩
  | .hbm, ⟨14, _⟩ => ⟨S1024x2, .i32⟩
  | .hbm, ⟨15, _⟩ => ⟨S1024x2, .i32⟩
  | .hbm, ⟨16, _⟩ => ⟨S1024x2, .i32⟩
  | .hbm, ⟨17, _⟩ => ⟨S1024x2x1, .i32⟩
  | .hbm, ⟨18, _⟩ => ⟨S1, .i32⟩
  | .hbm, ⟨19, _⟩ => ⟨S_, .i32⟩
  | .hbm, ⟨20, _⟩ => ⟨S1024x2x1, .i32⟩
  | .hbm, ⟨21, _⟩ => ⟨S1024x2x1, .i1⟩
  | .hbm, ⟨22, _⟩ => ⟨S1x1x1, .i32⟩
  | .hbm, ⟨23, _⟩ => ⟨S1024x2x1, .i32⟩
  | .hbm, ⟨24, _⟩ => ⟨S1024x2x1, .i1⟩
  | .hbm, ⟨25, _⟩ => ⟨S1024x2x1, .i1⟩
  | .hbm, ⟨26, _⟩ => ⟨S_, .i1⟩
  | .hbm, ⟨27, _⟩ => ⟨S1024x2, .i1⟩
  | .hbm, ⟨28, _⟩ => ⟨S1024x2, .f32⟩
  | .hbm, ⟨29, _⟩ => ⟨S_, .f32⟩
  | .hbm, ⟨30, _⟩ => ⟨S1024x2, .f32⟩
  | .hbm, ⟨31, _⟩ => ⟨S1024x2, .f32⟩
  | .hbm, ⟨32, _⟩ => ⟨S_, .f32⟩
  | .hbm, ⟨33, _⟩ => ⟨S1024, .f32⟩
  | .hbm, ⟨34, _⟩ => ⟨S1024x1, .f32⟩
  | .hbm, ⟨35, _⟩ => ⟨S1024x2, .f32⟩
  | .hbm, ⟨36, _⟩ => ⟨S1024x2, .f32⟩
  | .hbm, ⟨37, _⟩ => ⟨S1024x2, .f32⟩
  | .hbm, ⟨38, _⟩ => ⟨S_, .f32⟩
  | .hbm, ⟨39, _⟩ => ⟨S1024, .f32⟩
  | .hbm, ⟨40, _⟩ => ⟨S1024x1, .f32⟩
  | .hbm, ⟨41, _⟩ => ⟨S1024x2, .f32⟩
  | .hbm, ⟨42, _⟩ => ⟨S1024x2, .f32⟩
  | .hbm, ⟨43, _⟩ => ⟨S16x2048x1024, .f32⟩
  | .hbm, ⟨44, _⟩ => ⟨S16x1024x2048, .f32⟩
  | .hbm, ⟨45, _⟩ => ⟨S_, .f32⟩
  | .hbm, ⟨46, _⟩ => ⟨S16x1024x2048, .f32⟩
  | .hbm, ⟨47, _⟩ => ⟨S16x1024x2048, .f32⟩
  | .hbm, ⟨48, _⟩ => ⟨S16x1024x1024, .f32⟩
  | .hbm, ⟨49, _⟩ => ⟨S_, .f32⟩
  | .hbm, ⟨50, _⟩ => ⟨S1024x1024, .f32⟩
  | .hbm, ⟨51, _⟩ => ⟨S1024x1, .i32⟩
  | .hbm, ⟨52, _⟩ => ⟨S1024, .i32⟩
  | .hbm, ⟨53, _⟩ => ⟨S1x1024, .i32⟩
  | .hbm, ⟨54, _⟩ => ⟨S16, .i32⟩
  | .hbm, ⟨55, _⟩ => ⟨S16x1, .i32⟩
  | .hbm, ⟨56, _⟩ => ⟨S16x1024, .i32⟩
  | .hbm, ⟨57, _⟩ => ⟨S16x1024, .i32⟩
  | .hbm, ⟨58, _⟩ => ⟨S16x1024, .i1⟩
  | .hbm, ⟨59, _⟩ => ⟨S16x1024x1, .i1⟩
  | .hbm, ⟨60, _⟩ => ⟨S1024x1, .f32⟩
  | .hbm, ⟨61, _⟩ => ⟨S1024, .f32⟩
  | .hbm, ⟨62, _⟩ => ⟨S1x1024x1, .f32⟩
  | .hbm, ⟨63, _⟩ => ⟨S16x1024x1024, .f32⟩
  | .hbm, ⟨64, _⟩ => ⟨S16x1024x1024, .f32⟩
  | .hbm, ⟨65, _⟩ => ⟨S_, .f32⟩
  | .hbm, ⟨66, _⟩ => ⟨S_, .f32⟩
  | .hbm, ⟨67, _⟩ => ⟨S16x1024x1024, .i1⟩
  | .hbm, ⟨68, _⟩ => ⟨S16x1024x1024, .f32⟩
  | .hbm, ⟨69, _⟩ => ⟨S16x1024x1024, .f32⟩
  | .hbm, ⟨70, _⟩ => ⟨S_, .f32⟩
  | .hbm, ⟨71, _⟩ => ⟨S1024x1024, .f32⟩
  | .hbm, ⟨72, _⟩ => ⟨S1024x1024, .f32⟩
  | .hbm, ⟨73, _⟩ => ⟨S1024x1, .i32⟩
  | .hbm, ⟨74, _⟩ => ⟨S1024, .i32⟩
  | .hbm, ⟨75, _⟩ => ⟨S1x1024, .i32⟩
  | .hbm, ⟨76, _⟩ => ⟨S16, .i32⟩
  | .hbm, ⟨77, _⟩ => ⟨S16x1, .i32⟩
  | .hbm, ⟨78, _⟩ => ⟨S16x1024, .i32⟩
  | .hbm, ⟨79, _⟩ => ⟨S16x1024, .i32⟩
  | .hbm, ⟨80, _⟩ => ⟨S16x1024, .i1⟩
  | .hbm, ⟨81, _⟩ => ⟨S16x1024x1, .i1⟩
  | .hbm, ⟨82, _⟩ => ⟨S1024x1, .f32⟩
  | .hbm, ⟨83, _⟩ => ⟨S1024, .f32⟩
  | .hbm, ⟨84, _⟩ => ⟨S1x1024x1, .f32⟩
  | .hbm, ⟨85, _⟩ => ⟨S16x1024x1024, .f32⟩
  | .hbm, ⟨86, _⟩ => ⟨S16x1024x1024, .f32⟩
  | .hbm, ⟨87, _⟩ => ⟨S_, .f32⟩
  | .hbm, ⟨88, _⟩ => ⟨S_, .f32⟩
  | .hbm, ⟨89, _⟩ => ⟨S16x1024x1024, .i1⟩
  | .hbm, ⟨90, _⟩ => ⟨S16x1024x1024, .f32⟩
  | .hbm, ⟨91, _⟩ => ⟨S16x1024x1024, .f32⟩
  | .hbm, ⟨92, _⟩ => ⟨S_, .f32⟩
  | .hbm, ⟨93, _⟩ => ⟨S1024x1024, .f32⟩
  | .hbm, ⟨94, _⟩ => ⟨S1024x1024, .f32⟩
  | _, _ => ⟨S1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_call0_v0 : Ref sig .tc := ⟨.hbm, 6, rfl⟩
abbrev main_call0_v1_0 : Ref sig .tc := ⟨.hbm, 7, rfl⟩
abbrev main_v2 : Ref sig .tc := ⟨.hbm, 8, rfl⟩
abbrev main_v3 : Ref sig .tc := ⟨.hbm, 9, rfl⟩
abbrev main_call1_c : Ref sig .tc := ⟨.hbm, 10, rfl⟩
abbrev main_call1_v0 : Ref sig .tc := ⟨.hbm, 11, rfl⟩
abbrev main_call1_v1 : Ref sig .tc := ⟨.hbm, 12, rfl⟩
abbrev main_call1_c_0 : Ref sig .tc := ⟨.hbm, 13, rfl⟩
abbrev main_call1_v2 : Ref sig .tc := ⟨.hbm, 14, rfl⟩
abbrev main_call1_v3 : Ref sig .tc := ⟨.hbm, 15, rfl⟩
abbrev main_call1_v4 : Ref sig .tc := ⟨.hbm, 16, rfl⟩
abbrev main_call1_v5 : Ref sig .tc := ⟨.hbm, 17, rfl⟩
abbrev main_call1_c_1 : Ref sig .tc := ⟨.hbm, 18, rfl⟩
abbrev main_call1_c_2 : Ref sig .tc := ⟨.hbm, 19, rfl⟩
abbrev main_call1_v6 : Ref sig .tc := ⟨.hbm, 20, rfl⟩
abbrev main_call1_v7 : Ref sig .tc := ⟨.hbm, 21, rfl⟩
abbrev main_call1_v8 : Ref sig .tc := ⟨.hbm, 22, rfl⟩
abbrev main_call1_v9 : Ref sig .tc := ⟨.hbm, 23, rfl⟩
abbrev main_call1_v10 : Ref sig .tc := ⟨.hbm, 24, rfl⟩
abbrev main_call1_v11 : Ref sig .tc := ⟨.hbm, 25, rfl⟩
abbrev main_call1_c_3 : Ref sig .tc := ⟨.hbm, 26, rfl⟩
abbrev main_call1_v12 : Ref sig .tc := ⟨.hbm, 27, rfl⟩
abbrev main_call1_v13 : Ref sig .tc := ⟨.hbm, 28, rfl⟩
abbrev main_call1_cst : Ref sig .tc := ⟨.hbm, 29, rfl⟩
abbrev main_call1_v14 : Ref sig .tc := ⟨.hbm, 30, rfl⟩
abbrev main_v4 : Ref sig .tc := ⟨.hbm, 31, rfl⟩
abbrev main_cst : Ref sig .tc := ⟨.hbm, 32, rfl⟩
abbrev main_v5 : Ref sig .tc := ⟨.hbm, 33, rfl⟩
abbrev main_v6 : Ref sig .tc := ⟨.hbm, 34, rfl⟩
abbrev main_v7 : Ref sig .tc := ⟨.hbm, 35, rfl⟩
abbrev main_v8 : Ref sig .tc := ⟨.hbm, 36, rfl⟩
abbrev main_v9 : Ref sig .tc := ⟨.hbm, 37, rfl⟩
abbrev main_cst_0 : Ref sig .tc := ⟨.hbm, 38, rfl⟩
abbrev main_v10 : Ref sig .tc := ⟨.hbm, 39, rfl⟩
abbrev main_v11 : Ref sig .tc := ⟨.hbm, 40, rfl⟩
abbrev main_v12 : Ref sig .tc := ⟨.hbm, 41, rfl⟩
abbrev main_v13 : Ref sig .tc := ⟨.hbm, 42, rfl⟩
abbrev main_v14 : Ref sig .tc := ⟨.hbm, 43, rfl⟩
abbrev main_v15 : Ref sig .tc := ⟨.hbm, 44, rfl⟩
abbrev main_cst_1 : Ref sig .tc := ⟨.hbm, 45, rfl⟩
abbrev main_v16 : Ref sig .tc := ⟨.hbm, 46, rfl⟩
abbrev main_v17 : Ref sig .tc := ⟨.hbm, 47, rfl⟩
abbrev main_v18 : Ref sig .tc := ⟨.hbm, 48, rfl⟩
abbrev main_cst_2 : Ref sig .tc := ⟨.hbm, 49, rfl⟩
abbrev main_v19 : Ref sig .tc := ⟨.hbm, 50, rfl⟩
abbrev main_v20 : Ref sig .tc := ⟨.hbm, 51, rfl⟩
abbrev main_v21 : Ref sig .tc := ⟨.hbm, 52, rfl⟩
abbrev main_v22 : Ref sig .tc := ⟨.hbm, 53, rfl⟩
abbrev main_v23 : Ref sig .tc := ⟨.hbm, 54, rfl⟩
abbrev main_v24 : Ref sig .tc := ⟨.hbm, 55, rfl⟩
abbrev main_v25 : Ref sig .tc := ⟨.hbm, 56, rfl⟩
abbrev main_v26 : Ref sig .tc := ⟨.hbm, 57, rfl⟩
abbrev main_v27 : Ref sig .tc := ⟨.hbm, 58, rfl⟩
abbrev main_v28 : Ref sig .tc := ⟨.hbm, 59, rfl⟩
abbrev main_v29 : Ref sig .tc := ⟨.hbm, 60, rfl⟩
abbrev main_v30 : Ref sig .tc := ⟨.hbm, 61, rfl⟩
abbrev main_v31 : Ref sig .tc := ⟨.hbm, 62, rfl⟩
abbrev main_v32 : Ref sig .tc := ⟨.hbm, 63, rfl⟩
abbrev main_v33 : Ref sig .tc := ⟨.hbm, 64, rfl⟩
abbrev main_cst_3 : Ref sig .tc := ⟨.hbm, 65, rfl⟩
abbrev main_call2_v0 : Ref sig .tc := ⟨.hbm, 66, rfl⟩
abbrev main_call2_v1 : Ref sig .tc := ⟨.hbm, 67, rfl⟩
abbrev main_call2_v2 : Ref sig .tc := ⟨.hbm, 68, rfl⟩
abbrev main_v34 : Ref sig .tc := ⟨.hbm, 69, rfl⟩
abbrev main_cst_4 : Ref sig .tc := ⟨.hbm, 70, rfl⟩
abbrev main_v35 : Ref sig .tc := ⟨.hbm, 71, rfl⟩
abbrev main_v36 : Ref sig .tc := ⟨.hbm, 72, rfl⟩
abbrev main_v37 : Ref sig .tc := ⟨.hbm, 73, rfl⟩
abbrev main_v38 : Ref sig .tc := ⟨.hbm, 74, rfl⟩
abbrev main_v39 : Ref sig .tc := ⟨.hbm, 75, rfl⟩
abbrev main_v40 : Ref sig .tc := ⟨.hbm, 76, rfl⟩
abbrev main_v41 : Ref sig .tc := ⟨.hbm, 77, rfl⟩
abbrev main_v42 : Ref sig .tc := ⟨.hbm, 78, rfl⟩
abbrev main_v43 : Ref sig .tc := ⟨.hbm, 79, rfl⟩
abbrev main_v44 : Ref sig .tc := ⟨.hbm, 80, rfl⟩
abbrev main_v45 : Ref sig .tc := ⟨.hbm, 81, rfl⟩
abbrev main_v46 : Ref sig .tc := ⟨.hbm, 82, rfl⟩
abbrev main_v47 : Ref sig .tc := ⟨.hbm, 83, rfl⟩
abbrev main_v48 : Ref sig .tc := ⟨.hbm, 84, rfl⟩
abbrev main_v49 : Ref sig .tc := ⟨.hbm, 85, rfl⟩
abbrev main_v50 : Ref sig .tc := ⟨.hbm, 86, rfl⟩
abbrev main_cst_5 : Ref sig .tc := ⟨.hbm, 87, rfl⟩
abbrev main_call3_v0 : Ref sig .tc := ⟨.hbm, 88, rfl⟩
abbrev main_call3_v1 : Ref sig .tc := ⟨.hbm, 89, rfl⟩
abbrev main_call3_v2 : Ref sig .tc := ⟨.hbm, 90, rfl⟩
abbrev main_v51 : Ref sig .tc := ⟨.hbm, 91, rfl⟩
abbrev main_cst_6 : Ref sig .tc := ⟨.hbm, 92, rfl⟩
abbrev main_v52 : Ref sig .tc := ⟨.hbm, 93, rfl⟩
abbrev main_v53 : Ref sig .tc := ⟨.hbm, 94, rfl⟩

abbrev nD : Nat := 1
abbrev τ : Topo := Topo.v7x

variable {F : FTy → Type} [FloatOps F]
-- ==== Proof.Slots.lean ====
/-
# Slots of a stacked buffer

A scratch buffer of shape `n × a × b` is used slot by slot: slot `j` is the plane at leading
coordinate `j`. This module names the plane (`slotSet`), the placing of a plane's index into the
buffer (`inSlot`), the contents built from one plane per slot (`stack`) and the plane read back
out of a buffer (`plane`), and relates the views a program forms (a one-plane rectangle, squeezed
or not) to them.
-/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import Idealize.ShloMosaic.Lib.Pipeline.Launch
public import Idealize.ShloMosaic.Lib.Pipeline.Kit
public import Idealize.ShloMosaic.Lib.Tactic

@[expose] public section

noncomputable section

namespace Cert.MoE

open Idealize.ShloMosaic Idealize.SL.Sem

/-- The shape of `n` planes of `a × b`. -/
abbrev S3 (n a b : ℕ) : Shape := ⟨3, ![n, a, b]⟩

/-- The index of a buffer of planes from its three coordinates. -/
def ix3 {n a b : ℕ} (i : Fin n) (j : Fin a) (k : Fin b) : (S3 n a b).Idx := Fin.cons i (Fin.cons j (Fin.cons k finZeroElim))

theorem ix3_eta {n a b : ℕ} (x : (S3 n a b).Idx) : ix3 (x 0) (x 1) (x 2) = x := by
  funext d; fin_cases d <;> rfl

theorem idx3_ext {n a b : ℕ} {x y : (S3 n a b).Idx} (h0 : (x 0).val = (y 0).val) (h1 : (x 1).val = (y 1).val) (h2 : (x 2).val = (y 2).val) : x = y := by
  funext d
  fin_cases d
  · exact Fin.ext h0
  · exact Fin.ext h1
  · exact Fin.ext h2

/-- A plane's index, placed in slot `j`. -/
def inSlot {n a b : ℕ} (j : Fin n) (y : (S3 1 a b).Idx) : (S3 n a b).Idx := ix3 j (y 1) (y 2)

/-- An index of the buffer, read as an index of its plane. -/
def offSlot {n a b : ℕ} (x : (S3 n a b).Idx) : (S3 1 a b).Idx := ix3 0 (x 1) (x 2)

theorem offSlot_inSlot {n a b : ℕ} (j : Fin n) (y : (S3 1 a b).Idx) : offSlot (inSlot j y) = y :=
  idx3_ext (by show 0 = (y 0).val; have := (y 0).isLt; change (y 0).val < 1 at this; omega) rfl rfl

theorem inSlot_offSlot {n a b : ℕ} (x : (S3 n a b).Idx) : inSlot (x 0) (offSlot x) = x := idx3_ext rfl rfl rfl

/-- The elements of slot `j`. -/
def slotSet (n a b : ℕ) (j : Fin n) : Finset (S3 n a b).Idx := Finset.univ.filter fun x => (x 0).val = j.val

theorem mem_slotSet {n a b : ℕ} {j : Fin n} {x : (S3 n a b).Idx} : x ∈ slotSet n a b j ↔ (x 0).val = j.val := by simp [slotSet]

/-- A buffer's contents from one plane per slot. -/
def stack {n a b : ℕ} {α : Type} (V : Fin n → (S3 1 a b).Idx → α) : (S3 n a b).Idx → α := fun x => V (x 0) (offSlot x)

/-- The plane in slot `j` of a buffer. -/
def plane {n a b : ℕ} {α : Type} (f : (S3 n a b).Idx → α) (j : Fin n) : (S3 1 a b).Idx → α := fun y => f (inSlot j y)

theorem plane_stack {n a b : ℕ} {α : Type} (V : Fin n → (S3 1 a b).Idx → α) (j : Fin n) : plane (stack V) j = V j :=
  funext fun y => congrArg (V j) (offSlot_inSlot j y)

theorem slotSet_disjoint {n a b : ℕ} {j j' : Fin n} (h : j ≠ j') : Disjoint (slotSet n a b j) (slotSet n a b j') :=
  Finset.disjoint_left.mpr fun _ hx hx' => h (Fin.ext ((mem_slotSet.mp hx).symm.trans (mem_slotSet.mp hx')))

theorem biUnion_slotSet (n a b : ℕ) : Finset.univ.biUnion (slotSet n a b) = Finset.univ :=
  Finset.eq_univ_iff_forall.mpr fun x => Finset.mem_biUnion.mpr ⟨x 0, Finset.mem_univ _, mem_slotSet.mpr rfl⟩

/-! ## The one-plane rectangles -/

/-- Where a one-plane rectangle at offset `j` puts a plane's index. -/
theorem emb_plane {n a b : ℕ} {off : Fin 3 → ℕ} {j : Fin n} (ho : off = ![j.val, 0, 0]) (h : ∀ d, off d + (S3 1 a b).size d ≤ (S3 n a b).size d)
    (y : (S3 1 a b).Idx) : (Rect.unit (s := S3 n a b) off (S3 1 a b).size h).emb y = inSlot j y := by
  subst ho
  refine idx3_ext ?_ ?_ ?_
  · show j.val + 1 * (y 0).val = j.val
    have := (y 0).isLt; change (y 0).val < 1 at this; omega
  · show 0 + 1 * (y 1).val = (y 1).val; omega
  · show 0 + 1 * (y 2).val = (y 2).val; omega

/-- The elements of a one-plane rectangle. -/
theorem set_plane {n a b : ℕ} {off : Fin 3 → ℕ} {j : Fin n} (ho : off = ![j.val, 0, 0]) (h : ∀ d, off d + (S3 1 a b).size d ≤ (S3 n a b).size d) :
    (Rect.unit (s := S3 n a b) off (S3 1 a b).size h).set = slotSet n a b j := by
  ext x
  rw [mem_slotSet]
  constructor
  · intro hx
    obtain ⟨y, rfl⟩ := LoadRect.exists_idx_of_mem _ hx
    exact congrArg (fun z : (S3 n a b).Idx => (z 0).val) (emb_plane ho h y)
  · intro hx
    have hy : (Rect.unit (s := S3 n a b) off (S3 1 a b).size h).emb (offSlot x) = x := by
      rw [emb_plane ho h]; exact idx3_ext hx.symm rfl rfl
    rw [← hy]; exact LoadRect.idx_mem _ _

section Views

variable {sig : RefSig} {Val : EltTy → Type}

/-- A load of slot `j` reads the buffer's plane there. -/
theorem readAt_plane {κ : Kind} {n a b : ℕ} {off : Fin 3 → ℕ} {j : Fin n} (ho : off = ![j.val, 0, 0]) (h : ∀ d, off d + (S3 1 a b).size d ≤ (S3 n a b).size d)
    {sp : Space} {e : EltTy} (v : View sig κ sp (S3 n a b) e) (f : v.ty.Contents Val) :
    v.readAt Val (Rect.unit (s := S3 n a b) off (S3 1 a b).size h).toLoadRect f = plane (v.read Val f) j :=
  funext fun y => congrArg (v.read Val f) (emb_plane ho h y)

/-- Contents that a view reads alike agree on the view's elements. -/
theorem eqOn_of_read {κ : Kind} {sp : Space} {s : Shape} {e : EltTy} (v : View sig κ sp s e) {f g : v.ty.Contents Val}
    (h : v.read Val f = v.read Val g) : ∀ i ∈ v.set, f i = g i := by
  intro i hi
  obtain ⟨x, -, rfl⟩ := Finset.mem_map.mp hi
  have hx := congrFun h x
  rw [View.read_apply, View.read_apply] at hx
  exact cast_inj _ |>.mp hx

/-- What a store through a view leaves on the view's elements: contents the view reads as the payload. -/
theorem stored_eqOn {κ : Kind} {sp : Space} {s : Shape} {e : EltTy} (v : View sig κ sp s e) {f g : v.ty.Contents Val} {w : s.Idx → Val e}
    (h : v.read Val g = w) : ∀ i ∈ v.set, v.write Val f w Finset.univ i = g i :=
  eqOn_of_read v ((View.read_write_univ ..).trans h.symm)

/-- What a copy leaves on the destination's elements, source and destination each a rectangle squeezed the same way. -/
theorem copied_eqOn {κ κ' : Kind} {sp sp' : Space} {d d' sz : Fin 3 → ℕ} {e : EltTy} (vs : View sig κ sp ⟨3, d⟩ e) (vd : View sig κ' sp' ⟨3, d'⟩ e)
    {off off' : Fin 3 → ℕ} (h : ∀ a, off a + sz a ≤ d a) (h' : ∀ a, off' a + sz a ≤ d' a) {s' : Shape} (hs : s'.numel = (⟨3, sz⟩ : Shape).numel)
    (fs : vs.ty.Contents Val) (fd g : vd.ty.Contents Val)
    (hg : ∀ y : (⟨3, sz⟩ : Shape).Idx, vd.read Val g ((Rect.unit (s := ⟨3, d'⟩) off' sz h').emb y) = vs.read Val fs ((Rect.unit (s := ⟨3, d⟩) off sz h).emb y)) :
    ∀ i ∈ ((vd.slice (Rect.unit (s := ⟨3, d'⟩) off' sz h')).reshape s' hs).set,
      ((vd.slice (Rect.unit (s := ⟨3, d'⟩) off' sz h')).reshape s' hs).write Val fd
        (((vs.slice (Rect.unit (s := ⟨3, d⟩) off sz h)).reshape s' hs).read Val fs) Finset.univ i = g i :=
  stored_eqOn _ (funext fun x => hg (Shape.reshapeEquiv hs x))

/-- The elements of a squeezed rectangle of a whole buffer. -/
theorem set_squeezed {κ : Kind} (b : Ref sig κ) (r : Rect b.ty.shape) (s' : Shape) (h : s'.numel = r.shape.numel) {T : Finset b.ty.shape.Idx} (hT : r.set = T) :
    (((View.whole b).slice r).reshape s' h).set = T := by
  rw [View.set_reshape, View.set_slice_whole]; exact hT

end Views

end Cert.MoE

end
-- ==== Proof.Vals.lean ====
/-
# What each buffer holds

The contents of every scratch buffer at the point where it matters, as functions of the memory at
launch: the gathered tokens, the gathered router blocks, the gathered routing table, the two
half-expert weight tiles, the partial products, the chunks on their way, the chunks that arrived,
and the result. All are stated over any float values `F`, in terms of the program's payloads.
-/
module

public import proofs.«01_k».proof.Proof.Slots

@[expose] public section

noncomputable section

namespace Cert.MoE

open Cert.KernelIdeal Cert.KernelIdeal.Gen
open Idealize.ShloMosaic Idealize.ShloMosaic.TcCoe Idealize.SL.Sem

variable {F : FTy → Type} [FloatOps F]
variable (m : (ℓ : Loc nD τ sig) → Buf (Elt F) ℓ)

set_option backward.proofsInPublic true in
/-- The device `k + 1` places after `c` on the ring. -/
def peer (c : Dev nD) (k : Fin 3) : Dev nD := ⟨(c.val + k.val + 1) % 4, Nat.mod_lt _ (by decide)⟩

/-- Device `c`'s number as the program computes it. -/
def myW (c : Dev nD) : BitVec 32 := Scalar.remsi (Scalar.divsi (Dev.word c) 1#32) 4#32

/-- Device `c`'s tokens. -/
def xB (c : Dev nD) : Vec F S256x1024 .f32 := (win0_0.blk (0 : Fin 1)).view.read (Elt F) (m ((c : Thread nD τ).loc main_arg0))
/-- Device `c`'s router columns. -/
def rB (c : Dev nD) : Vec F S1024x4 .f32 := (win0_1.blk (0 : Fin 1)).view.read (Elt F) (m ((c : Thread nD τ).loc main_arg1))

/-- Every device's tokens, one device per slot. -/
def XF : Vec F S4x256x1024 .bf16 := stack fun p : Fin 4 => k0_pay1 (xB m p)
/-- Every device's router columns. -/
def RF : Vec F S4x1024x4 .f32 := stack fun p : Fin 4 => k0_pay2 (rB m p)

/-- Device `c`'s routing table: for each of its tokens the two experts chosen and their weights. -/
def WV (c : Dev nD) : FVec F S1x256x4 .f32 :=
  k0_pay11
    (k0_pay5 (k0_pay2 (rB m 0)) (k0_pay2 (rB m 1)) (k0_pay2 (rB m 2)) (k0_pay2 (rB m 3)) (xB m c))
    (k0_pay8 (k0_pay2 (rB m 0)) (k0_pay2 (rB m 1)) (k0_pay2 (rB m 2)) (k0_pay2 (rB m 3)) (xB m c))
    (k0_pay9 (k0_pay2 (rB m 0)) (k0_pay2 (rB m 1)) (k0_pay2 (rB m 2)) (k0_pay2 (rB m 3)) (xB m c))
    k0_pay10
/-- Every device's routing table. -/
def WF : Vec F S4x256x4 .f32 := stack fun p : Fin 4 => WV m p

set_option backward.proofsInPublic true in
/-- The hidden units `b·1024 … b·1024 + 1023` of an expert, one by one. -/
def halfIx (b : Fin 2) (j : Fin 1024) : Fin 2048 := ⟨b.val * 1024 + j.val, by have := b.isLt; have := j.isLt; omega⟩

/-- Device `c`'s expert `e`, first matrix, the columns of half `b`. -/
def w1T (c : Dev nD) (e : Fin 4) (b : Fin 2) : Vec F S1x1024x1024 .f32 :=
  fun y => (m ((c : Thread nD τ).loc main_arg2) : Vec F S4x1024x2048 .f32) (ix3 e (y 1) (halfIx b (y 2)))
/-- Device `c`'s expert `e`, second matrix, the rows of half `b`. -/
def w2T (c : Dev nD) (e : Fin 4) (b : Fin 2) : Vec F S1x1024x1024 .f32 :=
  fun y => (m ((c : Thread nD τ).loc main_arg3) : Vec F S4x2048x1024 .f32) (ix3 e (halfIx b (y 1)) (y 2))
/-- The two tile buffers' contents, the tile in every slot. -/
def W1c (c : Dev nD) (e : Fin 4) (b : Fin 2) : Vec F S2x1024x1024 .f32 := stack fun _ : Fin 2 => w1T m c e b
def W2c (c : Dev nD) (e : Fin 4) (b : Fin 2) : Vec F S2x1024x1024 .f32 := stack fun _ : Fin 2 => w2T m c e b

/-- All tokens, as the products read them; the routing table's columns. -/
def vX : FVec F S1024x1024 .f32 := k0_pay12 (XF m)
def vA1 : FVec F S1024x1 .f32 := k0_pay14 (WF m)
def vA2 : FVec F S1024x1 .f32 := k0_pay15 (WF m)
def vG1 : FVec F S1024x1 .f32 := k0_pay16 (WF m)
def vG2 : FVec F S1024x1 .f32 := k0_pay17 (WF m)

/-- The accumulator of device `c` after one, three, five, six and seven of its eight half-experts. -/
def acc1 (c : Dev nD) : FVec F S1024x1024 .f32 :=
  k0_pay21 k0_pay18 (k0_pay19 (vX m) (w1T m c 0 0) (w2T m c 0 0)) (k0_pay20 (myW c) (vA1 m) (vA2 m) (vG1 m) (vG2 m))
def acc2 (c : Dev nD) : FVec F S1024x1024 .f32 :=
  k0_pay23 (myW c) (vA1 m) (vA2 m) (vG1 m) (vG2 m) (acc1 m c) (k0_pay22 (vX m) (w1T m c 0 1) (w2T m c 0 1))
def acc3 (c : Dev nD) : FVec F S1024x1024 .f32 :=
  k0_pay28 (vG2 m) (acc2 m c) (k0_pay24 (vX m) (w1T m c 1 0) (w2T m c 1 0)) (k0_pay26 (myW c) (vA1 m) (vG1 m)) (k0_pay27 (myW c) (vA2 m)) (Scalar.ofBits .f32 0x00000000#32)
def acc4 (c : Dev nD) : FVec F S1024x1024 .f32 :=
  k0_pay30 (myW c) (vA1 m) (vA2 m) (vG1 m) (vG2 m) (acc3 m c) (k0_pay29 (vX m) (w1T m c 1 1) (w2T m c 1 1))
def acc5 (c : Dev nD) : FVec F S1024x1024 .f32 :=
  k0_pay35 (vA2 m) (vG1 m) (vG2 m) (acc4 m c) (k0_pay31 (vX m) (w1T m c 2 0) (w2T m c 2 0)) (k0_pay32 (myW c)) (k0_pay33 (myW c) (vA1 m)) k0_pay34
def acc6 (c : Dev nD) : FVec F S1024x1024 .f32 :=
  k0_pay37 (myW c) (vA1 m) (vA2 m) (vG1 m) (vG2 m) (acc5 m c) (k0_pay36 (vX m) (w1T m c 2 1) (w2T m c 2 1))
def acc7 (c : Dev nD) : FVec F S1024x1024 .f32 :=
  k0_pay38 (myW c) (vX m) (vA1 m) (vA2 m) (vG1 m) (vG2 m) (acc6 m c) (w1T m c 3 0) (w2T m c 3 0)
/-- Device `c`'s partial result for every token: its four experts' share. -/
def PART (c : Dev nD) : Vec F S4x256x1024 .f32 :=
  k0_pay39 (myW c) (vX m) (vA1 m) (vA2 m) (vG1 m) (vG2 m) (acc7 m c) (w1T m c 3 1) (w2T m c 3 1)

/-- What device `c` sends its three peers: their tokens' chunk of its partial result. -/
def ROUT (c : Dev nD) : Vec F S3x256x1024 .bf16 := stack fun k : Fin 3 => k0_pay40 (plane (PART m c) (peer c k))
/-- What device `c` receives: every device's chunk for its tokens. -/
def RIN (c : Dev nD) : Vec F S4x256x1024 .bf16 := stack fun p : Fin 4 => k0_pay40 (plane (PART m p) c)

/-- Device `c`'s result. -/
def OUT (c : Dev nD) : FVec F S256x1024 .f32 :=
  k0_pay45 (k0_pay44 (k0_pay43 (plane (PART m c) c)) (plane (RIN m c) (peer c 0)) (plane (RIN m c) (peer c 1))) (plane (RIN m c) (peer c 2))

end Cert.MoE

end
-- ==== Proof.Proto.lean ====
/-
# The protocol between the devices

Thirty-three semaphores per device are used: the entry barrier, and in each of four families
(tokens `0`, router columns `1`, routing table `2`, partial results `3`) three completions of
sends, to the peers one, two and three places on, and four completions of arrivals, one per
origin; and two completions of local copies per weight array, one per tile buffer.

Per semaphore: who signals, how much, what the units hand over.

* barrier of `c`: one unit from each of the three peers `p`; `p` hands over its own landing slots
  for `c`'s data in all four families.
* send completion `(f, k)` of `c`: one transfer's credit, paid by that transfer; it returns the
  share of the source that was lent.
* arrival `(f, p)` of `c`, `p ≠ c`: one transfer's credit, paid by `p`'s transfer; it hands over
  slot `p` of `c`'s buffer of the family, holding `p`'s data.
* local completion `(w, b)` of `c`: four rounds, one per expert `e`; round `e` hands over tile
  buffer `b` holding half `b` of the expert's matrix and returns that part of the array.

A device waits on its barrier while owing its arrivals, on the router arrivals while owing later
families, on tokens and tables while owing partial results: so barrier < router < tokens = tables
< partial results is an order in which every wait lies below what the waiter owes.
-/
module

public import proofs.«01_k».proof.Proof.Vals

@[expose] public section

noncomputable section

namespace Cert.MoE

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareDrop shareTokN)

variable {F : FTy → Type} [FloatOps F]

abbrev UB : Type := URounds (GSem nD τ sig) (Fin 4)
abbrev UU : Type := UR sig nD τ × UB
local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ)

/-! ## Semaphores by kind -/

/-- What a semaphore is for. -/
inductive Kd : Type
  | bar
  | snd (f : Fin 4) (k : Fin 3)
  | rcv (f : Fin 4) (p : Fin 4)
  | loc (w : Fin 2) (b : Fin 2)
  deriving DecidableEq

/-- The runtime's barrier semaphore. -/
abbrev barS : Sem sig := (SemArray.scalar (sig.barrier 0 rfl) : Sems sig S_).sem

set_option backward.proofsInPublic true in
/-- The thirty-three semaphores in order: the barrier, then the kernel's own. -/
def csem (i : Fin 33) : SemLoc sig := if i.val = 0 then .reg barS else .dma (⟨i.val + 2, by have := i.isLt; show i.val + 2 < 35; omega⟩ : Fin 35)
set_option backward.proofsInPublic true in
/-- The kernel's own semaphores. -/
def osem (i : Fin 32) : SemLoc sig := .dma (⟨i.val + 3, by have := i.isLt; show i.val + 3 < 35; omega⟩ : Fin 35)

set_option backward.proofsInPublic true in
/-- The place of a kind in that order. -/
def ix : Kd → Fin 33
  | .bar => 0
  | .snd f k => ⟨1 + 7 * f.val + k.val, by have := f.isLt; have := k.isLt; omega⟩
  | .rcv f p => ⟨4 + 7 * f.val + p.val, by have := f.isLt; have := p.isLt; omega⟩
  | .loc w b => ⟨29 + 2 * w.val + b.val, by have := w.isLt; have := b.isLt; omega⟩

/-- The semaphore of a kind. -/
def at' (κ : Kd) : SemLoc sig := csem (ix κ)

set_option backward.proofsInPublic true in
/-- The kind at a place. -/
def kdIx (i : Fin 33) : Kd :=
  if i.val = 0 then .bar
  else if i.val < 29 then
    if (i.val - 1) % 7 < 3 then .snd ⟨(i.val - 1) / 7 % 4, Nat.mod_lt _ (by decide)⟩ ⟨(i.val - 1) % 7 % 3, Nat.mod_lt _ (by decide)⟩
    else .rcv ⟨(i.val - 1) / 7 % 4, Nat.mod_lt _ (by decide)⟩ ⟨((i.val - 1) % 7 - 3) % 4, Nat.mod_lt _ (by decide)⟩
  else .loc ⟨(i.val - 29) / 2 % 2, Nat.mod_lt _ (by decide)⟩ ⟨(i.val - 29) % 2, Nat.mod_lt _ (by decide)⟩

theorem ix_kdIx : ∀ i : Fin 33, ix (kdIx i) = i := by decide
theorem kdIx_ix (κ : Kd) : kdIx (ix κ) = κ := by
  rcases κ with _ | ⟨f, k⟩ | ⟨f, p⟩ | ⟨w, b⟩
  · rfl
  · revert f k; decide
  · revert f p; decide
  · revert w b; decide

theorem csem_inj : Function.Injective csem := by
  intro i j h
  unfold csem at h
  by_cases hi : i.val = 0 <;> by_cases hj : j.val = 0
  · exact Fin.ext (hi.trans hj.symm)
  · rw [if_pos hi, if_neg hj] at h; cases h
  · rw [if_neg hi, if_pos hj] at h; cases h
  · rw [if_neg hi, if_neg hj] at h
    have h2 := congrArg Fin.val (SemLoc.dma.inj h)
    exact Fin.ext (by change i.val + 2 = j.val + 2 at h2; omega)

open Classical in
/-- The kind of a semaphore, if it is one of the thirty-three. -/
def kd (s : SemLoc sig) : Option Kd := if h : ∃ i, csem i = s then some (kdIx h.choose) else none

theorem kd_csem (i : Fin 33) : kd (csem i) = some (kdIx i) := by
  have h : ∃ j, csem j = csem i := ⟨i, rfl⟩
  unfold kd; rw [dif_pos h, csem_inj h.choose_spec]
theorem kd_at (κ : Kd) : kd (at' κ) = some κ := (kd_csem _).trans (congrArg some (kdIx_ix κ))
theorem kd_none {s : SemLoc sig} (h : ∀ i, csem i ≠ s) : kd s = none := by
  unfold kd; rw [dif_neg (fun ⟨i, hi⟩ => h i hi)]

/-- The semaphore of kind `κ` on device `c`. -/
abbrev cell (c : Dev nD) (κ : Kd) : GSem nD τ sig := ((c : Thread nD τ), at' κ)
/-- The cells by device and place. -/
abbrev kcell (ci : Dev nD × Fin 33) : GSem nD τ sig := ((ci.1 : Thread nD τ), csem ci.2)

theorem cell_eq_kcell (c : Dev nD) (κ : Kd) : cell c κ = kcell (c, ix κ) := rfl
theorem kcell_eq_cell (c : Dev nD) (i : Fin 33) : kcell (c, i) = cell c (kdIx i) := by
  show ((c : Thread nD τ), csem i) = ((c : Thread nD τ), csem (ix (kdIx i))); rw [ix_kdIx]

/-! ## What the units hand over -/

section Pays

/-- Slot `j` of device `c`'s buffer of a family, at contents and share. -/
abbrev xPt (c : Dev nD) (j : Fin 4) (q : PosShare TreeShare) (f : Buf (Elt F) ((c : Thread nD τ).loc cc0_scratch0)) : sProp 𝕄 :=
  ((c : Thread nD τ).loc cc0_scratch0) ↦[slotSet 4 256 1024 j]{q} f
abbrev rPt (c : Dev nD) (j : Fin 4) (q : PosShare TreeShare) (f : Buf (Elt F) ((c : Thread nD τ).loc cc0_scratch1)) : sProp 𝕄 :=
  ((c : Thread nD τ).loc cc0_scratch1) ↦[slotSet 4 1024 4 j]{q} f
abbrev wPt (c : Dev nD) (j : Fin 4) (q : PosShare TreeShare) (f : Buf (Elt F) ((c : Thread nD τ).loc cc0_scratch2)) : sProp 𝕄 :=
  ((c : Thread nD τ).loc cc0_scratch2) ↦[slotSet 4 256 4 j]{q} f
abbrev oPt (c : Dev nD) (j : Fin 3) (q : PosShare TreeShare) (f : Buf (Elt F) ((c : Thread nD τ).loc cc0_scratch6)) : sProp 𝕄 :=
  ((c : Thread nD τ).loc cc0_scratch6) ↦[slotSet 3 256 1024 j]{q} f
abbrev iPt (c : Dev nD) (j : Fin 4) (q : PosShare TreeShare) (f : Buf (Elt F) ((c : Thread nD τ).loc cc0_scratch7)) : sProp 𝕄 :=
  ((c : Thread nD τ).loc cc0_scratch7) ↦[slotSet 4 256 1024 j]{q} f

/-- The part of an expert array a tile is copied from. -/
def w1Set (e : Fin 4) (b : Fin 2) : Finset S4x1024x2048.Idx := Finset.univ.filter fun x => (x 0).val = e.val ∧ (x 2).val / 1024 = b.val
def w2Set (e : Fin 4) (b : Fin 2) : Finset S4x2048x1024.Idx := Finset.univ.filter fun x => (x 0).val = e.val ∧ (x 1).val / 1024 = b.val

/-- Tile buffer `b` at contents; the array part of expert `e`, half `b`. -/
abbrev t1Pt (c : Dev nD) (b : Fin 2) (f : Buf (Elt F) ((c : Thread nD τ).loc cc0_scratch3)) : sProp 𝕄 :=
  ((c : Thread nD τ).loc cc0_scratch3) ↦[slotSet 2 1024 1024 b]{fullShare} f
abbrev t2Pt (c : Dev nD) (b : Fin 2) (f : Buf (Elt F) ((c : Thread nD τ).loc cc0_scratch4)) : sProp 𝕄 :=
  ((c : Thread nD τ).loc cc0_scratch4) ↦[slotSet 2 1024 1024 b]{fullShare} f
abbrev s1Pt (c : Dev nD) (e : Fin 4) (b : Fin 2) : sProp 𝕄 :=
  ((c : Thread nD τ).loc main_arg2) ↦[w1Set e b]{fullShare} m ((c : Thread nD τ).loc main_arg2)
abbrev s2Pt (c : Dev nD) (e : Fin 4) (b : Fin 2) : sProp 𝕄 :=
  ((c : Thread nD τ).loc main_arg3) ↦[w2Set e b]{fullShare} m ((c : Thread nD τ).loc main_arg3)

/-- Device `p`'s landing slots for `c`'s data. -/
def landing (p c : Dev nD) : sProp 𝕄 :=
  iprop((∃ f, xPt p c fullShare f) ∗ (∃ f, rPt p c fullShare f) ∗ (∃ f, wPt p c fullShare f) ∗ ∃ f, iPt p c fullShare f)

/-- What the arrival of `p`'s data of family `f` hands device `c`. -/
def rcvPay (c : Dev nD) (f : Fin 4) (p : Fin 4) : sProp 𝕄 :=
  match f with
  | 0 => xPt c p fullShare (XF m)
  | 1 => rPt c p fullShare (RF m)
  | 2 => wPt c p fullShare (WF m)
  | 3 => iPt c p fullShare (RIN m c)

/-- What the completion of send `k` of family `f` returns to device `c`. -/
def sndPay (c : Dev nD) (f : Fin 4) (k : Fin 3) : sProp 𝕄 :=
  match f with
  | 0 => xPt c c (shareTokN fullShare k.val) (XF m)
  | 1 => rPt c c (shareTokN fullShare k.val) (RF m)
  | 2 => wPt c c (shareTokN fullShare k.val) (WF m)
  | 3 => oPt c k fullShare (ROUT m c)

/-- What the completion of the copy of expert `e`'s half `b` of weight array `w` hands device `c`. -/
def locPay (c : Dev nD) (w b : Fin 2) (e : Fin 4) : sProp 𝕄 :=
  match w with
  | 0 => iprop(t1Pt c b (W1c m c e b) ∗ s1Pt m c e b)
  | 1 => iprop(t2Pt c b (W2c m c e b) ∗ s2Pt m c e b)

instance landing_storable (p c : Dev nD) : BI.Storable (upEmb : UEmb _ 𝕄) (landing (F := F) p c) := by unfold landing; infer_instance
instance rcvPay_storable (c : Dev nD) (f p : Fin 4) : BI.Storable (upEmb : UEmb _ 𝕄) (rcvPay (F := F) m c f p) := by
  unfold rcvPay; split <;> infer_instance
instance sndPay_storable (c : Dev nD) (f : Fin 4) (k : Fin 3) : BI.Storable (upEmb : UEmb _ 𝕄) (sndPay (F := F) m c f k) := by
  unfold sndPay; split <;> infer_instance
instance locPay_storable (c : Dev nD) (w b : Fin 2) (e : Fin 4) : BI.Storable (upEmb : UEmb _ 𝕄) (locPay (F := F) m c w b e) := by
  unfold locPay; split <;> infer_instance

end Pays

/-! ## The views a transfer names -/

abbrev xM : Memref sig .tc .vmem S4x256x1024 .bf16 := Memref.whole cc0_scratch0
abbrev rM : Memref sig .tc .vmem S4x1024x4 .f32 := Memref.whole cc0_scratch1
abbrev wM : Memref sig .tc .vmem S4x256x4 .f32 := Memref.whole cc0_scratch2
abbrev t1M : Memref sig .tc .vmem S2x1024x1024 .f32 := Memref.whole cc0_scratch3
abbrev t2M : Memref sig .tc .vmem S2x1024x1024 .f32 := Memref.whole cc0_scratch4
abbrev pM : Memref sig .tc .vmem S4x256x1024 .f32 := Memref.whole cc0_scratch5
abbrev oM : Memref sig .tc .vmem S3x256x1024 .bf16 := Memref.whole cc0_scratch6
abbrev iM : Memref sig .tc .vmem S4x256x1024 .bf16 := Memref.whole cc0_scratch7
abbrev a2M : Memref sig .tc .hbm S4x1024x2048 .f32 := Memref.whole main_arg2
abbrev a3M : Memref sig .tc .hbm S4x2048x1024 .f32 := Memref.whole main_arg3

abbrev xS (off : Fin 3 → ℕ) (h : ∀ a, off a + S1x256x1024.size a ≤ S4x256x1024.size a) : Memref sig .tc .vmem S256x1024 .bf16 :=
  (xM.slice (Rect.unit (s := S4x256x1024) off S1x256x1024.size h) (fun _ => rfl)).squeeze S256x1024 squeezes_S1x256x1024_S256x1024
abbrev rS (off : Fin 3 → ℕ) (h : ∀ a, off a + S1x1024x4.size a ≤ S4x1024x4.size a) : Memref sig .tc .vmem S1024x4 .f32 :=
  (rM.slice (Rect.unit (s := S4x1024x4) off S1x1024x4.size h) (fun _ => rfl)).squeeze S1024x4 squeezes_S1x1024x4_S1024x4
abbrev wS (off : Fin 3 → ℕ) (h : ∀ a, off a + S1x256x4.size a ≤ S4x256x4.size a) : Memref sig .tc .vmem S256x4 .f32 :=
  (wM.slice (Rect.unit (s := S4x256x4) off S1x256x4.size h) (fun _ => rfl)).squeeze S256x4 squeezes_S1x256x4_S256x4
abbrev oS (off : Fin 3 → ℕ) (h : ∀ a, off a + S1x256x1024.size a ≤ S3x256x1024.size a) : Memref sig .tc .vmem S256x1024 .bf16 :=
  (oM.slice (Rect.unit (s := S3x256x1024) off S1x256x1024.size h) (fun _ => rfl)).squeeze S256x1024 squeezes_S1x256x1024_S256x1024
abbrev iS (off : Fin 3 → ℕ) (h : ∀ a, off a + S1x256x1024.size a ≤ S4x256x1024.size a) : Memref sig .tc .vmem S256x1024 .bf16 :=
  (iM.slice (Rect.unit (s := S4x256x1024) off S1x256x1024.size h) (fun _ => rfl)).squeeze S256x1024 squeezes_S1x256x1024_S256x1024
abbrev t1S (off : Fin 3 → ℕ) (h : ∀ a, off a + S1x1024x1024.size a ≤ S2x1024x1024.size a) : Memref sig .tc .vmem S1024x1024 .f32 :=
  (t1M.slice (Rect.unit (s := S2x1024x1024) off S1x1024x1024.size h) (fun _ => rfl)).squeeze S1024x1024 squeezes_S1x1024x1024_S1024x1024
abbrev t2S (off : Fin 3 → ℕ) (h : ∀ a, off a + S1x1024x1024.size a ≤ S2x1024x1024.size a) : Memref sig .tc .vmem S1024x1024 .f32 :=
  (t2M.slice (Rect.unit (s := S2x1024x1024) off S1x1024x1024.size h) (fun _ => rfl)).squeeze S1024x1024 squeezes_S1x1024x1024_S1024x1024
abbrev a2S (off : Fin 3 → ℕ) (h : ∀ a, off a + S1x1024x1024.size a ≤ S4x1024x2048.size a) : Memref sig .tc .hbm S1024x1024 .f32 :=
  (a2M.slice (Rect.unit (s := S4x1024x2048) off S1x1024x1024.size h) (fun _ => rfl)).squeeze S1024x1024 squeezes_S1x1024x1024_S1024x1024
abbrev a3S (off : Fin 3 → ℕ) (h : ∀ a, off a + S1x1024x1024.size a ≤ S4x2048x1024.size a) : Memref sig .tc .hbm S1024x1024 .f32 :=
  (a3M.slice (Rect.unit (s := S4x2048x1024) off S1x1024x1024.size h) (fun _ => rfl)).squeeze S1024x1024 squeezes_S1x1024x1024_S1024x1024

/-- One transfer's credit, by family; one local copy's credit, by array. -/
def N (f : Fin 4) : ℕ :=
  match f with
  | 0 => (xS ![0, 0, 0] (by decide)).view.dmaCredit
  | 1 => (rS ![0, 0, 0] (by decide)).view.dmaCredit
  | 2 => (wS ![0, 0, 0] (by decide)).view.dmaCredit
  | 3 => (iS ![0, 0, 0] (by decide)).view.dmaCredit
def NL (w : Fin 2) : ℕ :=
  match w with
  | 0 => (t1S ![0, 0, 0] (by decide)).view.dmaCredit
  | 1 => (t2S ![0, 0, 0] (by decide)).view.dmaCredit
theorem N_pos (f : Fin 4) : 0 < N f := by
  unfold N; split <;> exact View.dmaCredit_pos _ (by decide)
theorem NL_pos (w : Fin 2) : 0 < NL w := by
  unfold NL; split <;> exact View.dmaCredit_pos _ (by decide)

/-! ## The schedule -/

/-- The duties of a kind on device `c` in round `r`. -/
def dutiesK (c : Dev nD) (κ : Option Kd) (r : ℕ) : Finset (Fin 4) :=
  match κ with
  | some .bar => if r = 0 then Finset.univ.erase c else ∅
  | some (.snd _ _) => if r = 0 then {0} else ∅
  | some (.rcv _ p) => if r = 0 ∧ p ≠ c then {0} else ∅
  | some (.loc _ _) => if r < 4 then {0} else ∅
  | none => ∅
def amountK (κ : Option Kd) : ℕ :=
  match κ with
  | some .bar => 1
  | some (.snd f _) => N f
  | some (.rcv f _) => N f
  | some (.loc w _) => NL w
  | none => 1
def payK (c : Dev nD) (κ : Option Kd) (r : ℕ) (d : Fin 4) : sProp 𝕄 :=
  match κ with
  | some .bar => landing d c
  | some (.snd f k) => sndPay m c f k
  | some (.rcv f p) => rcvPay m c f p
  | some (.loc w b) => if h : r < 4 then locPay m c w b ⟨r, h⟩ else iprop(emp)
  | none => iprop(emp)

def sched : Rounds.Schedule (GSem nD τ sig) (Fin 4) 𝕄 where
  duties g r := if g.1.2 = .tc then dutiesK g.1.1 (kd g.2) r else ∅
  unitless _ := False
  amount g _ _ := amountK (kd g.2)
  payload g r d := payK m g.1.1 (kd g.2) r d
  amount_pos g _ _ _ := by
    unfold amountK; split
    · exact Nat.one_pos
    · exact N_pos _
    · exact N_pos _
    · exact NL_pos _
    · exact Nat.one_pos

instance sched_storable (g : GSem nD τ sig) (r : ℕ) (d : Fin 4) : BI.Storable (upEmb : UEmb _ 𝕄) ((sched (F := F) m).payload g r d) := by
  show BI.Storable upEmb (payK m g.1.1 (kd g.2) r d)
  unfold payK
  (repeat' split) <;> infer_instance

section Sched
variable (c : Dev nD)

theorem duties_cell (κ : Kd) (r : ℕ) : (sched (F := F) m).duties (cell c κ) r = dutiesK c (some κ) r := by
  show (if (c : Thread nD τ).2 = .tc then dutiesK c (kd (at' κ)) r else ∅) = _
  rw [if_pos rfl, kd_at]
theorem amount_cell (κ : Kd) (r : ℕ) (d : Fin 4) : (sched (F := F) m).amount (cell c κ) r d = amountK (some κ) := by
  show amountK (kd (at' κ)) = _; rw [kd_at]
theorem payload_cell (κ : Kd) (r : ℕ) (d : Fin 4) : (sched (F := F) m).payload (cell c κ) r d = payK m c (some κ) r d := by
  show payK m c (kd (at' κ)) r d = _; rw [kd_at]

theorem duties_late (κ : Kd) (r : ℕ) (hr : 4 ≤ r) : (sched (F := F) m).duties (cell c κ) r = ∅ := by
  rw [duties_cell]; unfold dutiesK
  split <;> first | rfl | exact if_neg (by omega)
theorem duties_one (κ : Kd) (hκ : ∀ w b, κ ≠ .loc w b) (r : ℕ) (hr : 1 ≤ r) : (sched (F := F) m).duties (cell c κ) r = ∅ := by
  rw [duties_cell]; unfold dutiesK
  split
  · exact if_neg (by omega)
  · exact if_neg (by omega)
  · exact if_neg (by omega)
  · rename_i w b h; exact absurd (Option.some.inj h) (hκ w b)
  · rfl
theorem duties_own (f : Fin 4) (r : ℕ) : (sched (F := F) m).duties (cell c (.rcv f c)) r = ∅ := by
  rw [duties_cell]; exact if_neg (fun h => h.2 rfl)

/-- What a whole round of a cell comes to. -/
theorem expect_bar : (sched (F := F) m).expect (cell c .bar) 0 = 3 := by
  unfold Schedule.expect Schedule.amountOf
  rw [duties_cell, Finset.sum_congr rfl fun d _ => amount_cell m c .bar 0 d, Finset.sum_const]
  show (Finset.univ.erase c).card • 1 = 3
  rw [Finset.card_erase_of_mem (Finset.mem_univ _)]; rfl
theorem expect_one (κ : Kd) (r : ℕ) (h : dutiesK c (some κ) r = {0}) : (sched (F := F) m).expect (cell c κ) r = amountK (some κ) := by
  unfold Schedule.expect Schedule.amountOf; rw [duties_cell, h, Finset.sum_singleton, amount_cell]
/-- What a whole round of a cell hands over. -/
theorem rest_one (κ : Kd) (r : ℕ) (h : dutiesK c (some κ) r = {0}) :
    bigSep ((sched (F := F) m).duties (cell c κ) r \ ∅) (fun d => (sched (F := F) m).payload (cell c κ) r d) = payK m c (some κ) r 0 := by
  rw [Finset.sdiff_empty, duties_cell, h, bigSep_singleton, payload_cell]
theorem rest_bar :
    bigSep ((sched (F := F) m).duties (cell c .bar) 0 \ ∅) (fun d => (sched (F := F) m).payload (cell c .bar) 0 d)
      = bigSep (Finset.univ.erase c) fun p : Fin 4 => landing (F := F) p c := by
  rw [Finset.sdiff_empty, duties_cell]
  exact congrArg (bigSep _) (funext fun d => payload_cell m c .bar 0 d)

end Sched

/-! ## What a device owes, and the order of its waits -/

/-- A payment to another device: the barrier unit, or a transfer of a family, to the peer `k + 1` places on. -/
inductive Pm : Type
  | bar (k : Fin 3)
  | rcv (f : Fin 4) (k : Fin 3)

/-- The cell paid, and how much. -/
def Pm.cell (c : Dev nD) : Pm → GSem nD τ sig
  | .bar k => MoE.cell (peer c k) .bar
  | .rcv f k => MoE.cell (peer c k) (.rcv f c)
def Pm.amt : Pm → ℕ
  | .bar _ => 1
  | .rcv f _ => N f
/-- Its place in the order. -/
def Pm.lev : Pm → ℕ
  | .bar _ => 1
  | .rcv f _ => match f with | 0 => 3 | 1 => 2 | 2 => 3 | 3 => 4

/-- What is owed when the payments `l` remain, the next first. -/
def owed (c : Dev nD) : List Pm → CellTallies nD τ sig Unit
  | [] => 0
  | a :: l => owed c l + tallyAt (a.cell c) () a.amt

/-- A device's payments in the order its program makes them. -/
def pays : List Pm :=
  [.bar 0, .bar 1, .bar 2, .rcv 0 0, .rcv 1 0, .rcv 0 1, .rcv 1 1, .rcv 0 2, .rcv 1 2,
   .rcv 2 0, .rcv 2 1, .rcv 2 2, .rcv 3 0, .rcv 3 1, .rcv 3 2]

def O₀ (c : Dev nD) : CellTallies nD τ sig Unit := owed c pays

def L (g : GSem nD τ sig) : Finset Unit := if g.1.2 = .tc then {()} else ∅
def levK : Option Kd → ℕ
  | some .bar => 1
  | some (.rcv f _) => match f with | 0 => 3 | 1 => 2 | 2 => 3 | 3 => 4
  | _ => 0
def lv (g : GSem nD τ sig) (_ : Unit) : ℕ := levK (kd g.2)

theorem L_of_ne (g : GSem nD τ sig) (h : g.1.2 ≠ .tc) : L g = ∅ := if_neg h
theorem L_tc (c : Dev nD) (sm : SemLoc sig) : L ((c : Thread nD τ), sm) = {()} := if_pos rfl
theorem lv_cell (c : Dev nD) (κ : Kd) (u : Unit) : lv (cell c κ) u = levK (some κ) := by
  show levK (kd (at' κ)) = _; rw [kd_at]
theorem lv_pm (c : Dev nD) (a : Pm) (u : Unit) : lv (a.cell c) u = a.lev := by
  cases a with
  | bar k => exact lv_cell _ _ _
  | rcv f k => exact lv_cell _ _ _

theorem owed_pos {c : Dev nD} {l : List Pm} {g : GSem nD τ sig} {u : Unit} (h : 0 < owed c l g u) : ∃ a ∈ l, g = a.cell c := by
  induction l with
  | nil => exact absurd h (Nat.lt_irrefl 0)
  | cons a l ih =>
    unfold owed at h
    rw [Pi.add_apply, Finsupp.add_apply, tallyAt_apply] at h
    by_cases hg : g = a.cell c ∧ u = ()
    · exact ⟨a, List.mem_cons_self, hg.1⟩
    · rw [if_neg hg, Nat.add_zero] at h
      obtain ⟨b, hb, hgb⟩ := ih h
      exact ⟨b, List.mem_cons_of_mem _ hb, hgb⟩

/-- A wait at level `n` or below may happen while every payment left lies above `n`. -/
theorem mayWait (c : Dev nD) (sm : SemLoc sig) (n : ℕ) (hs : levK (kd sm) ≤ n) (l : List Pm) (hl : ∀ a ∈ l, n < a.lev) :
    (levAts L lv : sProp 𝕄) ⊢ MayWait (c : Thread nD τ) sm () (owed c l) :=
  MayOwe.of_cut (L := L) (lev := lv) n (fun p hp => by rw [Finset.mem_singleton.mp hp, L_tc]; exact Finset.mem_singleton_self _)
    (fun g u hg => by
      obtain ⟨a, -, rfl⟩ := owed_pos hg
      cases a <;> exact Finset.mem_singleton_self _)
    (fun p hp => by rw [Finset.mem_singleton.mp hp]; exact hs)
    (fun g u hg => by
      obtain ⟨a, ha, rfl⟩ := owed_pos hg
      rw [lv_pm]; exact hl a ha)

end Cert.MoE

end
-- ==== Proof.Steps.lean ====
/-
# One rule per kind of communication step

The steps a device's program takes on its semaphores, each specialised to the protocol: a barrier
signal, the barrier wait, a wait on a completion or an arrival, a transfer to a peer, a copy of a
weight tile. Each rule takes what the step consumes and continues with what it yields.
-/
module

public import proofs.«01_k».proof.Proof.Proto

@[expose] public section

noncomputable section

namespace Cert.MoE

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareDrop shareTokN)

variable {F : FTy → Type} [FloatOps F]
local notation "𝕄" => MT nD τ sig Unit (Elt F) ℕ UU ℕ

variable (m : (ℓ : Loc nD τ sig) → Buf (Elt F) ℓ) (K : Dev nD × Fin 33 → ℕ)

abbrev 𝒱₀ : Variants := Variants.none

/-- A device's program, run from its current state to the postcondition `Q`. -/
abbrev WP (c : Dev nD) {α : Type} (p : Prog (TpuEff nD τ sig (Elt F) Λ₀ .tc) α) (Q : α → sProp 𝕄) : sProp 𝕄 :=
  wp frame (wpE (defs₀ (F := F)) 𝒱₀ (c : Thread nD τ) none) Set.univ p Q

/-- What every device knows: every cell's invariant, that round 0 of every cell is reached, and the levels. -/
def Recs : sProp 𝕄 :=
  iprop(bigSep Finset.univ (fun ci : Dev nD × Fin 33 => iprop(cellInv ER (sched m) (K ci) (kcell ci) ∗ reached ER (kcell ci) 0)) ∗ levAts L lv)

instance Recs_persistent : BI.Persistent (Recs m K) := by unfold Recs; infer_instance

theorem recs_levs : Recs m K ⊢ levAts L lv := by unfold Recs; iintro ⟨-, H⟩; iexact H
theorem recs_cell (c : Dev nD) (κ : Kd) :
    Recs m K ⊢ iprop(cellInv ER (sched m) (K (c, ix κ)) (cell c κ) ∗ reached ER (cell c κ) 0) := by
  unfold Recs
  refine sep_elim_left.trans (bigSep_elim (Φ := fun ci : Dev nD × Fin 33 => iprop(cellInv ER (sched m) (K ci) (kcell ci) ∗ reached ER (kcell ci) 0))
    (Finset.mem_univ ((c, ix κ) : Dev nD × Fin 33)))

/-- What the device owes, its waits so far left unsaid. -/
def ow (c : Dev nD) (l : List Pm) : sProp 𝕄 := iprop(∃ W, owes (c : Thread nD τ) (owed c l) W)

/-- The barrier signal to the peer `k + 1` places on. -/
theorem step_signal (c : Dev nD) (k : Fin 3) (l : List Pm) {dst : Thread nD τ} (hd : dst = (peer c k : Thread nD τ)) {sem : Sem sig} (hs : sem = barS)
    {n : ℕ} (hn : n = 1) {α : Type} {Q : α → sProp 𝕄} {k' : PUnit → Prog (TpuEff nD τ sig (Elt F) Λ₀ .tc) α} (hne : c ≠ peer c k) :
    iprop(Recs m K ∗ ow c (.bar k :: l) ∗ dutyTok ER (cell (peer c k) .bar) 0 c ∗ landing (F := F) c (peer c k))
      ⊢ iprop((ow c l -∗ WP c (k' ⟨⟩) Q) -∗ WP c (.op (.semSignal dst sem n) k') Q) := by
  subst hd hs hn
  unfold ow
  iintro ⟨#HR, ⟨%W, HO⟩, Ht, HL⟩ Hk
  ihave HI := (recs_cell m K (peer c k) .bar) $$ HR
  icases HI with ⟨HI, Hr⟩
  iapply (Rounds.wp_signal 𝒱₀ ER (sched m) (c : Thread nD τ) none (dst := (peer c k : Thread nD τ)) (sem := barS) (κ := K (peer c k, ix .bar)) (r := 0)
      (d := c) (by rw [show ((peer c k : Thread nD τ), SemLoc.reg barS) = cell (peer c k) .bar from rfl, duties_cell]; exact Finset.mem_erase.mpr ⟨hne, Finset.mem_univ _⟩)
      (amount_cell m (peer c k) .bar 0 c) () (owed c l) rfl (W := W)) $$ [HI HO Ht HL Hr]
  · isplitl [HI]; · iexact HI
    isplitl [HO]; · iexact HO
    isplitl [Ht]; · iexact Ht
    isplitl [HL]
    · rw [show (sched m).payload ((peer c k : Thread nD τ), SemLoc.reg barS) 0 c = landing (F := F) c (peer c k) from payload_cell m (peer c k) .bar 0 c]
      iexact HL
    iexact Hr
  iintro HO
  iapply Hk
  iexists W; iexact HO

/-- A wait for a whole round of one of the device's own cells. -/
theorem step_wait (c : Dev nD) (κ : Kd) (r : ℕ) (l : List Pm) (n : ℕ) (hn : levK (some κ) ≤ n) (hl : ∀ a ∈ l, n < a.lev)
    {w : TpuEff nD τ sig (Elt F) Λ₀ .tc PUnit} {sm : SemLoc sig} {k' : ℕ}
    (hw : ∀ P : PUnit → sProp 𝕄, wpE' (defs₀ (F := F)) 𝒱₀ (c : Thread nD τ) none default Set.univ w P = waitSpec (c : Thread nD τ) Set.univ sm k' P)
    (hs : sm = at' κ) (hk : k' = (sched (F := F) m).expect (cell c κ) r)
    {α : Type} {Q : α → sProp 𝕄} {k : PUnit → Prog (TpuEff nD τ sig (Elt F) Λ₀ .tc) α} :
    iprop(Recs m K ∗ ow c l ∗ cred (tallyAt (cell c κ) () k') ∗ atPos ER (cell c κ) r ∅ 0)
      ⊢ iprop((ow c l ∗ atPos ER (cell c κ) (r + 1) ∅ 0 ∗ reached ER (cell c κ) (r + 1)
            ∗ bigSep ((sched (F := F) m).duties (cell c κ) r \ ∅) (fun d => (sched (F := F) m).payload (cell c κ) r d) -∗ WP c (k ⟨⟩) Q)
          -∗ WP c (.op w k) Q) := by
  subst hs
  unfold ow
  iintro ⟨#HR, ⟨%W, HO⟩, Hc, Ha⟩ Hk
  ihave HI := (recs_cell m K c κ) $$ HR
  icases HI with ⟨HI, -⟩
  iapply (Rounds.wp_wait_rest_token 𝒱₀ ER (sched m) (c : Thread nD τ) none (κ := K (c, ix κ)) hw (Set.mem_univ _) () (O := owed c l) (W := W) (R := r) (m := 0) (T := ∅)
      (by rw [Nat.zero_add]; exact hk)) $$ [HI HO Hc Ha]
  · isplitl [HI]; · iexact HI
    isplitl [Hc]; · iexact Hc
    isplitl [HO]; · iexact HO
    isplitr
    · iapply (mayWait (F := F) c (at' κ) n (by rw [kd_at]; exact hn) l hl)
      iapply (recs_levs m K); iexact HR
    iexact Ha
  iintro ⟨HO, Ha, Hr, Hp⟩
  iapply Hk
  isplitl [HO]; · iexists _; iexact HO
  isplitl [Ha]; · iexact Ha
  isplitl [Hr] <;> iassumption

/-- A transfer of family `f` to the peer `k + 1` places on, given that what it lends and what it leaves are the two payloads. -/
theorem step_send (c : Dev nD) (f : Fin 4) (k : Fin 3) (l : List Pm) (hne : c ≠ peer c k) {s : Shape} {e : EltTy}
    {dev : Dev nD} (hdev : dev = peer c k) {src : Memref sig .tc .vmem s e} {dst : Memref sig (Dev.tc dev : Thread nD τ).2.kind .vmem s e}
    {hsc : dst.view.ref.isScScratch = false} {sS sem : SemLoc sig} (hS : sS = at' (.snd f k)) (hR : sem = at' (.rcv f c))
    {hsrc : src.view.WordExact} {hdst : dst.view.WordExact} {hsem : DmaTarget.Typed .vmem sem (.remote (Dev.tc dev : Thread nD τ) dst sS hsc)}
    (hN : dst.view.amount sem = N f) {q : PosShare TreeShare} {fs : Buf (Elt F) (src.view.loc (c : Thread nD τ))} {fd : Buf (Elt F) (dst.view.loc (Dev.tc dev : Thread nD τ))}
    (h₁ : (src.view.loc (c : Thread nD τ) ↦[src.view.set]{q} fs) ⊢ sndPay m c f k)
    (h₂ : (dst.view.loc (Dev.tc dev : Thread nD τ) ↦[dst.view.set]{fullShare} (dst.view.write (Elt F) fd (src.view.read (Elt F) fs) Finset.univ)) ⊢ rcvPay m (peer c k) f c)
    {α : Type} {Q : α → sProp 𝕄} {k' : PUnit → Prog (TpuEff nD τ sig (Elt F) Λ₀ .tc) α} :
    iprop(Recs m K ∗ (src.view.loc (c : Thread nD τ) ↦[src.view.set]{q} fs) ∗ (dst.view.loc (Dev.tc dev : Thread nD τ) ↦[dst.view.set]{fullShare} fd)
        ∗ ow c (.rcv f k :: l) ∗ dutyTok ER (cell c (.snd f k)) 0 0 ∗ dutyTok ER (cell (peer c k) (.rcv f c)) 0 0)
      ⊢ iprop((cred (tallyAt (cell c (.snd f k)) () (N f)) ∗ ow c l -∗ WP c (k' ⟨⟩) Q)
          -∗ WP c (.op (.enqueueDma src (.remote (Dev.tc dev : Thread nD τ) dst sS hsc) sem hsrc hdst hsem) k') Q) := by
  subst hdev hS hR
  unfold ow
  iintro ⟨#HR, Hs, Hd, ⟨%W, HO⟩, Ht₁, Ht₂⟩ Hk
  ihave HI₁ := (recs_cell m K c (.snd f k)) $$ HR
  icases HI₁ with ⟨HI₁, Hr₁⟩
  ihave HI₂ := (recs_cell m K (peer c k) (.rcv f c)) $$ HR
  icases HI₂ with ⟨HI₂, Hr₂⟩
  iapply (Rounds.wp_send_pointsTo 𝒱₀ ER (sched m) (c : Thread nD τ) none (κ₁ := K (c, ix (.snd f k))) (κ₂ := K (peer c k, ix (.rcv f c)))
    (r₁ := 0) (r₂ := 0) (d₁ := 0) (d₂ := 0) (fd := fd)
    (by rw [duties_cell]; exact Finset.mem_singleton_self _)
    (by rw [show ((Dev.tc (peer c k) : Thread nD τ), at' (.rcv f c)) = cell (peer c k) (.rcv f c) from rfl, duties_cell]
        show (0 : Fin 4) ∈ (if 0 = 0 ∧ c ≠ peer c k then ({0} : Finset (Fin 4)) else ∅)
        rw [if_pos ⟨rfl, hne⟩]; exact Finset.mem_singleton_self _)
    () () (N f) hN (amount_cell m c (.snd f k) 0 0) (amount_cell m (peer c k) (.rcv f c) 0 0) (owed c l) rfl (W := W)
    (by rw [payload_cell]; exact h₁) (by rw [show (sched m).payload ((Dev.tc (peer c k) : Thread nD τ), at' (.rcv f c)) 0 0 = rcvPay m (peer c k) f c from payload_cell m (peer c k) (.rcv f c) 0 0]; exact h₂))
    $$ [HI₁ HI₂ Hs Hd HO Ht₁ Hr₁ Ht₂ Hr₂]
  · isplitl [HI₁]; · iexact HI₁
    isplitl [HI₂]; · iexact HI₂
    isplitl [Hs]; · iexact Hs
    isplitl [Hd]; · iexact Hd
    isplitl [HO]; · iexact HO
    isplitl [Ht₁]; · iexact Ht₁
    isplitl [Hr₁]; · iexact Hr₁
    isplitl [Ht₂]; · iexact Ht₂
    iexact Hr₂
  iintro ⟨Hc, HO⟩
  iapply Hk
  isplitl [Hc]; · iexact Hc
  iexists W; iexact HO

/-- A copy of a weight tile, given that what it leaves and what it read are the payload. -/
theorem step_copy (c : Dev nD) (w b : Fin 2) (e : Fin 4) {s : Shape} {et : EltTy}
    {src : Memref sig .tc .hbm s et} {dst : Memref sig (c : Thread nD τ).2.kind .vmem s et} {sem : SemLoc sig} (hs : sem = at' (.loc w b))
    {hsrc : src.view.WordExact} {hdst : dst.view.WordExact} {hsem : DmaTarget.Typed (nD := nD) .hbm sem (.here dst)}
    (hN : dst.view.amount sem = NL w) {fs : Buf (Elt F) (src.view.loc (c : Thread nD τ))} {fd : Buf (Elt F) (dst.view.loc (c : Thread nD τ))}
    (h : iprop((dst.view.loc (c : Thread nD τ) ↦[dst.view.set]{fullShare} (dst.view.write (Elt F) fd (src.view.read (Elt F) fs) Finset.univ))
        ∗ (src.view.loc (c : Thread nD τ) ↦[src.view.set]{fullShare} fs)) ⊢ locPay m c w b e)
    {α : Type} {Q : α → sProp 𝕄} {k' : PUnit → Prog (TpuEff nD τ sig (Elt F) Λ₀ .tc) α} :
    iprop(Recs m K ∗ (src.view.loc (c : Thread nD τ) ↦[src.view.set]{fullShare} fs) ∗ (dst.view.loc (c : Thread nD τ) ↦[dst.view.set]{fullShare} fd)
        ∗ dutyTok ER (cell c (.loc w b)) e.val 0 ∗ reached ER (cell c (.loc w b)) e.val)
      ⊢ iprop((cred (tallyAt (cell c (.loc w b)) () (NL w)) -∗ WP c (k' ⟨⟩) Q)
          -∗ WP c (.op (.enqueueDma src (.here dst) sem hsrc hdst hsem) k') Q) := by
  subst hs
  iintro ⟨#HR, Hs, Hd, Ht, Hr⟩ Hk
  ihave HI := (recs_cell m K c (.loc w b)) $$ HR
  icases HI with ⟨HI, -⟩
  iapply (Rounds.wp_copy_pointsTo 𝒱₀ ER (sched m) (c : Thread nD τ) none (κ := K (c, ix (.loc w b))) (r := e.val) (d := 0) (fd := fd)
    (by rw [duties_cell]; show (0 : Fin 4) ∈ (if e.val < 4 then ({0} : Finset (Fin 4)) else ∅); rw [if_pos e.isLt]; exact Finset.mem_singleton_self _)
    () (NL w) hN (amount_cell m c (.loc w b) e.val 0)
    (by rw [payload_cell]; show _ ⊢ (if h : e.val < 4 then locPay m c w b ⟨e.val, h⟩ else iprop(emp)); rw [dif_pos e.isLt]; exact h))
    $$ [HI Hs Hd Ht Hr]
  · isplitl [HI]; · iexact HI
    isplitl [Hs]; · iexact Hs
    isplitl [Hd]; · iexact Hd
    isplitl [Ht] <;> iassumption
  iexact Hk

end Cert.MoE

end
-- ==== Proof.State.lean ====
/-
# What a device holds between steps

Per transfer and per tile buffer, the device's holdings before, during and after; the waits that
lead from one to the next; loads and stores of one slot; and the program's arguments.
-/
module

public import proofs.«01_k».proof.Proof.Steps

@[expose] public section

noncomputable section

namespace Cert.MoE

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareDrop shareTokN)

variable {F : FTy → Type} [FloatOps F]
local notation "𝕄" => MT nD τ sig Unit (Elt F) ℕ UU ℕ

variable (m : (ℓ : Loc nD τ sig) → Buf (Elt F) ℓ) (K : Dev nD × Fin 33 → ℕ)

theorem ne_peer (c : Dev nD) (k : Fin 3) : c ≠ peer c k := by revert c k; decide
theorem peer_ne (c : Dev nD) (k : Fin 3) : peer c k ≠ c := by revert c k; decide

/-! ## Transfers -/

/-- Transfer `k` of family `f`, not yet issued. -/
def Ready (c : Dev nD) (f : Fin 4) (k : Fin 3) : sProp 𝕄 :=
  iprop(dutyTok ER (cell c (.snd f k)) 0 0 ∗ dutyTok ER (cell (peer c k) (.rcv f c)) 0 0 ∗ atPos ER (cell c (.snd f k)) 0 ∅ 0)
/-- Issued, its completion not yet awaited. -/
def Sent (c : Dev nD) (f : Fin 4) (k : Fin 3) : sProp 𝕄 :=
  iprop(cred (tallyAt (cell c (.snd f k)) () (N f)) ∗ atPos ER (cell c (.snd f k)) 0 ∅ 0)
/-- Completed: what was lent is back. -/
def Back (c : Dev nD) (f : Fin 4) (k : Fin 3) : sProp 𝕄 :=
  iprop(atPos ER (cell c (.snd f k)) 1 ∅ 0 ∗ sndPay m c f k)
/-- The arrival from the peer `k + 1` places on, not yet awaited. -/
def Due (c : Dev nD) (f : Fin 4) (k : Fin 3) : sProp 𝕄 :=
  iprop(cred (tallyAt (cell c (.rcv f (peer c k))) () (N f)) ∗ atPos ER (cell c (.rcv f (peer c k))) 0 ∅ 0)
/-- Arrived. -/
def Got (c : Dev nD) (f : Fin 4) (k : Fin 3) : sProp 𝕄 :=
  iprop(atPos ER (cell c (.rcv f (peer c k))) 1 ∅ 0 ∗ rcvPay m c f (peer c k))

/-! ## Tile buffers -/

/-- The array part a tile is copied from. -/
def srcPt (c : Dev nD) (w b : Fin 2) (e : Fin 4) : sProp 𝕄 :=
  match w with
  | 0 => s1Pt m c e b
  | 1 => s2Pt m c e b
/-- A tile buffer with any contents. -/
def tileAny (c : Dev nD) (w b : Fin 2) : sProp 𝕄 :=
  match w with
  | 0 => iprop(∃ f, t1Pt c b f)
  | 1 => iprop(∃ f, t2Pt c b f)

/-- The experts from `n` on. -/
def from' (n : ℕ) : Finset (Fin 4) := Finset.univ.filter fun e => n ≤ e.val

/-- Tile buffer `b` of array `w` before its first copy. -/
def Idle (c : Dev nD) (w b : Fin 2) : sProp 𝕄 :=
  iprop(atPos ER (cell c (.loc w b)) 0 ∅ 0 ∗ tileAny c w b
    ∗ bigSep (from' (0 : Fin 4).val) (fun e => dutyTok ER (cell c (.loc w b)) e.val 0) ∗ bigSep Finset.univ (srcPt m c w b))
/-- Expert `e`'s tile on its way. -/
def Fly (c : Dev nD) (w b : Fin 2) (e : Fin 4) : sProp 𝕄 :=
  iprop(cred (tallyAt (cell c (.loc w b)) () (NL w)) ∗ atPos ER (cell c (.loc w b)) e.val ∅ 0
    ∗ bigSep (from' (e.val + 1)) (fun e => dutyTok ER (cell c (.loc w b)) e.val 0) ∗ bigSep (Finset.univ.erase e) (srcPt m c w b))
/-- Expert `e`'s tile in the buffer: the counter, the tokens and the sources, apart from the tile itself. -/
def Land (c : Dev nD) (w b : Fin 2) (e : Fin 4) : sProp 𝕄 :=
  iprop(atPos ER (cell c (.loc w b)) (e.val + 1) ∅ 0 ∗ reached ER (cell c (.loc w b)) (e.val + 1)
    ∗ bigSep (from' (e.val + 1)) (fun e => dutyTok ER (cell c (.loc w b)) e.val 0) ∗ bigSep Finset.univ (srcPt m c w b))
/-- The tile. -/
def tile (c : Dev nD) (w b : Fin 2) (e : Fin 4) : sProp 𝕄 :=
  match w with
  | 0 => t1Pt c b (W1c m c e b)
  | 1 => t2Pt c b (W2c m c e b)

theorem locPay_eq (c : Dev nD) (w b : Fin 2) (e : Fin 4) : locPay m c w b e = iprop(tile m c w b e ∗ srcPt m c w b e) := by
  revert w; intro w; match w with | 0 => rfl | 1 => rfl
theorem tile_any (c : Dev nD) (w b : Fin 2) (e : Fin 4) : tile m c w b e ⊢ tileAny (F := F) c w b := by
  match w with
  | 0 => show t1Pt c b (W1c m c e b) ⊢ iprop(∃ f, t1Pt c b f); iintro H; iexists _; iexact H
  | 1 => show t2Pt c b (W2c m c e b) ⊢ iprop(∃ f, t2Pt c b f); iintro H; iexists _; iexact H

theorem from_insert (e : Fin 4) : from' e.val = insert e (from' (e.val + 1)) ∧ e ∉ from' (e.val + 1) := by revert e; decide

/-! ## Waits -/

theorem lev_pos (a : Pm) : 0 < a.lev := by
  cases a with
  | bar k => exact Nat.one_pos
  | rcv f k => match f with | 0 => exact Nat.succ_pos _ | 1 => exact Nat.succ_pos _ | 2 => exact Nat.succ_pos _ | 3 => exact Nat.succ_pos _

theorem wait_snd (c : Dev nD) (f : Fin 4) (k : Fin 3) (l : List Pm) {s : DmaSem sig} (hs : SemLoc.dma s = at' (.snd f k))
    {sp sp' : Space} {sh sh' : Shape} {e e' : EltTy} {src : Memref sig (c : Thread nD τ).2.kind sp' sh' e'} {κ' : Kind} {dst : Memref sig κ' sp sh e}
    {h₁ : src.view.WordExact} {h₂ : dst.view.WordExact} (hN : dst.view.dmaCredit = N f)
    {α : Type} {Q : α → sProp 𝕄} {k' : PUnit → Prog (TpuEff nD τ sig (Elt F) Λ₀ .tc) α} :
    iprop(Recs m K ∗ ow c l ∗ Sent c f k) ⊢ iprop((ow c l ∗ Back m c f k -∗ WP c (k' ⟨⟩) Q) -∗ WP c (.op (.waitDma2 s src dst h₁ h₂) k') Q) := by
  unfold Sent Back
  iintro ⟨#HR, HO, Hc, Ha⟩ Hk
  iapply (step_wait m K c (.snd f k) 0 l 0 (Nat.le_refl 0) (fun a _ => lev_pos a) (wpE_waitDma2_eq 𝒱₀ (c : Thread nD τ) none Set.univ) hs (k' := dst.view.dmaCredit)
    (by rw [hN]; exact (expect_one m c (.snd f k) 0 rfl).symm)) $$ [HO Hc Ha]
  · rw [hN]
    isplitr; · iexact HR
    isplitl [HO]; · iexact HO
    isplitl [Hc] <;> iassumption
  iintro ⟨HO, Ha, -, Hp⟩
  iapply Hk
  isplitl [HO]; · iexact HO
  isplitl [Ha]; · iexact Ha
  iapply (Entails.of_eq (show _ = sndPay m c f k from rest_one m c (.snd f k) 0 rfl))
  iexact Hp

theorem wait_rcv (c : Dev nD) (f : Fin 4) (k : Fin 3) (l : List Pm) (hl : ∀ a ∈ l, levK (some (.rcv f (peer c k))) < a.lev) {s : DmaSem sig} (hs : SemLoc.dma s = at' (.rcv f (peer c k)))
    {sp sp' : Space} {sh sh' : Shape} {e e' : EltTy} {src : Memref sig (c : Thread nD τ).2.kind sp' sh' e'} {κ' : Kind} {dst : Memref sig κ' sp sh e}
    {h₁ : src.view.WordExact} {h₂ : dst.view.WordExact} (hN : dst.view.dmaCredit = N f)
    {α : Type} {Q : α → sProp 𝕄} {k' : PUnit → Prog (TpuEff nD τ sig (Elt F) Λ₀ .tc) α} :
    iprop(Recs m K ∗ ow c l ∗ Due c f k) ⊢ iprop((ow c l ∗ Got m c f k -∗ WP c (k' ⟨⟩) Q) -∗ WP c (.op (.waitDma2 s src dst h₁ h₂) k') Q) := by
  have hd : dutiesK c (some (.rcv f (peer c k))) 0 = {0} := if_pos ⟨rfl, peer_ne c k⟩
  unfold Due Got
  iintro ⟨#HR, HO, Hc, Ha⟩ Hk
  iapply (step_wait m K c (.rcv f (peer c k)) 0 l _ (Nat.le_refl _) hl (wpE_waitDma2_eq 𝒱₀ (c : Thread nD τ) none Set.univ) hs (k' := dst.view.dmaCredit)
    (by rw [hN]; exact (expect_one m c (.rcv f (peer c k)) 0 hd).symm)) $$ [HO Hc Ha]
  · rw [hN]
    isplitr; · iexact HR
    isplitl [HO]; · iexact HO
    isplitl [Hc] <;> iassumption
  iintro ⟨HO, Ha, -, Hp⟩
  iapply Hk
  isplitl [HO]; · iexact HO
  isplitl [Ha]; · iexact Ha
  iapply (Entails.of_eq (show _ = rcvPay m c f (peer c k) from rest_one m c (.rcv f (peer c k)) 0 hd))
  iexact Hp

theorem wait_loc (c : Dev nD) (w b : Fin 2) (e : Fin 4) (l : List Pm) {s : DmaSem sig} (hs : SemLoc.dma s = at' (.loc w b))
    {sp sp' : Space} {sh sh' : Shape} {et et' : EltTy} {src : Memref sig (c : Thread nD τ).2.kind sp' sh' et'} {κ' : Kind} {dst : Memref sig κ' sp sh et}
    {h₁ : src.view.WordExact} {h₂ : dst.view.WordExact} (hN : dst.view.dmaCredit = NL w)
    {α : Type} {Q : α → sProp 𝕄} {k' : PUnit → Prog (TpuEff nD τ sig (Elt F) Λ₀ .tc) α} :
    iprop(Recs m K ∗ ow c l ∗ Fly m c w b e) ⊢ iprop((ow c l ∗ Land m c w b e ∗ tile m c w b e -∗ WP c (k' ⟨⟩) Q) -∗ WP c (.op (.waitDma2 s src dst h₁ h₂) k') Q) := by
  have hd : dutiesK c (some (.loc w b)) e.val = {0} := if_pos e.isLt
  unfold Fly Land
  iintro ⟨#HR, HO, Hc, Ha, Ht, Hs⟩ Hk
  iapply (step_wait m K c (.loc w b) e.val l 0 (Nat.le_refl _) (fun a _ => lev_pos a) (wpE_waitDma2_eq 𝒱₀ (c : Thread nD τ) none Set.univ) hs (k' := dst.view.dmaCredit)
    (by rw [hN]; exact (expect_one m c (.loc w b) e.val hd).symm)) $$ [HO Hc Ha]
  · rw [hN]
    isplitr; · iexact HR
    isplitl [HO]; · iexact HO
    isplitl [Hc] <;> iassumption
  iintro ⟨HO, Ha, Hr, Hp⟩
  iapply Hk
  isplitl [HO]; · iexact HO
  have hp : payK m c (some (.loc w b)) e.val 0 = iprop(tile m c w b e ∗ srcPt m c w b e) := (dif_pos e.isLt).trans (locPay_eq m c w b e)
  ihave Hp := (Entails.of_eq ((rest_one m c (.loc w b) e.val hd).trans hp)) $$ Hp
  icases Hp with ⟨Hp, Hq⟩
  isplitr [Hp]
  · isplitl [Ha]; · iexact Ha
    isplitl [Hr]; · iexact Hr
    isplitl [Ht]; · iexact Ht
    iapply (Entails.of_eq (show iprop(srcPt m c w b e ∗ bigSep (Finset.univ.erase e) (srcPt m c w b)) = bigSep Finset.univ (srcPt m c w b) from
        (BI.bigSep_erase (Finset.mem_univ e)).symm))
    isplitl [Hq] <;> iassumption
  iexact Hp

/-- The barrier wait: every peer's landing slots for this device. -/
theorem wait_bar (c : Dev nD) (l : List Pm) (hl : ∀ a ∈ l, 1 < a.lev) {s : Sem sig} (hs : s = barS) {n : ℕ} (hn : n = 3)
    {α : Type} {Q : α → sProp 𝕄} {k' : PUnit → Prog (TpuEff nD τ sig (Elt F) Λ₀ .tc) α} :
    iprop(Recs m K ∗ ow c l ∗ cred (tallyAt (cell c .bar) () 3) ∗ atPos ER (cell c .bar) 0 ∅ 0)
      ⊢ iprop((ow c l ∗ atPos ER (cell c .bar) 1 ∅ 0 ∗ landing (F := F) (peer c 0) c ∗ landing (F := F) (peer c 1) c ∗ landing (F := F) (peer c 2) c
          -∗ WP c (k' ⟨⟩) Q) -∗ WP c (.op (.semWait s n) k') Q) := by
  subst hs hn
  iintro ⟨#HR, HO, Hc, Ha⟩ Hk
  iapply (step_wait m K c .bar 0 l 1 (Nat.le_refl _) hl (wpE_semWait_eq 𝒱₀ (c : Thread nD τ) none Set.univ) (sm := .reg barS) rfl (k' := 3)
    (expect_bar m c).symm) $$ [HO Hc Ha]
  · isplitr; · iexact HR
    isplitl [HO]; · iexact HO
    isplitl [Hc] <;> iassumption
  iintro ⟨HO, Ha, -, Hp⟩
  iapply Hk
  isplitl [HO]; · iexact HO
  isplitl [Ha]; · iexact Ha
  have he : ∀ c : Fin 4, Finset.univ.erase c = [peer c 0, peer c 1, peer c 2].toFinset ∧ [peer c 0, peer c 1, peer c 2].Nodup := by decide
  have h3 : bigSep (Finset.univ.erase c) (fun p : Fin 4 => landing (F := F) p c)
      = iprop(landing (F := F) (peer c 0) c ∗ landing (F := F) (peer c 1) c ∗ landing (F := F) (peer c 2) c) := by
    rw [bigSep_eq_bigSepL_of_eq [peer c 0, peer c 1, peer c 2] (he c).1 (he c).2, bigSepL_cons_cons, bigSepL_cons_cons, bigSepL_singleton]
    rfl
  iapply (Entails.of_eq ((rest_bar m c).trans h3))
  iexact Hp

/-! ## Loads and stores of one slot -/

theorem load_slot (c : Dev nD) {n a b : ℕ} {e : EltTy} (v : Memref sig .tc .vmem (S3 n a b) e) {off : Fin 3 → ℕ} {j : Fin n} (ho : off = ![j.val, 0, 0])
    {h : ∀ d, off d + (S3 1 a b).size d ≤ (S3 n a b).size d} {S : Finset (Idx (v.view.loc (c : Thread nD τ)))} (hS : v.view.setOn (slotSet n a b j) ⊆ S)
    {q : PosShare TreeShare} {f : Buf (Elt F) (v.view.loc (c : Thread nD τ))} {hl : v.view.LoadsAt (Rect.unit (s := S3 n a b) off (S3 1 a b).size h).toLoadRect}
    {α : Type} {Q : α → sProp 𝕄} {k' : ((S3 1 a b).Idx → Elt F e) → Prog (TpuEff nD τ sig (Elt F) Λ₀ .tc) α} :
    (v.view.loc (c : Thread nD τ) ↦[S]{q} f)
      ⊢ iprop(((v.view.loc (c : Thread nD τ) ↦[S]{q} f) -∗ WP c (k' (plane (v.view.read (Elt F) f) j)) Q)
        -∗ WP c (.op (.load v (Rect.unit (s := S3 n a b) off (S3 1 a b).size h).toLoadRect hl) k') Q) := by
  have hr := readAt_plane ho h v.view f
  have hset : (Rect.unit (s := S3 n a b) off (S3 1 a b).size h).toLoadRect.set = slotSet n a b j := set_plane ho h
  rw [← hr]
  exact wp_load 𝒱₀ (c : Thread nD τ) none Set.univ (m := v) (by rw [hset]; exact hS)

theorem store_slot (c : Dev nD) {n a b : ℕ} {e : EltTy} (v : Memref sig .tc .vmem (S3 n a b) e) {off : Fin 3 → ℕ} {j : Fin n} (ho : off = ![j.val, 0, 0])
    {h : ∀ d, off d + (S3 1 a b).size d ≤ (S3 n a b).size d} {w : (S3 1 a b).Idx → Elt F e} {S : Finset (Idx (v.view.loc (c : Thread nD τ)))} (hS : v.view.setOn (slotSet n a b j) = S)
    {f g : Buf (Elt F) (v.view.loc (c : Thread nD τ))} (hg : plane (v.view.read (Elt F) g) j = w)
    {hx : (v.access (Rect.unit (s := S3 n a b) off (S3 1 a b).size h)).Stores Finset.univ} {hm : (Finset.univ : Finset (S3 1 a b).Idx) = Finset.univ ∨ ∀ d, (Rect.unit (s := S3 n a b) off (S3 1 a b).size h).stride d = 1}
    {α : Type} {Q : α → sProp 𝕄} {k' : PUnit → Prog (TpuEff nD τ sig (Elt F) Λ₀ .tc) α} :
    (v.view.loc (c : Thread nD τ) ↦[S]{fullShare} f)
      ⊢ iprop(((v.view.loc (c : Thread nD τ) ↦[S]{fullShare} g) -∗ WP c (k' ⟨⟩) Q)
        -∗ WP c (.op (.store v (Rect.unit (s := S3 n a b) off (S3 1 a b).size h) w Finset.univ hx hm) k') Q) := by
  have hset : (v.access (Rect.unit (s := S3 n a b) off (S3 1 a b).size h)).set = S := by
    rw [← hS, ← set_plane ho h]; exact View.set_slice _ _
  have hr : (v.access (Rect.unit (s := S3 n a b) off (S3 1 a b).size h)).read (Elt F) g = w :=
    (readAt_plane ho h v.view g).trans hg
  have he : ((v.view.loc (c : Thread nD τ) ↦[S]{fullShare} ((v.access (Rect.unit (s := S3 n a b) off (S3 1 a b).size h)).write (Elt F) f w Finset.univ)) : sProp 𝕄)
      = (v.view.loc (c : Thread nD τ) ↦[S]{fullShare} g) :=
    pointsTo_congr (fun i hi => stored_eqOn _ hr i (by rw [hset]; exact hi))
  rw [← he]
  exact wp_store 𝒱₀ (c : Thread nD τ) none Set.univ (m := v) (r := Rect.unit (s := S3 n a b) off (S3 1 a b).size h) (Mk := Finset.univ) (by rw [View.setOn_univ, hset])

end Cert.MoE

end
-- ==== Proof.Moves.lean ====
/-
# The transfers, family by family, and the tile copies

Each family's transfer with its source, its destination and what it leaves there; the two tile
copies. In each the source part is lent and the destination is the peer's landing slot (or the
device's own tile buffer).
-/
module

public import proofs.«01_k».proof.Proof.State

@[expose] public section

noncomputable section

namespace Cert.MoE

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareDrop shareTokN)

variable {F : FTy → Type} [FloatOps F]
local notation "𝕄" => MT nD τ sig Unit (Elt F) ℕ UU ℕ

variable (m : (ℓ : Loc nD τ sig) → Buf (Elt F) ℓ) (K : Dev nD × Fin 33 → ℕ)

theorem peer_inj (c : Dev nD) {k k' : Fin 3} (h : peer c k = peer c k') : k = k' := by revert c k k'; decide

/-- Every semaphore but the barrier counts a transfer's credit. -/
theorem at_dma (κ : Kd) (h : κ ≠ .bar) : ∃ j, at' κ = .dma j := by
  refine ⟨_, if_neg ?_⟩
  rcases κ with _ | ⟨f, k⟩ | ⟨f, p⟩ | ⟨w, b⟩
  · exact absurd rfl h
  · show 1 + 7 * f.val + k.val ≠ 0; omega
  · show 4 + 7 * f.val + p.val ≠ 0; omega
  · show 29 + 2 * w.val + b.val ≠ 0; omega
theorem amount_at {κ : Kind} {sp : Space} {s : Shape} {e : EltTy} (v : View sig κ sp s e) (κ' : Kd) (h : κ' ≠ .bar) : v.amount (at' κ') = v.dmaCredit := by
  obtain ⟨j, hj⟩ := at_dma κ' h; rw [hj]

/-! ## The elements the views name -/

theorem xS_set {off : Fin 3 → ℕ} {j : Fin 4} (ho : off = ![j.val, 0, 0]) (h : ∀ a, off a + S1x256x1024.size a ≤ S4x256x1024.size a) :
    (xS off h).view.set = slotSet 4 256 1024 j := set_squeezed cc0_scratch0 _ _ _ (set_plane ho h)
theorem rS_set {off : Fin 3 → ℕ} {j : Fin 4} (ho : off = ![j.val, 0, 0]) (h : ∀ a, off a + S1x1024x4.size a ≤ S4x1024x4.size a) :
    (rS off h).view.set = slotSet 4 1024 4 j := set_squeezed cc0_scratch1 _ _ _ (set_plane ho h)
theorem wS_set {off : Fin 3 → ℕ} {j : Fin 4} (ho : off = ![j.val, 0, 0]) (h : ∀ a, off a + S1x256x4.size a ≤ S4x256x4.size a) :
    (wS off h).view.set = slotSet 4 256 4 j := set_squeezed cc0_scratch2 _ _ _ (set_plane ho h)
theorem t1S_set {off : Fin 3 → ℕ} {j : Fin 2} (ho : off = ![j.val, 0, 0]) (h : ∀ a, off a + S1x1024x1024.size a ≤ S2x1024x1024.size a) :
    (t1S off h).view.set = slotSet 2 1024 1024 j := set_squeezed cc0_scratch3 _ _ _ (set_plane ho h)
theorem t2S_set {off : Fin 3 → ℕ} {j : Fin 2} (ho : off = ![j.val, 0, 0]) (h : ∀ a, off a + S1x1024x1024.size a ≤ S2x1024x1024.size a) :
    (t2S off h).view.set = slotSet 2 1024 1024 j := set_squeezed cc0_scratch4 _ _ _ (set_plane ho h)
theorem oS_set {off : Fin 3 → ℕ} {j : Fin 3} (ho : off = ![j.val, 0, 0]) (h : ∀ a, off a + S1x256x1024.size a ≤ S3x256x1024.size a) :
    (oS off h).view.set = slotSet 3 256 1024 j := set_squeezed cc0_scratch6 _ _ _ (set_plane ho h)
theorem iS_set {off : Fin 3 → ℕ} {j : Fin 4} (ho : off = ![j.val, 0, 0]) (h : ∀ a, off a + S1x256x1024.size a ≤ S4x256x1024.size a) :
    (iS off h).view.set = slotSet 4 256 1024 j := set_squeezed cc0_scratch7 _ _ _ (set_plane ho h)

/-- Where a tile's rectangle of the first weight array puts a tile's index. -/
theorem emb_w1 {off : Fin 3 → ℕ} {e : Fin 4} {b : Fin 2} (ho : off = ![e.val, 0, b.val * 1024]) (h : ∀ a, off a + S1x1024x1024.size a ≤ S4x1024x2048.size a)
    (y : S1x1024x1024.Idx) : (Rect.unit (s := S4x1024x2048) off S1x1024x1024.size h).emb y = ix3 (n := 4) (a := 1024) (b := 2048) e (y 1) (halfIx b (y 2)) := by
  subst ho
  refine idx3_ext (n := 4) (a := 1024) (b := 2048) ?_ ?_ ?_
  · show e.val + 1 * (y 0).val = e.val
    have := (y 0).isLt; change (y 0).val < 1 at this; omega
  · show 0 + 1 * (y 1).val = (y 1).val; omega
  · show b.val * 1024 + 1 * (y 2).val = b.val * 1024 + (y 2).val; omega
theorem emb_w2 {off : Fin 3 → ℕ} {e : Fin 4} {b : Fin 2} (ho : off = ![e.val, b.val * 1024, 0]) (h : ∀ a, off a + S1x1024x1024.size a ≤ S4x2048x1024.size a)
    (y : S1x1024x1024.Idx) : (Rect.unit (s := S4x2048x1024) off S1x1024x1024.size h).emb y = ix3 (n := 4) (a := 2048) (b := 1024) e (halfIx b (y 1)) (y 2) := by
  subst ho
  refine idx3_ext (n := 4) (a := 2048) (b := 1024) ?_ ?_ ?_
  · show e.val + 1 * (y 0).val = e.val
    have := (y 0).isLt; change (y 0).val < 1 at this; omega
  · show b.val * 1024 + 1 * (y 1).val = b.val * 1024 + (y 1).val; omega
  · show 0 + 1 * (y 2).val = (y 2).val; omega

theorem rect_w1 {off : Fin 3 → ℕ} {e : Fin 4} {b : Fin 2} (ho : off = ![e.val, 0, b.val * 1024]) (h : ∀ a, off a + S1x1024x1024.size a ≤ S4x1024x2048.size a) :
    (Rect.unit (s := S4x1024x2048) off S1x1024x1024.size h).set = w1Set e b := by
  ext x
  rw [w1Set, Finset.mem_filter]
  constructor
  · intro hx
    obtain ⟨y, rfl⟩ := LoadRect.exists_idx_of_mem _ hx
    refine ⟨Finset.mem_univ _, ?_⟩
    have hy := emb_w1 ho h y
    have h2 : (y 2).val < 1024 := (y 2).isLt
    refine ⟨congrArg (fun z : S4x1024x2048.Idx => (z 0).val) hy, (congrArg (fun z : S4x1024x2048.Idx => (z 2).val / 1024) hy).trans ?_⟩
    show (b.val * 1024 + (y 2).val) / 1024 = b.val
    omega
  · rintro ⟨-, h0, h2⟩
    have hx2 : (x 2).val < 2048 := (x 2).isLt
    let y : S1x1024x1024.Idx := ix3 (n := 1) (a := 1024) (b := 1024) 0 (x 1) ⟨(x 2).val % 1024, Nat.mod_lt _ (by decide)⟩
    have hy : (Rect.unit (s := S4x1024x2048) off S1x1024x1024.size h).emb y = x := by
      rw [emb_w1 ho h]
      refine idx3_ext (n := 4) (a := 1024) (b := 2048) h0.symm rfl ?_
      show b.val * 1024 + (x 2).val % 1024 = (x 2).val
      omega
    rw [← hy]; exact LoadRect.idx_mem _ _
theorem rect_w2 {off : Fin 3 → ℕ} {e : Fin 4} {b : Fin 2} (ho : off = ![e.val, b.val * 1024, 0]) (h : ∀ a, off a + S1x1024x1024.size a ≤ S4x2048x1024.size a) :
    (Rect.unit (s := S4x2048x1024) off S1x1024x1024.size h).set = w2Set e b := by
  ext x
  rw [w2Set, Finset.mem_filter]
  constructor
  · intro hx
    obtain ⟨y, rfl⟩ := LoadRect.exists_idx_of_mem _ hx
    refine ⟨Finset.mem_univ _, ?_⟩
    have hy := emb_w2 ho h y
    have h1 : (y 1).val < 1024 := (y 1).isLt
    refine ⟨congrArg (fun z : S4x2048x1024.Idx => (z 0).val) hy, (congrArg (fun z : S4x2048x1024.Idx => (z 1).val / 1024) hy).trans ?_⟩
    show (b.val * 1024 + (y 1).val) / 1024 = b.val
    omega
  · rintro ⟨-, h0, h2⟩
    have hx1 : (x 1).val < 2048 := (x 1).isLt
    let y : S1x1024x1024.Idx := ix3 (n := 1) (a := 1024) (b := 1024) 0 ⟨(x 1).val % 1024, Nat.mod_lt _ (by decide)⟩ (x 2)
    have hy : (Rect.unit (s := S4x2048x1024) off S1x1024x1024.size h).emb y = x := by
      rw [emb_w2 ho h]
      refine idx3_ext (n := 4) (a := 2048) (b := 1024) h0.symm ?_ rfl
      show b.val * 1024 + (x 1).val % 1024 = (x 1).val
      omega
    rw [← hy]; exact LoadRect.idx_mem _ _

theorem a2S_set {off : Fin 3 → ℕ} {e : Fin 4} {b : Fin 2} (ho : off = ![e.val, 0, b.val * 1024]) (h : ∀ a, off a + S1x1024x1024.size a ≤ S4x1024x2048.size a) :
    (a2S off h).view.set = w1Set e b := set_squeezed main_arg2 _ _ _ (rect_w1 ho h)
theorem a3S_set {off : Fin 3 → ℕ} {e : Fin 4} {b : Fin 2} (ho : off = ![e.val, b.val * 1024, 0]) (h : ∀ a, off a + S1x1024x1024.size a ≤ S4x2048x1024.size a) :
    (a3S off h).view.set = w2Set e b := set_squeezed main_arg3 _ _ _ (rect_w2 ho h)

/-! ## The transfers -/

/-- The tokens. -/
theorem send_x (c : Dev nD) (k : Fin 3) (l : List Pm) {dev : Dev nD} (hdev : dev = peer c k) {sS sem : SemLoc sig}
    {α : Type} {Q : α → sProp 𝕄} {k' : PUnit → Prog (TpuEff nD τ sig (Elt F) Λ₀ .tc) α}
    (hS : sS = at' (.snd 0 k)) (hR : sem = at' (.rcv 0 c)) {off : Fin 3 → ℕ} (ho : off = ![c.val, 0, 0])
    {h : ∀ a, off a + S1x256x1024.size a ≤ S4x256x1024.size a} {hsc : (xS off h).view.ref.isScScratch = false} {hsrc hdst : (xS off h).view.WordExact}
    {hsem : DmaTarget.Typed .vmem sem (.remote (Dev.tc dev : Thread nD τ) (xS off h) sS hsc)} :
    iprop(Recs m K ∗ xPt c c (shareTokN fullShare k.val) (XF m) ∗ (∃ f, xPt (peer c k) c fullShare f)
        ∗ ow c (.rcv 0 k :: l) ∗ Ready c 0 k)
      ⊢ iprop((Sent c 0 k ∗ ow c l -∗ WP c (k' ⟨⟩) Q)
          -∗ WP c (.op (.enqueueDma (xS off h) (.remote (Dev.tc dev : Thread nD τ) (xS off h) sS hsc) sem hsrc hdst hsem) k') Q) := by
  subst hdev
  unfold Ready Sent
  iintro ⟨#HR, Hs, ⟨%fd, Hd⟩, HO, Ht₁, Ht₂, Ha⟩ Hk
  have h₁ : (((c : Thread nD τ).loc cc0_scratch0) ↦[(xS off h).view.set]{shareTokN fullShare k.val} XF m) ⊢ sndPay m c 0 k := by
    rw [xS_set ho]; exact BI.Entails.refl _
  have h₂ : (((peer c k : Thread nD τ).loc cc0_scratch0) ↦[(xS off h).view.set]{fullShare}
      ((xS off h).view.write (Elt F) fd ((xS off h).view.read (Elt F) (XF m)) Finset.univ)) ⊢ rcvPay m (peer c k) 0 c := by
    refine Entails.of_eq ((pointsTo_congr ?_).trans (by rw [xS_set ho]; rfl))
    exact copied_eqOn (View.whole cc0_scratch0) (View.whole cc0_scratch0) h h squeezes_S1x256x1024_S256x1024.numel_eq (XF m) fd (XF m) (fun y => rfl)
  have hN : (xS off h).view.amount sem = N 0 := by subst hR; exact amount_at _ _ (fun h => nomatch h)
  iapply (step_send m K c 0 k l (ne_peer c k) (dev := peer c k) rfl (src := xS off h) (dst := xS off h) hS hR hN
    (q := shareTokN fullShare k.val) (fs := XF m) (fd := fd) h₁ h₂) $$ [Hs Hd HO Ht₁ Ht₂]
  · rw [xS_set ho]
    isplitr; · iexact HR
    isplitl [Hs]; · iexact Hs
    isplitl [Hd]; · iexact Hd
    isplitl [HO]; · iexact HO
    isplitl [Ht₁] <;> iassumption
  iintro ⟨Hc, HO⟩
  iapply Hk
  isplitl [Hc Ha]
  · isplitl [Hc] <;> iassumption
  iexact HO

/-- The router columns. -/
theorem send_r (c : Dev nD) (k : Fin 3) (l : List Pm) {dev : Dev nD} (hdev : dev = peer c k) {sS sem : SemLoc sig}
    {α : Type} {Q : α → sProp 𝕄} {k' : PUnit → Prog (TpuEff nD τ sig (Elt F) Λ₀ .tc) α}
    (hS : sS = at' (.snd 1 k)) (hR : sem = at' (.rcv 1 c)) {off : Fin 3 → ℕ} (ho : off = ![c.val, 0, 0])
    {h : ∀ a, off a + S1x1024x4.size a ≤ S4x1024x4.size a} {hsc : (rS off h).view.ref.isScScratch = false} {hsrc hdst : (rS off h).view.WordExact}
    {hsem : DmaTarget.Typed .vmem sem (.remote (Dev.tc dev : Thread nD τ) (rS off h) sS hsc)} :
    iprop(Recs m K ∗ rPt c c (shareTokN fullShare k.val) (RF m) ∗ (∃ f, rPt (peer c k) c fullShare f)
        ∗ ow c (.rcv 1 k :: l) ∗ Ready c 1 k)
      ⊢ iprop((Sent c 1 k ∗ ow c l -∗ WP c (k' ⟨⟩) Q)
          -∗ WP c (.op (.enqueueDma (rS off h) (.remote (Dev.tc dev : Thread nD τ) (rS off h) sS hsc) sem hsrc hdst hsem) k') Q) := by
  subst hdev
  unfold Ready Sent
  iintro ⟨#HR, Hs, ⟨%fd, Hd⟩, HO, Ht₁, Ht₂, Ha⟩ Hk
  have h₁ : (((c : Thread nD τ).loc cc0_scratch1) ↦[(rS off h).view.set]{shareTokN fullShare k.val} RF m) ⊢ sndPay m c 1 k := by
    rw [rS_set ho]; exact BI.Entails.refl _
  have h₂ : (((peer c k : Thread nD τ).loc cc0_scratch1) ↦[(rS off h).view.set]{fullShare}
      ((rS off h).view.write (Elt F) fd ((rS off h).view.read (Elt F) (RF m)) Finset.univ)) ⊢ rcvPay m (peer c k) 1 c := by
    refine Entails.of_eq ((pointsTo_congr ?_).trans (by rw [rS_set ho]; rfl))
    exact copied_eqOn (View.whole cc0_scratch1) (View.whole cc0_scratch1) h h squeezes_S1x1024x4_S1024x4.numel_eq (RF m) fd (RF m) (fun y => rfl)
  have hN : (rS off h).view.amount sem = N 1 := by subst hR; exact amount_at _ _ (fun h => nomatch h)
  iapply (step_send m K c 1 k l (ne_peer c k) (dev := peer c k) rfl (src := rS off h) (dst := rS off h) hS hR hN
    (q := shareTokN fullShare k.val) (fs := RF m) (fd := fd) h₁ h₂) $$ [Hs Hd HO Ht₁ Ht₂]
  · rw [rS_set ho]
    isplitr; · iexact HR
    isplitl [Hs]; · iexact Hs
    isplitl [Hd]; · iexact Hd
    isplitl [HO]; · iexact HO
    isplitl [Ht₁] <;> iassumption
  iintro ⟨Hc, HO⟩
  iapply Hk
  isplitl [Hc Ha]
  · isplitl [Hc] <;> iassumption
  iexact HO

/-- The routing table. -/
theorem send_w (c : Dev nD) (k : Fin 3) (l : List Pm) {dev : Dev nD} (hdev : dev = peer c k) {sS sem : SemLoc sig}
    {α : Type} {Q : α → sProp 𝕄} {k' : PUnit → Prog (TpuEff nD τ sig (Elt F) Λ₀ .tc) α}
    (hS : sS = at' (.snd 2 k)) (hR : sem = at' (.rcv 2 c)) {off : Fin 3 → ℕ} (ho : off = ![c.val, 0, 0])
    {h : ∀ a, off a + S1x256x4.size a ≤ S4x256x4.size a} {hsc : (wS off h).view.ref.isScScratch = false} {hsrc hdst : (wS off h).view.WordExact}
    {hsem : DmaTarget.Typed .vmem sem (.remote (Dev.tc dev : Thread nD τ) (wS off h) sS hsc)} :
    iprop(Recs m K ∗ wPt c c (shareTokN fullShare k.val) (WF m) ∗ (∃ f, wPt (peer c k) c fullShare f)
        ∗ ow c (.rcv 2 k :: l) ∗ Ready c 2 k)
      ⊢ iprop((Sent c 2 k ∗ ow c l -∗ WP c (k' ⟨⟩) Q)
          -∗ WP c (.op (.enqueueDma (wS off h) (.remote (Dev.tc dev : Thread nD τ) (wS off h) sS hsc) sem hsrc hdst hsem) k') Q) := by
  subst hdev
  unfold Ready Sent
  iintro ⟨#HR, Hs, ⟨%fd, Hd⟩, HO, Ht₁, Ht₂, Ha⟩ Hk
  have h₁ : (((c : Thread nD τ).loc cc0_scratch2) ↦[(wS off h).view.set]{shareTokN fullShare k.val} WF m) ⊢ sndPay m c 2 k := by
    rw [wS_set ho]; exact BI.Entails.refl _
  have h₂ : (((peer c k : Thread nD τ).loc cc0_scratch2) ↦[(wS off h).view.set]{fullShare}
      ((wS off h).view.write (Elt F) fd ((wS off h).view.read (Elt F) (WF m)) Finset.univ)) ⊢ rcvPay m (peer c k) 2 c := by
    refine Entails.of_eq ((pointsTo_congr ?_).trans (by rw [wS_set ho]; rfl))
    exact copied_eqOn (View.whole cc0_scratch2) (View.whole cc0_scratch2) h h squeezes_S1x256x4_S256x4.numel_eq (WF m) fd (WF m) (fun y => rfl)
  have hN : (wS off h).view.amount sem = N 2 := by subst hR; exact amount_at _ _ (fun h => nomatch h)
  iapply (step_send m K c 2 k l (ne_peer c k) (dev := peer c k) rfl (src := wS off h) (dst := wS off h) hS hR hN
    (q := shareTokN fullShare k.val) (fs := WF m) (fd := fd) h₁ h₂) $$ [Hs Hd HO Ht₁ Ht₂]
  · rw [wS_set ho]
    isplitr; · iexact HR
    isplitl [Hs]; · iexact Hs
    isplitl [Hd]; · iexact Hd
    isplitl [HO]; · iexact HO
    isplitl [Ht₁] <;> iassumption
  iintro ⟨Hc, HO⟩
  iapply Hk
  isplitl [Hc Ha]
  · isplitl [Hc] <;> iassumption
  iexact HO

/-- A chunk of the partial result, from outgoing slot `k` into the peer's slot for this device. -/
theorem send_o (c : Dev nD) (k : Fin 3) (l : List Pm) {dev : Dev nD} (hdev : dev = peer c k) {sS sem : SemLoc sig}
    {α : Type} {Q : α → sProp 𝕄} {k' : PUnit → Prog (TpuEff nD τ sig (Elt F) Λ₀ .tc) α}
    (hS : sS = at' (.snd 3 k)) (hR : sem = at' (.rcv 3 c)) {off off' : Fin 3 → ℕ} (ho : off = ![k.val, 0, 0]) (ho' : off' = ![c.val, 0, 0])
    {h : ∀ a, off a + S1x256x1024.size a ≤ S3x256x1024.size a} {h' : ∀ a, off' a + S1x256x1024.size a ≤ S4x256x1024.size a}
    {hsc : (iS off' h').view.ref.isScScratch = false} {hsrc : (oS off h).view.WordExact} {hdst : (iS off' h').view.WordExact}
    {hsem : DmaTarget.Typed .vmem sem (.remote (Dev.tc dev : Thread nD τ) (iS off' h') sS hsc)} :
    iprop(Recs m K ∗ oPt c k fullShare (ROUT m c) ∗ (∃ f, iPt (peer c k) c fullShare f)
        ∗ ow c (.rcv 3 k :: l) ∗ Ready c 3 k)
      ⊢ iprop((Sent c 3 k ∗ ow c l -∗ WP c (k' ⟨⟩) Q)
          -∗ WP c (.op (.enqueueDma (oS off h) (.remote (Dev.tc dev : Thread nD τ) (iS off' h') sS hsc) sem hsrc hdst hsem) k') Q) := by
  subst hdev
  unfold Ready Sent
  iintro ⟨#HR, Hs, ⟨%fd, Hd⟩, HO, Ht₁, Ht₂, Ha⟩ Hk
  have h₁ : (((c : Thread nD τ).loc cc0_scratch6) ↦[(oS off h).view.set]{fullShare} ROUT m c) ⊢ sndPay m c 3 k := by
    rw [oS_set ho]; exact BI.Entails.refl _
  have h₂ : (((peer c k : Thread nD τ).loc cc0_scratch7) ↦[(iS off' h').view.set]{fullShare}
      ((iS off' h').view.write (Elt F) fd ((oS off h).view.read (Elt F) (ROUT m c)) Finset.univ)) ⊢ rcvPay m (peer c k) 3 c := by
    refine Entails.of_eq ((pointsTo_congr ?_).trans (by rw [iS_set ho']; rfl))
    refine copied_eqOn (View.whole cc0_scratch6) (View.whole cc0_scratch7) h h' squeezes_S1x256x1024_S256x1024.numel_eq (ROUT m c) fd (RIN m (peer c k)) (fun y => ?_)
    show RIN m (peer c k) _ = ROUT m c _
    rw [emb_plane (n := 4) (a := 256) (b := 1024) ho' h', emb_plane (n := 3) (a := 256) (b := 1024) ho h]
    exact (congrFun (plane_stack (fun p : Fin 4 => k0_pay40 (plane (PART m p) (peer c k))) c) y).trans
      (congrFun (plane_stack (fun k : Fin 3 => k0_pay40 (plane (PART m c) (peer c k))) k) y).symm
  have hN : (iS off' h').view.amount sem = N 3 := by subst hR; exact amount_at _ _ (fun h => nomatch h)
  iapply (step_send m K c 3 k l (ne_peer c k) (dev := peer c k) rfl (src := oS off h) (dst := iS off' h') hS hR hN
    (q := fullShare) (fs := ROUT m c) (fd := fd) h₁ h₂) $$ [Hs Hd HO Ht₁ Ht₂]
  · rw [oS_set ho, iS_set ho']
    isplitr; · iexact HR
    isplitl [Hs]; · iexact Hs
    isplitl [Hd]; · iexact Hd
    isplitl [HO]; · iexact HO
    isplitl [Ht₁] <;> iassumption
  iintro ⟨Hc, HO⟩
  iapply Hk
  isplitl [Hc Ha]
  · isplitl [Hc] <;> iassumption
  iexact HO

/-! ## The tile copies -/

/-- A tile of the first matrix. -/
theorem copy_w1 (c : Dev nD) (b : Fin 2) (e : Fin 4) {sem : SemLoc sig}
    {α : Type} {Q : α → sProp 𝕄} {k' : PUnit → Prog (TpuEff nD τ sig (Elt F) Λ₀ .tc) α}
    (hs : sem = at' (.loc 0 b)) {off off' : Fin 3 → ℕ} (ho : off = ![e.val, 0, b.val * 1024]) (ho' : off' = ![b.val, 0, 0])
    {h : ∀ a, off a + S1x1024x1024.size a ≤ S4x1024x2048.size a} {h' : ∀ a, off' a + S1x1024x1024.size a ≤ S2x1024x1024.size a}
    {hsrc : (a2S off h).view.WordExact} {hdst : (t1S off' h').view.WordExact} {hsem : DmaTarget.Typed (nD := nD) (τ := τ) (p := Proc.tc) .hbm sem (.here (t1S off' h'))} :
    iprop(Recs m K ∗ s1Pt m c e b ∗ (∃ f, t1Pt c b f) ∗ dutyTok ER (cell c (.loc 0 b)) e.val 0 ∗ reached ER (cell c (.loc 0 b)) e.val)
      ⊢ iprop((cred (tallyAt (cell c (.loc 0 b)) () (NL 0)) -∗ WP c (k' ⟨⟩) Q)
          -∗ WP c (.op (.enqueueDma (a2S off h) (.here (t1S off' h')) sem hsrc hdst hsem) k') Q) := by
  iintro ⟨#HR, Hs, ⟨%fd, Hd⟩, Ht, Hr⟩
  have h₁ : iprop((((c : Thread nD τ).loc cc0_scratch3) ↦[(t1S off' h').view.set]{fullShare}
        ((t1S off' h').view.write (Elt F) fd ((a2S off h).view.read (Elt F) (m ((c : Thread nD τ).loc main_arg2))) Finset.univ))
      ∗ (((c : Thread nD τ).loc main_arg2) ↦[(a2S off h).view.set]{fullShare} m ((c : Thread nD τ).loc main_arg2))) ⊢ locPay m c 0 b e := by
    show _ ⊢ iprop(t1Pt c b (W1c m c e b) ∗ s1Pt m c e b)
    refine BI.sep_mono (Entails.of_eq ((pointsTo_congr ?_).trans (by rw [t1S_set ho']))) (by rw [a2S_set ho]; exact BI.Entails.refl _)
    refine copied_eqOn (View.whole main_arg2) (View.whole cc0_scratch3) h h' squeezes_S1x1024x1024_S1024x1024.numel_eq (m ((c : Thread nD τ).loc main_arg2)) fd (W1c m c e b) (fun y => ?_)
    show W1c m c e b _ = (m ((c : Thread nD τ).loc main_arg2) : Vec F S4x1024x2048 .f32) _
    rw [emb_plane (n := 2) (a := 1024) (b := 1024) ho' h', emb_w1 ho h]
    rfl
  have hN : (t1S off' h').view.amount sem = NL 0 := by subst hs; exact amount_at _ _ (fun h => nomatch h)
  iapply (step_copy m K c 0 b e (src := a2S off h) (dst := t1S off' h') hs hN
    (fs := m ((c : Thread nD τ).loc main_arg2)) (fd := fd) h₁)
  rw [a2S_set ho, t1S_set ho']
  isplitr; · iexact HR
  isplitl [Hs]; · iexact Hs
  isplitl [Hd]; · iexact Hd
  isplitl [Ht] <;> iassumption

/-- A tile of the second matrix. -/
theorem copy_w2 (c : Dev nD) (b : Fin 2) (e : Fin 4) {sem : SemLoc sig}
    {α : Type} {Q : α → sProp 𝕄} {k' : PUnit → Prog (TpuEff nD τ sig (Elt F) Λ₀ .tc) α}
    (hs : sem = at' (.loc 1 b)) {off off' : Fin 3 → ℕ} (ho : off = ![e.val, b.val * 1024, 0]) (ho' : off' = ![b.val, 0, 0])
    {h : ∀ a, off a + S1x1024x1024.size a ≤ S4x2048x1024.size a} {h' : ∀ a, off' a + S1x1024x1024.size a ≤ S2x1024x1024.size a}
    {hsrc : (a3S off h).view.WordExact} {hdst : (t2S off' h').view.WordExact} {hsem : DmaTarget.Typed (nD := nD) (τ := τ) (p := Proc.tc) .hbm sem (.here (t2S off' h'))} :
    iprop(Recs m K ∗ s2Pt m c e b ∗ (∃ f, t2Pt c b f) ∗ dutyTok ER (cell c (.loc 1 b)) e.val 0 ∗ reached ER (cell c (.loc 1 b)) e.val)
      ⊢ iprop((cred (tallyAt (cell c (.loc 1 b)) () (NL 1)) -∗ WP c (k' ⟨⟩) Q)
          -∗ WP c (.op (.enqueueDma (a3S off h) (.here (t2S off' h')) sem hsrc hdst hsem) k') Q) := by
  iintro ⟨#HR, Hs, ⟨%fd, Hd⟩, Ht, Hr⟩
  have h₁ : iprop((((c : Thread nD τ).loc cc0_scratch4) ↦[(t2S off' h').view.set]{fullShare}
        ((t2S off' h').view.write (Elt F) fd ((a3S off h).view.read (Elt F) (m ((c : Thread nD τ).loc main_arg3))) Finset.univ))
      ∗ (((c : Thread nD τ).loc main_arg3) ↦[(a3S off h).view.set]{fullShare} m ((c : Thread nD τ).loc main_arg3))) ⊢ locPay m c 1 b e := by
    show _ ⊢ iprop(t2Pt c b (W2c m c e b) ∗ s2Pt m c e b)
    refine BI.sep_mono (Entails.of_eq ((pointsTo_congr ?_).trans (by rw [t2S_set ho']))) (by rw [a3S_set ho]; exact BI.Entails.refl _)
    refine copied_eqOn (View.whole main_arg3) (View.whole cc0_scratch4) h h' squeezes_S1x1024x1024_S1024x1024.numel_eq (m ((c : Thread nD τ).loc main_arg3)) fd (W2c m c e b) (fun y => ?_)
    show W2c m c e b _ = (m ((c : Thread nD τ).loc main_arg3) : Vec F S4x2048x1024 .f32) _
    rw [emb_plane (n := 2) (a := 1024) (b := 1024) ho' h', emb_w2 ho h]
    rfl
  have hN : (t2S off' h').view.amount sem = NL 1 := by subst hs; exact amount_at _ _ (fun h => nomatch h)
  iapply (step_copy m K c 1 b e (src := a3S off h) (dst := t2S off' h') hs hN
    (fs := m ((c : Thread nD τ).loc main_arg3)) (fd := fd) h₁)
  rw [a3S_set ho, t2S_set ho']
  isplitr; · iexact HR
  isplitl [Hs]; · iexact Hs
  isplitl [Hd]; · iexact Hd
  isplitl [Ht] <;> iassumption

theorem from_split (e : Fin 4) (Φ : Fin 4 → sProp 𝕄) : bigSep (from' e.val) Φ = iprop(Φ e ∗ bigSep (from' (e.val + 1)) Φ) := by
  rw [(from_insert e).1, BI.bigSep_insert (from_insert e).2]; rfl

/-- The first copy into a tile buffer: what is held before and during. -/
theorem idle_open (c : Dev nD) (w b : Fin 2) :
    iprop(Recs m K ∗ Idle m c w b) ⊢ iprop(srcPt m c w b 0 ∗ tileAny c w b ∗ dutyTok ER (cell c (.loc w b)) ((0 : Fin 4) : ℕ) 0 ∗ reached ER (cell c (.loc w b)) ((0 : Fin 4) : ℕ)
      ∗ (cred (tallyAt (cell c (.loc w b)) () (NL w)) -∗ Fly m c w b 0)) := by
  unfold Idle Fly
  iintro ⟨#HR, Ha, Ht, Hd, Hs⟩
  ihave HI := (recs_cell m K c (.loc w b)) $$ HR
  icases HI with ⟨-, Hr⟩
  ihave Hd := (Entails.of_eq (from_split 0 (fun e => dutyTok ER (cell c (.loc w b)) e.val 0))) $$ Hd
  icases Hd with ⟨Hd, Hds⟩
  ihave Hs := (Entails.of_eq (show bigSep Finset.univ (srcPt m c w b) = iprop(srcPt m c w b 0 ∗ bigSep (Finset.univ.erase 0) (srcPt m c w b)) from
        BI.bigSep_erase (Finset.mem_univ 0))) $$ Hs
  icases Hs with ⟨Hs, Hss⟩
  isplitl [Hs]; · iexact Hs
  isplitl [Ht]; · iexact Ht
  isplitl [Hd]; · iexact Hd
  isplitl [Hr]; · iexact Hr
  iintro Hc
  isplitl [Hc]; · iexact Hc
  isplitl [Ha]; · iexact Ha
  isplitl [Hds] <;> iassumption

/-- The next copy into a tile buffer. -/
theorem land_open (c : Dev nD) (w b : Fin 2) (e e' : Fin 4) (he : e'.val = e.val + 1) :
    iprop(Land m c w b e ∗ tile m c w b e) ⊢ iprop(srcPt m c w b e' ∗ tileAny c w b ∗ dutyTok ER (cell c (.loc w b)) e'.val 0 ∗ reached ER (cell c (.loc w b)) e'.val
      ∗ (cred (tallyAt (cell c (.loc w b)) () (NL w)) -∗ Fly m c w b e')) := by
  unfold Land Fly
  rw [← he]
  iintro ⟨⟨Ha, Hr, Hd, Hs⟩, Ht⟩
  ihave Hd := (Entails.of_eq (from_split e' (fun e => dutyTok ER (cell c (.loc w b)) e.val 0))) $$ Hd
  icases Hd with ⟨Hd, Hds⟩
  ihave Hs := (Entails.of_eq (show bigSep Finset.univ (srcPt m c w b) = iprop(srcPt m c w b e' ∗ bigSep (Finset.univ.erase e') (srcPt m c w b)) from
        BI.bigSep_erase (Finset.mem_univ e'))) $$ Hs
  icases Hs with ⟨Hs, Hss⟩
  isplitl [Hs]; · iexact Hs
  isplitl [Ht]; · iapply (tile_any m c w b e); iexact Ht
  isplitl [Hd]; · iexact Hd
  isplitl [Hr]; · iexact Hr
  iintro Hc
  isplitl [Hc]; · iexact Hc
  isplitl [Ha]; · iexact Ha
  isplitl [Hds] <;> iassumption

end Cert.MoE

end
-- ==== Proof.Facts.lean ====
/-
# The program's addresses in closed form

The device numbers, slots and semaphores the program computes, for every device: the slot of its own
number, the slot and the semaphore of a peer's number, the peers it signals and sends to.
-/
module

public import proofs.«01_k».proof.Proof.Moves

@[expose] public section

noncomputable section

namespace Cert.MoE

open Cert.KernelIdeal Cert.KernelIdeal.Gen
open Idealize.ShloMosaic Idealize.ShloMosaic.TcCoe
open Idealize.SL.Sem

theorem off1 : ∀ c : Dev nD, k0_off1 c = ![c.val, 0, 0] := by decide
theorem off2 : ∀ c : Dev nD, k0_off2 c = ![c.val, 0, 0] := by decide
theorem off4 : ∀ c : Dev nD, k0_off4 c = ![c.val, 0, 0] := by decide
theorem off5 : ∀ c : Dev nD, k0_off5 c = ![c.val, 0, 0] := by decide
theorem off8 : ∀ c : Dev nD, k0_off8 c = ![c.val, 0, 0] := by decide
theorem off9 : ∀ c : Dev nD, k0_off9 c = ![c.val, 0, 0] := by decide
theorem off3 : ∀ c : Dev nD, k0_off3 c = ![c.val] := by decide
theorem off6 : ∀ (c : Dev nD) (k : Fin 3), k0_off6 c (BitVec.ofNat 32 (1 + k.val)) = ![(peer c k).val] := by decide
theorem off12 : ∀ (c : Dev nD) (k : Fin 3), k0_off12 c (BitVec.ofNat 32 (1 + k.val)) = ![(peer c k).val, 0, 0] := by decide
theorem dev1 : ∀ c : Dev nD, (⟨k0_dev1 c, k0_dev1_lt c⟩ : Dev nD) = peer c 0 := by decide
theorem dev2 : ∀ c : Dev nD, (⟨k0_dev2 c, k0_dev2_lt c⟩ : Dev nD) = peer c 1 := by decide
theorem dev3 : ∀ c : Dev nD, (⟨k0_dev3 c, k0_dev3_lt c⟩ : Dev nD) = peer c 2 := by decide
theorem dev4 : ∀ c : Dev nD, (⟨k0_dev4 c, k0_dev4_lt c⟩ : Dev nD) = peer c 0 := by decide
theorem dev5 : ∀ c : Dev nD, (⟨k0_dev5 c, k0_dev5_lt c⟩ : Dev nD) = peer c 0 := by decide
theorem dev6 : ∀ c : Dev nD, (⟨k0_dev6 c, k0_dev6_lt c⟩ : Dev nD) = peer c 1 := by decide
theorem dev7 : ∀ c : Dev nD, (⟨k0_dev7 c, k0_dev7_lt c⟩ : Dev nD) = peer c 1 := by decide
theorem dev8 : ∀ c : Dev nD, (⟨k0_dev8 c, k0_dev8_lt c⟩ : Dev nD) = peer c 2 := by decide
theorem dev9 : ∀ c : Dev nD, (⟨k0_dev9 c, k0_dev9_lt c⟩ : Dev nD) = peer c 2 := by decide
theorem dev10 : ∀ c : Dev nD, (⟨k0_dev10 c, k0_dev10_lt c⟩ : Dev nD) = peer c 0 := by decide
theorem dev11 : ∀ c : Dev nD, (⟨k0_dev11 c, k0_dev11_lt c⟩ : Dev nD) = peer c 1 := by decide
theorem dev12 : ∀ c : Dev nD, (⟨k0_dev12 c, k0_dev12_lt c⟩ : Dev nD) = peer c 2 := by decide
theorem dev13 : ∀ c : Dev nD, (⟨k0_dev13 c, k0_dev13_lt c⟩ : Dev nD) = peer c 0 := by decide
theorem dev14 : ∀ c : Dev nD, (⟨k0_dev14 c, k0_dev14_lt c⟩ : Dev nD) = peer c 1 := by decide
theorem dev15 : ∀ c : Dev nD, (⟨k0_dev15 c, k0_dev15_lt c⟩ : Dev nD) = peer c 2 := by decide

/-- The semaphore at place `j` of an array of `n`. -/
theorem sem_at {n : ℕ} {base : ℕ} (hb : base + (⟨1, ![n]⟩ : Shape).numel ≤ 35) {off : Fin 1 → ℕ} {j : ℕ} (ho : off = ![j])
    (h : ∀ a, off a + S1.size a ≤ (⟨1, ![n]⟩ : Shape).size a) (hj : base + j < 35) :
    (((SemArray.consecutive (n := 35) base (⟨1, ![n]⟩ : Shape) hb).slice (Rect.unit (s := ⟨1, ![n]⟩) off S1.size h)).squeeze S_ squeezes_S1_S_).sem = ⟨base + j, hj⟩ := by
  subst ho
  refine Fin.ext ?_
  show base + ((⟨1, ![n]⟩ : Shape).rowMajor ((Rect.unit (s := ⟨1, ![n]⟩) ![j] S1.size h).emb _)).val = base + j
  rw [Shape.rowMajor_val_one]
  show base + (j + 1 * (_ : Fin 1).val) = base + j
  omega

theorem at_eq (κ : Kd) (hκ : κ ≠ .bar) {j : ℕ} (hj : j < 35) (h : (ix κ).val + 2 = j) : SemLoc.dma (sig := sig) (⟨j, hj⟩ : Fin 35) = at' κ := by
  subst h
  symm
  refine if_neg ?_
  rcases κ with _ | ⟨f, k⟩ | ⟨f, p⟩ | ⟨w, b⟩
  · exact absurd rfl hκ
  · show 1 + 7 * f.val + k.val ≠ 0; omega
  · show 4 + 7 * f.val + p.val ≠ 0; omega
  · show 29 + 2 * w.val + b.val ≠ 0; omega

theorem semS0 (k : Fin 3) {off : Fin 1 → ℕ} (ho : off = ![k.val]) (h : ∀ a, off a + S1.size a ≤ KernelIdeal.S3.size a) :
    SemLoc.dma (sig := sig) ((cc0_scratch8.slice (Rect.unit (s := KernelIdeal.S3) off S1.size h)).squeeze S_ squeezes_S1_S_).sem = at' (.snd 0 k) :=
  (congrArg SemLoc.dma (sem_at (n := 3) (base := 3) (by decide) ho h (by have := k.isLt; omega))).trans
    (at_eq (.snd 0 k) (fun h => nomatch h) _ (by clear ho; revert k; decide))
theorem semR0 (p : Fin 4) {off : Fin 1 → ℕ} (ho : off = ![p.val]) (h : ∀ a, off a + S1.size a ≤ KernelIdeal.S4.size a) :
    SemLoc.dma (sig := sig) ((cc0_scratch9.slice (Rect.unit (s := KernelIdeal.S4) off S1.size h)).squeeze S_ squeezes_S1_S_).sem = at' (.rcv 0 p) :=
  (congrArg SemLoc.dma (sem_at (n := 4) (base := 6) (by decide) ho h (by have := p.isLt; omega))).trans
    (at_eq (.rcv 0 p) (fun h => nomatch h) _ (by clear ho; revert p; decide))
theorem semS1 (k : Fin 3) {off : Fin 1 → ℕ} (ho : off = ![k.val]) (h : ∀ a, off a + S1.size a ≤ KernelIdeal.S3.size a) :
    SemLoc.dma (sig := sig) ((cc0_scratch10.slice (Rect.unit (s := KernelIdeal.S3) off S1.size h)).squeeze S_ squeezes_S1_S_).sem = at' (.snd 1 k) :=
  (congrArg SemLoc.dma (sem_at (n := 3) (base := 10) (by decide) ho h (by have := k.isLt; omega))).trans
    (at_eq (.snd 1 k) (fun h => nomatch h) _ (by clear ho; revert k; decide))
theorem semR1 (p : Fin 4) {off : Fin 1 → ℕ} (ho : off = ![p.val]) (h : ∀ a, off a + S1.size a ≤ KernelIdeal.S4.size a) :
    SemLoc.dma (sig := sig) ((cc0_scratch11.slice (Rect.unit (s := KernelIdeal.S4) off S1.size h)).squeeze S_ squeezes_S1_S_).sem = at' (.rcv 1 p) :=
  (congrArg SemLoc.dma (sem_at (n := 4) (base := 13) (by decide) ho h (by have := p.isLt; omega))).trans
    (at_eq (.rcv 1 p) (fun h => nomatch h) _ (by clear ho; revert p; decide))
theorem semS2 (k : Fin 3) {off : Fin 1 → ℕ} (ho : off = ![k.val]) (h : ∀ a, off a + S1.size a ≤ KernelIdeal.S3.size a) :
    SemLoc.dma (sig := sig) ((cc0_scratch12.slice (Rect.unit (s := KernelIdeal.S3) off S1.size h)).squeeze S_ squeezes_S1_S_).sem = at' (.snd 2 k) :=
  (congrArg SemLoc.dma (sem_at (n := 3) (base := 17) (by decide) ho h (by have := k.isLt; omega))).trans
    (at_eq (.snd 2 k) (fun h => nomatch h) _ (by clear ho; revert k; decide))
theorem semR2 (p : Fin 4) {off : Fin 1 → ℕ} (ho : off = ![p.val]) (h : ∀ a, off a + S1.size a ≤ KernelIdeal.S4.size a) :
    SemLoc.dma (sig := sig) ((cc0_scratch13.slice (Rect.unit (s := KernelIdeal.S4) off S1.size h)).squeeze S_ squeezes_S1_S_).sem = at' (.rcv 2 p) :=
  (congrArg SemLoc.dma (sem_at (n := 4) (base := 20) (by decide) ho h (by have := p.isLt; omega))).trans
    (at_eq (.rcv 2 p) (fun h => nomatch h) _ (by clear ho; revert p; decide))
theorem semS3 (k : Fin 3) {off : Fin 1 → ℕ} (ho : off = ![k.val]) (h : ∀ a, off a + S1.size a ≤ KernelIdeal.S3.size a) :
    SemLoc.dma (sig := sig) ((cc0_scratch14.slice (Rect.unit (s := KernelIdeal.S3) off S1.size h)).squeeze S_ squeezes_S1_S_).sem = at' (.snd 3 k) :=
  (congrArg SemLoc.dma (sem_at (n := 3) (base := 24) (by decide) ho h (by have := k.isLt; omega))).trans
    (at_eq (.snd 3 k) (fun h => nomatch h) _ (by clear ho; revert k; decide))
theorem semR3 (p : Fin 4) {off : Fin 1 → ℕ} (ho : off = ![p.val]) (h : ∀ a, off a + S1.size a ≤ KernelIdeal.S4.size a) :
    SemLoc.dma (sig := sig) ((cc0_scratch15.slice (Rect.unit (s := KernelIdeal.S4) off S1.size h)).squeeze S_ squeezes_S1_S_).sem = at' (.rcv 3 p) :=
  (congrArg SemLoc.dma (sem_at (n := 4) (base := 27) (by decide) ho h (by have := p.isLt; omega))).trans
    (at_eq (.rcv 3 p) (fun h => nomatch h) _ (by clear ho; revert p; decide))
theorem semL0 (b : Fin 2) {off : Fin 1 → ℕ} (ho : off = ![b.val]) (h : ∀ a, off a + S1.size a ≤ KernelIdeal.S2.size a) :
    SemLoc.dma (sig := sig) ((cc0_scratch16.slice (Rect.unit (s := KernelIdeal.S2) off S1.size h)).squeeze S_ squeezes_S1_S_).sem = at' (.loc 0 b) :=
  (congrArg SemLoc.dma (sem_at (n := 2) (base := 31) (by decide) ho h (by have := b.isLt; omega))).trans
    (at_eq (.loc 0 b) (fun h => nomatch h) _ (by clear ho; revert b; decide))
theorem semL1 (b : Fin 2) {off : Fin 1 → ℕ} (ho : off = ![b.val]) (h : ∀ a, off a + S1.size a ≤ KernelIdeal.S2.size a) :
    SemLoc.dma (sig := sig) ((cc0_scratch17.slice (Rect.unit (s := KernelIdeal.S2) off S1.size h)).squeeze S_ squeezes_S1_S_).sem = at' (.loc 1 b) :=
  (congrArg SemLoc.dma (sem_at (n := 2) (base := 33) (by decide) ho h (by have := b.isLt; omega))).trans
    (at_eq (.loc 1 b) (fun h => nomatch h) _ (by clear ho; revert b; decide))

end Cert.MoE

end
-- ==== Proof.Pieces.lean ====
/-
# Splitting and joining what a device holds

An own slot is lent to three transfers and read meanwhile: it is split into a kept share and three lent ones.
Four slots held at one share make the whole buffer.
-/
module

public import proofs.«01_k».proof.Proof.Facts

@[expose] public section

noncomputable section

namespace Cert.MoE

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareDrop shareTokN)

variable {F : FTy → Type} [FloatOps F]
local notation "𝕄" => MT nD τ sig Unit (Elt F) ℕ UU ℕ

variable (m : (ℓ : Loc nD τ sig) → Buf (Elt F) ℓ) (K : Dev nD × Fin 33 → ℕ)

theorem wp_fin (c : Dev nD) {α : Type} {Q : α → sProp 𝕄} (a : α) : Q a ⊢ WP c (.ret a) Q := by
  show Q a ⊢ WP c (.ret a) Q
  unfold WP
  rw [wp_ret]; iintro H; imodintro; iexact H

/-- The last statement, its value known by another name. -/
theorem wp_fin' (c : Dev nD) {α : Type} {Q : α → sProp 𝕄} {a b : α} (h : a = b) : Q a ⊢ WP c (.ret b) Q := h ▸ wp_fin c a

/-! ## Whole buffers -/

theorem setOn_ref (b : Ref sig .tc) (M : Finset b.ty.shape.Idx) : (Memref.whole b : Memref sig .tc _ _ _).view.setOn M = M := by
  refine Finset.ext fun x => ⟨fun h => ?_, fun h => Finset.mem_map.mpr ⟨x, h, rfl⟩⟩
  obtain ⟨y, hy, rfl⟩ := Finset.mem_map.mp h
  exact hy
theorem setOn_x (M : Finset S4x256x1024.Idx) : xM.view.setOn M = M := setOn_ref cc0_scratch0 M
theorem setOn_r (M : Finset S4x1024x4.Idx) : rM.view.setOn M = M := setOn_ref cc0_scratch1 M
theorem setOn_w (M : Finset S4x256x4.Idx) : wM.view.setOn M = M := setOn_ref cc0_scratch2 M
theorem setOn_t1 (M : Finset S2x1024x1024.Idx) : t1M.view.setOn M = M := setOn_ref cc0_scratch3 M
theorem setOn_t2 (M : Finset S2x1024x1024.Idx) : t2M.view.setOn M = M := setOn_ref cc0_scratch4 M
theorem setOn_p (M : Finset S4x256x1024.Idx) : pM.view.setOn M = M := setOn_ref cc0_scratch5 M
theorem setOn_o (M : Finset S3x256x1024.Idx) : oM.view.setOn M = M := setOn_ref cc0_scratch6 M
theorem setOn_i (M : Finset S4x256x1024.Idx) : iM.view.setOn M = M := setOn_ref cc0_scratch7 M

theorem load_at (c : Dev nD) {sp : CoreSpace} {s : Shape} {e : EltTy} (v : Memref sig .tc sp s e) {r : LoadRect s} {q : PosShare TreeShare} {f : Buf (Elt F) (v.view.loc (c : Thread nD τ))}
    {w : r.shape.Idx → Elt F e} (hr : v.view.readAt (Elt F) r f = w) {hl : v.view.LoadsAt r}
    {α : Type} {Q : α → sProp 𝕄} {k' : (r.shape.Idx → Elt F e) → Prog (TpuEff nD τ sig (Elt F) Λ₀ .tc) α} :
    (v.view.loc (c : Thread nD τ) ↦{q} f)
      ⊢ iprop(((v.view.loc (c : Thread nD τ) ↦{q} f) -∗ WP c (k' w) Q) -∗ WP c (.op (.load v r hl) k') Q) := by
  rw [← hr]
  exact wp_load 𝒱₀ (c : Thread nD τ) none Set.univ (m := v) (Finset.subset_univ _)

theorem store_at (c : Dev nD) {sp : CoreSpace} {s : Shape} {e : EltTy} (v : Memref sig .tc sp s e) {r : Rect s} {f g : Buf (Elt F) (v.view.loc (c : Thread nD τ))}
    {w : r.shape.Idx → Elt F e} (hg : (v.access r).write (Elt F) f w Finset.univ = g)
    {hx : (v.access r).Stores Finset.univ} {hm : (Finset.univ : Finset r.shape.Idx) = Finset.univ ∨ ∀ d, r.stride d = 1}
    {α : Type} {Q : α → sProp 𝕄} {k' : PUnit → Prog (TpuEff nD τ sig (Elt F) Λ₀ .tc) α} :
    (v.view.loc (c : Thread nD τ) ↦{fullShare} f)
      ⊢ iprop(((v.view.loc (c : Thread nD τ) ↦{fullShare} g) -∗ WP c (k' ⟨⟩) Q) -∗ WP c (.op (.store v r w Finset.univ hx hm) k') Q) := by
  rw [← hg]
  exact wp_store 𝒱₀ (c : Thread nD τ) none Set.univ (m := v) (r := r) (Mk := Finset.univ) (Finset.subset_univ _)

/-! ## Shares -/

/-- The lent shares of a slot. -/
def lent {ℓ : Loc nD τ sig} (S : Finset (Idx ℓ)) (f : Buf (Elt F) ℓ) : sProp 𝕄 :=
  iprop((ℓ ↦[S]{shareTokN fullShare 0} f) ∗ (ℓ ↦[S]{shareTokN fullShare 1} f) ∗ ℓ ↦[S]{shareTokN fullShare 2} f)

theorem toks_eq {ℓ : Loc nD τ sig} (S : Finset (Idx ℓ)) (f : Buf (Elt F) ℓ) :
    (ℓ ↦[S]{fullShare} f : sProp 𝕄) = iprop((ℓ ↦[S]{shareDrop fullShare 3} f) ∗ lent S f) := by
  have h := Transfers.pointsTo_toks_range (nD := nD) (τ := τ) (sig := sig) (Ix := Unit) (Val := Elt F) (Name := ℕ) (U := UU) (Lvl := ℕ) (ℓ := ℓ) (S := S) (f := f) fullShare 3
  have h3 : bigSep (Finset.range 3) (fun i => (ℓ ↦[S]{shareTokN fullShare i} f : sProp 𝕄)) = iprop((ℓ ↦[S]{shareTokN fullShare 0} f) ∗ (ℓ ↦[S]{shareTokN fullShare 1} f) ∗ ℓ ↦[S]{shareTokN fullShare 2} f) := by
    rw [bigSep_eq_bigSepL_of_eq [0, 1, 2] (by decide) (by decide), bigSepL_cons_cons, bigSepL_cons_cons, bigSepL_singleton]; rfl
  rw [h3] at h
  exact BI.Entails.antisymm h.1 h.2

theorem ring_list (c : Fin 4) : (Finset.univ : Finset (Fin 4)) = [c, peer c 0, peer c 1, peer c 2].toFinset ∧ [c, peer c 0, peer c 1, peer c 2].Nodup := by
  revert c; decide

theorem ring_sep (c : Fin 4) (Φ : Fin 4 → sProp 𝕄) :
    bigSep Finset.univ Φ = iprop(Φ c ∗ Φ (peer c 0) ∗ Φ (peer c 1) ∗ Φ (peer c 2)) := by
  rw [bigSep_eq_bigSepL_of_eq [c, peer c 0, peer c 1, peer c 2] (ring_list c).1 (ring_list c).2, bigSepL_cons_cons, bigSepL_cons_cons, bigSepL_cons_cons, bigSepL_singleton]
  rfl

/-- Four slots at one share and one contents make the buffer. -/
theorem four_eq {ℓ : Loc nD τ sig} (S : Fin 4 → Finset (Idx ℓ)) (hd : ∀ j j', j ≠ j' → Disjoint (S j) (S j')) (hu : Finset.univ.biUnion S = Finset.univ)
    (q : PosShare TreeShare) (f : Buf (Elt F) ℓ) (c : Fin 4) :
    (ℓ ↦{q} f : sProp 𝕄) = iprop((ℓ ↦[S c]{q} f) ∗ (ℓ ↦[S (peer c 0)]{q} f) ∗ (ℓ ↦[S (peer c 1)]{q} f) ∗ ℓ ↦[S (peer c 2)]{q} f) := by
  rw [← ring_sep c (fun j => ℓ ↦[S j]{q} f), ← pointsTo_biUnion Finset.univ S (fun j _ j' _ h => hd j j' h), hu]

/-- The own slot at the kept share and three whole slots: the buffer at the kept share, and the three slots' other shares. -/
theorem unite {ℓ : Loc nD τ sig} (S : Fin 4 → Finset (Idx ℓ)) (hd : ∀ j j', j ≠ j' → Disjoint (S j) (S j')) (hu : Finset.univ.biUnion S = Finset.univ)
    (f : Buf (Elt F) ℓ) (c : Fin 4) :
    iprop((ℓ ↦[S c]{shareDrop fullShare 3} f) ∗ (ℓ ↦[S (peer c 0)]{fullShare} f) ∗ (ℓ ↦[S (peer c 1)]{fullShare} f) ∗ ℓ ↦[S (peer c 2)]{fullShare} f)
      ⊢ (iprop((ℓ ↦{shareDrop fullShare 3} f) ∗ lent (S (peer c 0)) f ∗ lent (S (peer c 1)) f ∗ lent (S (peer c 2)) f) : sProp 𝕄) := by
  iintro ⟨H, H0, H1, H2⟩
  ihave H0 := (Entails.of_eq (toks_eq (S (peer c 0)) f)) $$ H0
  ihave H1 := (Entails.of_eq (toks_eq (S (peer c 1)) f)) $$ H1
  ihave H2 := (Entails.of_eq (toks_eq (S (peer c 2)) f)) $$ H2
  icases H0 with ⟨D0, T0⟩
  icases H1 with ⟨D1, T1⟩
  icases H2 with ⟨D2, T2⟩
  isplitl [H D0 D1 D2]
  · iapply (Entails.of_eq (four_eq S hd hu (shareDrop fullShare 3) f c).symm)
    isplitl [H]; · iexact H
    isplitl [D0]; · iexact D0
    isplitl [D1] <;> iassumption
  isplitl [T0]; · iexact T0
  isplitl [T1]; · iexact T1
  iexact T2

/-- And back. -/
theorem reunite {ℓ : Loc nD τ sig} (S : Fin 4 → Finset (Idx ℓ)) (hd : ∀ j j', j ≠ j' → Disjoint (S j) (S j')) (hu : Finset.univ.biUnion S = Finset.univ)
    (f : Buf (Elt F) ℓ) (c : Fin 4) :
    iprop((ℓ ↦{shareDrop fullShare 3} f) ∗ lent (S c) f ∗ lent (S (peer c 0)) f ∗ lent (S (peer c 1)) f ∗ lent (S (peer c 2)) f) ⊢ (ℓ ↦{fullShare} f : sProp 𝕄) := by
  iintro ⟨H, T, T0, T1, T2⟩
  ihave H := (Entails.of_eq (four_eq S hd hu (shareDrop fullShare 3) f c)) $$ H
  icases H with ⟨D, D0, D1, D2⟩
  iapply (Entails.of_eq (four_eq S hd hu fullShare f c).symm)
  isplitl [D T]
  · iapply (Entails.of_eq (toks_eq (S c) f).symm)
    isplitl [D]; · iexact D
    iexact T
  isplitl [D0 T0]
  · iapply (Entails.of_eq (toks_eq (S (peer c 0)) f).symm)
    isplitl [D0]; · iexact D0
    iexact T0
  isplitl [D1 T1]
  · iapply (Entails.of_eq (toks_eq (S (peer c 1)) f).symm)
    isplitl [D1]; · iexact D1
    iexact T1
  iapply (Entails.of_eq (toks_eq (S (peer c 2)) f).symm)
  isplitl [D2]; · iexact D2
  iexact T2

theorem four_any {ℓ : Loc nD τ sig} (S : Fin 4 → Finset (Idx ℓ)) (hd : ∀ j j', j ≠ j' → Disjoint (S j) (S j')) (hu : Finset.univ.biUnion S = Finset.univ)
    (c : Fin 4) :
    iprop((∃ f, ℓ ↦[S c]{fullShare} f) ∗ (∃ f, ℓ ↦[S (peer c 0)]{fullShare} f) ∗ (∃ f, ℓ ↦[S (peer c 1)]{fullShare} f) ∗ ∃ f, ℓ ↦[S (peer c 2)]{fullShare} f)
      ⊢ (iprop(∃ f, ℓ ↦{fullShare} f) : sProp 𝕄) := by
  iintro ⟨⟨%f, H⟩, ⟨%f0, H0⟩, ⟨%f1, H1⟩, ⟨%f2, H2⟩⟩
  let fs : Fin 4 → Buf (Elt F) ℓ := fun j => if j = c then f else if j = peer c 0 then f0 else if j = peer c 1 then f1 else f2
  have hne : ∀ c : Fin 4, peer c 0 ≠ c ∧ peer c 1 ≠ c ∧ peer c 2 ≠ c ∧ peer c 1 ≠ peer c 0 ∧ peer c 2 ≠ peer c 0 ∧ peer c 2 ≠ peer c 1 := by decide
  obtain ⟨n0, n1, n2, n3, n4, n5⟩ := hne c
  have e : fs c = f := if_pos rfl
  have e0 : fs (peer c 0) = f0 := (if_neg n0).trans (if_pos rfl)
  have e1 : fs (peer c 1) = f1 := (if_neg n1).trans ((if_neg n3).trans (if_pos rfl))
  have e2 : fs (peer c 2) = f2 := (if_neg n2).trans ((if_neg n4).trans (if_neg n5))
  ihave H := (show iprop((ℓ ↦[S c]{fullShare} f) ∗ (ℓ ↦[S (peer c 0)]{fullShare} f0) ∗ (ℓ ↦[S (peer c 1)]{fullShare} f1) ∗ ℓ ↦[S (peer c 2)]{fullShare} f2)
      ⊢ (iprop(∃ g, ⌜∀ t ∈ Finset.univ, ∀ i ∈ S t, g i = fs t i⌝ ∗ ℓ ↦[Finset.univ.biUnion S]{fullShare} g) : sProp 𝕄) from by
    refine Entails.trans (Entails.of_eq ?_) (pointsTo_biUnion_join Finset.univ S fs f (fun j _ j' _ h => hd j j' h))
    rw [ring_sep c (fun j => ℓ ↦[S j]{fullShare} fs j), e, e0, e1, e2]) $$ [H H0 H1 H2]
  · isplitl [H]; · iexact H
    isplitl [H0]; · iexact H0
    isplitl [H1] <;> iassumption
  rw [hu]
  icases H with ⟨%g, -, H⟩
  iexists g
  iexact H

end Cert.MoE

end
-- ==== Proof.Body1.lean ====
/-
# The body: preparation, entry barrier and the first exchanges

The program's parts one to nine, each run on what it consumes.
-/
module

public import proofs.«01_k».proof.Proof.Pieces

@[expose] public section

noncomputable section

namespace Cert.MoE

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareDrop shareTokN)

variable {F : FTy → Type} [FloatOps F]
local notation "𝕄" => MT nD τ sig Unit (Elt F) ℕ UU ℕ

variable (m : (ℓ : Loc nD τ sig) → Buf (Elt F) ℓ) (K : Dev nD × Fin 33 → ℕ)

abbrev x0M : Memref sig .tc .vmem S256x1024 .f32 := Memref.whole cc0_stg0_0
abbrev r0M : Memref sig .tc .vmem S1024x4 .f32 := Memref.whole cc0_stg1_0
abbrev y0M : Memref sig .tc .vmem S256x1024 .f32 := Memref.whole cc0_stg2_0

/-- A part of the program on the arguments the launch gives it. -/
abbrev atArgs {α : Type _} (p : (arg0 : Memref sig .tc .vmem S256x1024 .f32) → (harg0 : arg0.IsWhole) → (arg1 : Memref sig .tc .vmem S1024x4 .f32) → (harg1 : arg1.IsWhole) → (arg2 : Memref sig .tc .hbm S4x1024x2048 .f32) → (harg2 : arg2.IsWhole) → (arg3 : Memref sig .tc .hbm S4x2048x1024 .f32) → (harg3 : arg3.IsWhole) → (arg4 : Memref sig .tc .vmem S256x1024 .f32) → (harg4 : arg4.IsWhole) → (arg5 : Memref sig .tc .vmem S4x256x1024 .bf16) → (harg5 : arg5.IsWhole) → (arg6 : Memref sig .tc .vmem S4x1024x4 .f32) → (harg6 : arg6.IsWhole) → (arg7 : Memref sig .tc .vmem S4x256x4 .f32) → (harg7 : arg7.IsWhole) → (arg8 : Memref sig .tc .vmem S2x1024x1024 .f32) → (harg8 : arg8.IsWhole) → (arg9 : Memref sig .tc .vmem S2x1024x1024 .f32) → (harg9 : arg9.IsWhole) → (arg10 : Memref sig .tc .vmem S4x256x1024 .f32) → (harg10 : arg10.IsWhole) → (arg11 : Memref sig .tc .vmem S3x256x1024 .bf16) → (harg11 : arg11.IsWhole) → (arg12 : Memref sig .tc .vmem S4x256x1024 .bf16) → (harg12 : arg12.IsWhole) → (arg13 : DmaSems sig KernelIdeal.S3) → (arg14 : DmaSems sig S4) → (arg15 : DmaSems sig KernelIdeal.S3) → (arg16 : DmaSems sig S4) → (arg17 : DmaSems sig KernelIdeal.S3) → (arg18 : DmaSems sig S4) → (arg19 : DmaSems sig KernelIdeal.S3) → (arg20 : DmaSems sig S4) → (arg21 : DmaSems sig S2) → (arg22 : DmaSems sig S2) → α) : α :=
  p x0M (Memref.isWhole_whole _) r0M (Memref.isWhole_whole _) a2M (Memref.isWhole_whole _) a3M (Memref.isWhole_whole _) y0M (Memref.isWhole_whole _)
    xM (Memref.isWhole_whole _) rM (Memref.isWhole_whole _) wM (Memref.isWhole_whole _) t1M (Memref.isWhole_whole _) t2M (Memref.isWhole_whole _)
    pM (Memref.isWhole_whole _) oM (Memref.isWhole_whole _) iM (Memref.isWhole_whole _)
    cc0_scratch8 cc0_scratch9 cc0_scratch10 cc0_scratch11 cc0_scratch12 cc0_scratch13 cc0_scratch14 cc0_scratch15 cc0_scratch16 cc0_scratch17

/-- The first copy into tile buffer `b` of the first array, and of the second. -/
theorem start_w1 (c : Dev nD) (b : Fin 2) {sem : SemLoc sig} {α : Type} {Q : α → sProp 𝕄} {k' : PUnit → Prog (TpuEff nD τ sig (Elt F) Λ₀ .tc) α}
    (hs : sem = at' (.loc 0 b)) {off off' : Fin 3 → ℕ} (ho : off = ![0, 0, b.val * 1024]) (ho' : off' = ![b.val, 0, 0])
    {h : ∀ a, off a + S1x1024x1024.size a ≤ S4x1024x2048.size a} {h' : ∀ a, off' a + S1x1024x1024.size a ≤ S2x1024x1024.size a}
    {hsrc : (a2S off h).view.WordExact} {hdst : (t1S off' h').view.WordExact} {hsem : DmaTarget.Typed (nD := nD) (τ := τ) (p := Proc.tc) .hbm sem (.here (t1S off' h'))} :
    iprop(Recs m K ∗ Idle m c 0 b)
      ⊢ iprop((Fly m c 0 b 0 -∗ WP c (k' ⟨⟩) Q) -∗ WP c (.op (.enqueueDma (a2S off h) (.here (t1S off' h')) sem hsrc hdst hsem) k') Q) := by
  iintro ⟨#HR, HI⟩ Hk
  ihave HI := (idle_open m K c 0 b) $$ [HI]
  · isplitr; · iexact HR
    iexact HI
  icases HI with ⟨Hs, Ht, Hd, Hr, Hf⟩
  iapply (copy_w1 m K c b 0 hs ho ho') $$ [Hs Ht Hd Hr]
  · isplitr; · iexact HR
    isplitl [Hs]; · iapply (Entails.of_eq (show srcPt m c 0 b 0 = s1Pt m c 0 b from rfl)); iexact Hs
    isplitl [Ht]; · iapply (Entails.of_eq (show tileAny (F := F) c 0 b = iprop(∃ f, t1Pt c b f) from rfl)); iexact Ht
    isplitl [Hd] <;> iassumption
  iintro Hc
  iapply Hk
  iapply Hf
  iexact Hc
theorem start_w2 (c : Dev nD) (b : Fin 2) {sem : SemLoc sig} {α : Type} {Q : α → sProp 𝕄} {k' : PUnit → Prog (TpuEff nD τ sig (Elt F) Λ₀ .tc) α}
    (hs : sem = at' (.loc 1 b)) {off off' : Fin 3 → ℕ} (ho : off = ![0, b.val * 1024, 0]) (ho' : off' = ![b.val, 0, 0])
    {h : ∀ a, off a + S1x1024x1024.size a ≤ S4x2048x1024.size a} {h' : ∀ a, off' a + S1x1024x1024.size a ≤ S2x1024x1024.size a}
    {hsrc : (a3S off h).view.WordExact} {hdst : (t2S off' h').view.WordExact} {hsem : DmaTarget.Typed (nD := nD) (τ := τ) (p := Proc.tc) .hbm sem (.here (t2S off' h'))} :
    iprop(Recs m K ∗ Idle m c 1 b)
      ⊢ iprop((Fly m c 1 b 0 -∗ WP c (k' ⟨⟩) Q) -∗ WP c (.op (.enqueueDma (a3S off h) (.here (t2S off' h')) sem hsrc hdst hsem) k') Q) := by
  iintro ⟨#HR, HI⟩ Hk
  ihave HI := (idle_open m K c 1 b) $$ [HI]
  · isplitr; · iexact HR
    iexact HI
  icases HI with ⟨Hs, Ht, Hd, Hr, Hf⟩
  iapply (copy_w2 m K c b 0 hs ho ho') $$ [Hs Ht Hd Hr]
  · isplitr; · iexact HR
    isplitl [Hs]; · iapply (Entails.of_eq (show srcPt m c 1 b 0 = s2Pt m c 0 b from rfl)); iexact Hs
    isplitl [Ht]; · iapply (Entails.of_eq (show tileAny (F := F) c 1 b = iprop(∃ f, t2Pt c b f) from rfl)); iexact Ht
    isplitl [Hd] <;> iassumption
  iintro Hc
  iapply Hk
  iapply Hf
  iexact Hc

theorem run1 (c : Dev nD) (Q : (Σ' (d0 : Dev nD), BitVec 32) → sProp 𝕄) :
    iprop(Recs m K ∗ Idle m c 0 0 ∗ Idle m c 1 0 ∗ Idle m c 0 1)
      ⊢ iprop((Fly m c 0 0 0 ∗ Fly m c 1 0 0 ∗ Fly m c 0 1 0 -∗ Q ⟨c, myW c⟩) -∗ WP c (atArgs (k0_part1 (F := F))) Q) := by
  unfold atArgs
  rw [k0_part1_eq_skeleton]; unfold k0_part1_skel
  simp only [semSignalWord, semWaitWord, Prog.lift, Prog.bind_op, Prog.bind_ret, Prog.pure_eq_ret]
  unfold WP
  rw [wp_deviceId]
  iintro ⟨#HR, H1, H2, H3⟩ Hk
  iapply (start_w1 m K c 0 (semL0 0 rfl _) rfl rfl) $$ [H1]
  · isplitr; · iexact HR
    iexact H1
  iintro H1
  iapply (start_w2 m K c 0 (semL1 0 rfl _) rfl rfl) $$ [H2]
  · isplitr; · iexact HR
    iexact H2
  iintro H2
  iapply (start_w1 m K c 1 (semL0 1 rfl _) rfl rfl) $$ [H3]
  · isplitr; · iexact HR
    iexact H3
  iintro H3
  iapply (wp_fin c _)
  iapply (Entails.of_eq (show Q ⟨c, myW c⟩ = Q ⟨(c : Thread nD τ).1, Scalar.remsi (Scalar.divsi (Dev.word (c : Thread nD τ).1) 1#32) 4#32⟩ from rfl))
  iapply Hk
  isplitl [H1]; · iexact H1
  isplitl [H2] <;> iassumption

/-- What a device still owes: from the second round of sends on; from the last on. -/
abbrev lO : List Pm := [.rcv 3 0, .rcv 3 1, .rcv 3 2]
abbrev lW : List Pm := .rcv 2 0 :: .rcv 2 1 :: .rcv 2 2 :: lO
abbrev lX : List Pm := .rcv 0 0 :: .rcv 1 0 :: .rcv 0 1 :: .rcv 1 1 :: .rcv 0 2 :: .rcv 1 2 :: lW

/-- The staged blocks. -/
abbrev x0Pt (c : Dev nD) : sProp 𝕄 := ((c : Thread nD τ).loc cc0_stg0_0) ↦{fullShare} xB m c
abbrev r0Pt (c : Dev nD) : sProp 𝕄 := ((c : Thread nD τ).loc cc0_stg1_0) ↦{fullShare} rB m c

theorem zero2 : (![0, 0] : Fin 2 → ℕ) = fun _ => 0 := by decide
theorem zero3 : (![0, 0, 0] : Fin 3 → ℕ) = fun _ => 0 := by decide

/-- The own slots, not yet written; then written, split into what is kept and what is lent. -/
def rawX (c : Dev nD) : sProp 𝕄 := iprop(∃ f, xPt c c fullShare f)
def rawR (c : Dev nD) : sProp 𝕄 := iprop(∃ f, rPt c c fullShare f)
def rawW (c : Dev nD) : sProp 𝕄 := iprop(∃ f, wPt c c fullShare f)

set_option maxHeartbeats 1000000 in
theorem run2 (c : Dev nD) (v2 : BitVec 32) (Q : Sems sig S_ → sProp 𝕄) :
    iprop(Recs m K ∗ Idle m c 1 1 ∗ x0Pt m c ∗ r0Pt m c ∗ rawX c ∗ rawR c ∗ ow c (.bar 0 :: .bar 1 :: .bar 2 :: lX)
        ∗ (dutyTok ER (cell (peer c 0) .bar) 0 c ∗ landing (F := F) c (peer c 0))
        ∗ (dutyTok ER (cell (peer c 1) .bar) 0 c ∗ landing (F := F) c (peer c 1))
        ∗ (dutyTok ER (cell (peer c 2) .bar) 0 c ∗ landing (F := F) c (peer c 2)))
      ⊢ iprop((Fly m c 1 1 0 ∗ x0Pt m c ∗ r0Pt m c ∗ xPt c c fullShare (XF m) ∗ rPt c c fullShare (RF m) ∗ ow c lX -∗ Q (SemArray.scalar barS))
        -∗ WP c (atArgs (k0_part2 (F := F)) c v2) Q) := by
  unfold atArgs rawX rawR
  rw [k0_part2_eq_skeleton]; unfold k0_part2_skel
  simp only [semSignalWord, semWaitWord, Prog.lift, Prog.bind_op, Prog.bind_ret, Prog.pure_eq_ret]
  have hx : plane (xM.view.read (Elt F) (XF m)) c = k0_pay1 (xB m c) := plane_stack (fun p : Fin 4 => k0_pay1 (xB m p)) c
  have hr : plane (rM.view.read (Elt F) (RF m)) c = k0_pay2 (rB m c) := plane_stack (fun p : Fin 4 => k0_pay2 (rB m p)) c
  iintro ⟨#HR, H1, Hx0, Hr0, ⟨%fx, Hx⟩, ⟨%fr, Hr⟩, HO, ⟨T0, L0⟩, ⟨T1, L1⟩, ⟨T2, L2⟩⟩ Hk
  iapply (start_w2 m K c 1 (semL1 1 rfl _) rfl rfl) $$ [H1]
  · isplitr; · iexact HR
    iexact H1
  iintro H1
  iapply (load_at c x0M (Memref.readAt_unit_zero (Elt F) cc0_stg0_0 zero2 _ _)) $$ Hx0
  iintro Hx0
  iapply (load_slot c xM (off1 c) (S := slotSet 4 256 1024 c) (setOn_x _).subset) $$ Hx
  iintro Hx
  iapply (store_slot c xM (off1 c) (S := slotSet 4 256 1024 c) (setOn_x _) hx) $$ Hx
  iintro Hx
  iapply (load_at c r0M (Memref.readAt_unit_zero (Elt F) cc0_stg1_0 zero2 _ _)) $$ Hr0
  iintro Hr0
  iapply (load_slot c rM (off2 c) (S := slotSet 4 1024 4 c) (setOn_r _).subset) $$ Hr
  iintro Hr
  iapply (store_slot c rM (off2 c) (S := slotSet 4 1024 4 c) (setOn_r _) hr) $$ Hr
  iintro Hr
  iapply (step_signal m K c 0 (.bar 1 :: .bar 2 :: lX) (congrArg Dev.tc (dev1 c)) rfl rfl (ne_peer c 0)) $$ [HO T0 L0]
  · isplitr; · iexact HR
    isplitl [HO]; · iexact HO
    isplitl [T0] <;> iassumption
  iintro HO
  iapply (step_signal m K c 1 (.bar 2 :: lX) (congrArg Dev.tc (dev2 c)) rfl rfl (ne_peer c 1)) $$ [HO T1 L1]
  · isplitr; · iexact HR
    isplitl [HO]; · iexact HO
    isplitl [T1] <;> iassumption
  iintro HO
  iapply (step_signal m K c 2 lX (congrArg Dev.tc (dev3 c)) rfl rfl (ne_peer c 2)) $$ [HO T2 L2]
  · isplitr; · iexact HR
    isplitl [HO]; · iexact HO
    isplitl [T2] <;> iassumption
  iintro HO
  iapply (wp_fin' c (a := SemArray.scalar barS) rfl)
  iapply Hk
  isplitl [H1]; · iexact H1
  isplitl [Hx0]; · iexact Hx0
  isplitl [Hr0]; · iexact Hr0
  isplitl [Hx]; · iexact Hx
  isplitl [Hr]; · iexact Hr
  iexact HO

/-- One transfer's side: what is lent, where it lands, and its tokens. -/
theorem run3 (c : Dev nD) (v2 : BitVec 32) (Q : BitVec 32 → sProp 𝕄) :
    iprop(Recs m K ∗ ow c lX ∗ (cred (tallyAt (cell c .bar) () 3) ∗ atPos ER (cell c .bar) 0 ∅ 0)
        ∗ (xPt c c (shareTokN fullShare 0) (XF m) ∗ Ready c 0 0) ∗ (rPt c c (shareTokN fullShare 0) (RF m) ∗ Ready c 1 0))
      ⊢ iprop((ow c (.rcv 0 1 :: .rcv 1 1 :: .rcv 0 2 :: .rcv 1 2 :: lW) ∗ atPos ER (cell c .bar) 1 ∅ 0
            ∗ Sent c 0 0 ∗ Sent c 1 0 ∗ ((∃ f, wPt (peer c 0) c fullShare f) ∗ ∃ f, iPt (peer c 0) c fullShare f)
            ∗ landing (F := F) (peer c 1) c ∗ landing (F := F) (peer c 2) c -∗ ∀ v, Q v)
        -∗ WP c (atArgs (k0_part3 (F := F)) c v2 (SemArray.scalar barS)) Q) := by
  unfold atArgs
  rw [k0_part3_eq_skeleton]; unfold k0_part3_skel
  simp only [semSignalWord, semWaitWord, Prog.lift, Prog.bind_op, Prog.bind_ret, Prog.pure_eq_ret]
  iintro ⟨#HR, HO, ⟨Hc, Ha⟩, ⟨Hx, Rx⟩, ⟨Hr, Rr⟩⟩ Hk
  iapply (wait_bar m K c lX (by decide) rfl rfl) $$ [HO Hc Ha]
  · isplitr; · iexact HR
    isplitl [HO]; · iexact HO
    isplitl [Hc] <;> iassumption
  iintro ⟨HO, Ha, L0, L1, L2⟩
  unfold landing
  icases L0 with ⟨Lx, Lr, Lw⟩
  iapply (send_x m K c 0 (.rcv 1 0 :: .rcv 0 1 :: .rcv 1 1 :: .rcv 0 2 :: .rcv 1 2 :: lW) (dev4 c) (semS0 0 rfl _) (semR0 c (off3 c) _) (off4 c)) $$ [Hx Lx HO Rx]
  · isplitr; · iexact HR
    isplitl [Hx]; · iexact Hx
    isplitl [Lx]; · iexact Lx
    isplitl [HO] <;> iassumption
  iintro ⟨Sx, HO⟩
  iapply (send_r m K c 0 (.rcv 0 1 :: .rcv 1 1 :: .rcv 0 2 :: .rcv 1 2 :: lW) (dev5 c) (semS1 0 rfl _) (semR1 c (off3 c) _) (off5 c)) $$ [Hr Lr HO Rr]
  · isplitr; · iexact HR
    isplitl [Hr]; · iexact Hr
    isplitl [Lr]; · iexact Lr
    isplitl [HO] <;> iassumption
  iintro ⟨Sr, HO⟩
  iapply (wp_fin c _)
  ispecialize Hk $$ [HO Ha Sx Sr Lw L1 L2]
  · isplitl [HO]; · iexact HO
    isplitl [Ha]; · iexact Ha
    isplitl [Sx]; · iexact Sx
    isplitl [Sr]; · iexact Sr
    isplitl [Lw]; · iexact Lw
    isplitl [L1] <;> iassumption
  iapply Hk

theorem run4 (c : Dev nD) (v2 v78 : BitVec 32) (Q : PUnit → sProp 𝕄) :
    iprop(Recs m K ∗ ow c (.rcv 0 1 :: .rcv 1 1 :: .rcv 0 2 :: .rcv 1 2 :: lW)
        ∗ (xPt c c (shareTokN fullShare 1) (XF m) ∗ Ready c 0 1 ∗ ∃ f, xPt (peer c 1) c fullShare f)
        ∗ (rPt c c (shareTokN fullShare 1) (RF m) ∗ Ready c 1 1 ∗ ∃ f, rPt (peer c 1) c fullShare f)
        ∗ (xPt c c (shareTokN fullShare 2) (XF m) ∗ Ready c 0 2 ∗ ∃ f, xPt (peer c 2) c fullShare f))
      ⊢ iprop((ow c (.rcv 1 2 :: lW) ∗ Sent c 0 1 ∗ Sent c 1 1 ∗ Sent c 0 2 -∗ Q ⟨⟩)
        -∗ WP c (atArgs (k0_part4 (F := F)) c v2 v78) Q) := by
  unfold atArgs
  rw [k0_part4_eq_skeleton]; unfold k0_part4_skel
  simp only [semSignalWord, semWaitWord, Prog.lift, Prog.bind_op, Prog.bind_ret, Prog.pure_eq_ret]
  iintro ⟨#HR, HO, ⟨Hx, Rx, Lx⟩, ⟨Hr, Rr, Lr⟩, ⟨Hy, Ry, Ly⟩⟩ Hk
  iapply (send_x m K c 1 (.rcv 1 1 :: .rcv 0 2 :: .rcv 1 2 :: lW) (dev6 c) (semS0 1 rfl _) (semR0 c (off3 c) _) (off4 c)) $$ [Hx Lx HO Rx]
  · isplitr; · iexact HR
    isplitl [Hx]; · iexact Hx
    isplitl [Lx]; · iexact Lx
    isplitl [HO] <;> iassumption
  iintro ⟨Sx, HO⟩
  iapply (send_r m K c 1 (.rcv 0 2 :: .rcv 1 2 :: lW) (dev7 c) (semS1 1 rfl _) (semR1 c (off3 c) _) (off5 c)) $$ [Hr Lr HO Rr]
  · isplitr; · iexact HR
    isplitl [Hr]; · iexact Hr
    isplitl [Lr]; · iexact Lr
    isplitl [HO] <;> iassumption
  iintro ⟨Sr, HO⟩
  iapply (send_x m K c 2 (.rcv 1 2 :: lW) (dev8 c) (semS0 2 rfl _) (semR0 c (off3 c) _) (off4 c)) $$ [Hy Ly HO Ry]
  · isplitr; · iexact HR
    isplitl [Hy]; · iexact Hy
    isplitl [Ly]; · iexact Ly
    isplitl [HO] <;> iassumption
  iintro ⟨Sy, HO⟩
  iapply (wp_fin c _)
  iapply Hk
  isplitl [HO]; · iexact HO
  isplitl [Sx]; · iexact Sx
  isplitl [Sr] <;> iassumption

theorem run5 (c : Dev nD) (v2 : BitVec 32) (Q : PUnit → sProp 𝕄) :
    iprop(Recs m K ∗ ow c (.rcv 1 2 :: lW)
        ∗ (rPt c c (shareTokN fullShare 2) (RF m) ∗ Ready c 1 2 ∗ ∃ f, rPt (peer c 2) c fullShare f)
        ∗ Due c 1 0 ∗ Due c 1 1)
      ⊢ iprop((ow c lW ∗ Sent c 1 2 ∗ Got m c 1 0 ∗ Got m c 1 1 -∗ Q ⟨⟩)
        -∗ WP c (atArgs (k0_part5 (F := F)) c v2) Q) := by
  unfold atArgs
  rw [k0_part5_eq_skeleton]; unfold k0_part5_skel
  simp only [semSignalWord, semWaitWord, Prog.lift, Prog.bind_op, Prog.bind_ret, Prog.pure_eq_ret]
  iintro ⟨#HR, HO, ⟨Hr, Rr, Lr⟩, D0, D1⟩ Hk
  iapply (send_r m K c 2 lW (dev9 c) (semS1 2 rfl _) (semR1 c (off3 c) _) (off5 c)) $$ [Hr Lr HO Rr]
  · isplitr; · iexact HR
    isplitl [Hr]; · iexact Hr
    isplitl [Lr]; · iexact Lr
    isplitl [HO] <;> iassumption
  iintro ⟨Sr, HO⟩
  have hl : ∀ a ∈ lW, 2 < a.lev := by decide
  iapply (wait_rcv m K c 1 0 lW hl (semR1 (peer c 0) (off6 c 0) _) (dst := rS (k0_off7 c 1#32) (k0_off7_inb c 0)) rfl) $$ [HO D0]
  · isplitr; · iexact HR
    isplitl [HO] <;> iassumption
  iintro ⟨HO, G0⟩
  iapply (wait_rcv m K c 1 1 lW hl (semR1 (peer c 1) (off6 c 1) _) (by exact rfl)) $$ [HO D1]
  · isplitr; · iexact HR
    isplitl [HO] <;> iassumption
  iintro ⟨HO, G1⟩
  iapply (wp_fin c _)
  iapply Hk
  isplitl [HO]; · iexact HO
  isplitl [Sr]; · iexact Sr
  isplitl [G0] <;> iassumption

end Cert.MoE

end
-- ==== Proof.Body2.lean ====
/-
# The body: routing and the arrival of the tokens
-/
module

public import proofs.«01_k».proof.Proof.Body1

@[expose] public section

noncomputable section

namespace Cert.MoE

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareDrop shareTokN)

variable {F : FTy → Type} [FloatOps F]
local notation "𝕄" => MT nD τ sig Unit (Elt F) ℕ UU ℕ

variable (m : (ℓ : Loc nD τ sig) → Buf (Elt F) ℓ) (K : Dev nD × Fin 33 → ℕ)

/-! ## Joined buffers -/

/-- A counter whose one arrival is done. -/
abbrev done (c : Dev nD) (f : Fin 4) (k : Fin 3) : sProp 𝕄 := atPos ER (cell c (.rcv f (peer c k))) 1 ∅ 0

abbrev allX (c : Dev nD) : sProp 𝕄 := ((c : Thread nD τ).loc cc0_scratch0) ↦{shareDrop fullShare 3} XF m
abbrev allR (c : Dev nD) : sProp 𝕄 := ((c : Thread nD τ).loc cc0_scratch1) ↦{shareDrop fullShare 3} RF m
abbrev allW (c : Dev nD) : sProp 𝕄 := ((c : Thread nD τ).loc cc0_scratch2) ↦{shareDrop fullShare 3} WF m
def lentX (c j : Dev nD) : sProp 𝕄 := lent (ℓ := (c : Thread nD τ).loc cc0_scratch0) (slotSet 4 256 1024 j) (XF m)
def lentR (c j : Dev nD) : sProp 𝕄 := lent (ℓ := (c : Thread nD τ).loc cc0_scratch1) (slotSet 4 1024 4 j) (RF m)
def lentW (c j : Dev nD) : sProp 𝕄 := lent (ℓ := (c : Thread nD τ).loc cc0_scratch2) (slotSet 4 256 4 j) (WF m)
/-- What is put aside when a buffer is joined: the received slots' other shares and the counters. -/
def asideX (c : Dev nD) : sProp 𝕄 := iprop((lentX m c (peer c 0) ∗ lentX m c (peer c 1) ∗ lentX m c (peer c 2)) ∗ done c 0 0 ∗ done c 0 1 ∗ done c 0 2)
def asideR (c : Dev nD) : sProp 𝕄 := iprop((lentR m c (peer c 0) ∗ lentR m c (peer c 1) ∗ lentR m c (peer c 2)) ∗ done c 1 0 ∗ done c 1 1 ∗ done c 1 2)
def asideW (c : Dev nD) : sProp 𝕄 := iprop((lentW m c (peer c 0) ∗ lentW m c (peer c 1) ∗ lentW m c (peer c 2)) ∗ done c 2 0 ∗ done c 2 1 ∗ done c 2 2)

theorem rcvX (c p : Dev nD) : rcvPay m c 0 p = xPt c p fullShare (XF m) := rfl
theorem joinX (c : Dev nD) : iprop(xPt c c (shareDrop fullShare 3) (XF m) ∗ Got m c 0 0 ∗ Got m c 0 1 ∗ Got m c 0 2) ⊢ iprop(allX m c ∗ asideX m c) := by
  unfold Got asideX lentX
  simp only [rcvX]
  iintro ⟨H, ⟨A0, H0⟩, ⟨A1, H1⟩, ⟨A2, H2⟩⟩
  ihave H := (unite (ℓ := (c : Thread nD τ).loc cc0_scratch0) (slotSet 4 256 1024) (fun _ _ h => slotSet_disjoint h) (biUnion_slotSet 4 256 1024) (XF m) c) $$ [H H0 H1 H2]
  · isplitl [H]; · iexact H
    isplitl [H0]; · iexact H0
    isplitl [H1] <;> iassumption
  icases H with ⟨H, HL⟩
  isplitl [H]; · iexact H
  isplitl [HL]; · iexact HL
  isplitl [A0]; · iexact A0
  isplitl [A1] <;> iassumption
theorem rcvR (c p : Dev nD) : rcvPay m c 1 p = rPt c p fullShare (RF m) := rfl
theorem joinR (c : Dev nD) : iprop(rPt c c (shareDrop fullShare 3) (RF m) ∗ Got m c 1 0 ∗ Got m c 1 1 ∗ Got m c 1 2) ⊢ iprop(allR m c ∗ asideR m c) := by
  unfold Got asideR lentR
  simp only [rcvR]
  iintro ⟨H, ⟨A0, H0⟩, ⟨A1, H1⟩, ⟨A2, H2⟩⟩
  ihave H := (unite (ℓ := (c : Thread nD τ).loc cc0_scratch1) (slotSet 4 1024 4) (fun _ _ h => slotSet_disjoint h) (biUnion_slotSet 4 1024 4) (RF m) c) $$ [H H0 H1 H2]
  · isplitl [H]; · iexact H
    isplitl [H0]; · iexact H0
    isplitl [H1] <;> iassumption
  icases H with ⟨H, HL⟩
  isplitl [H]; · iexact H
  isplitl [HL]; · iexact HL
  isplitl [A0]; · iexact A0
  isplitl [A1] <;> iassumption
theorem rcvW (c p : Dev nD) : rcvPay m c 2 p = wPt c p fullShare (WF m) := rfl
theorem joinW (c : Dev nD) : iprop(wPt c c (shareDrop fullShare 3) (WF m) ∗ Got m c 2 0 ∗ Got m c 2 1 ∗ Got m c 2 2) ⊢ iprop(allW m c ∗ asideW m c) := by
  unfold Got asideW lentW
  simp only [rcvW]
  iintro ⟨H, ⟨A0, H0⟩, ⟨A1, H1⟩, ⟨A2, H2⟩⟩
  ihave H := (unite (ℓ := (c : Thread nD τ).loc cc0_scratch2) (slotSet 4 256 4) (fun _ _ h => slotSet_disjoint h) (biUnion_slotSet 4 256 4) (WF m) c) $$ [H H0 H1 H2]
  · isplitl [H]; · iexact H
    isplitl [H0]; · iexact H0
    isplitl [H1] <;> iassumption
  icases H with ⟨H, HL⟩
  isplitl [H]; · iexact H
  isplitl [HL]; · iexact HL
  isplitl [A0]; · iexact A0
  isplitl [A1] <;> iassumption

theorem slot_tokX (c : Dev nD) : (xPt c c fullShare (XF m) : sProp 𝕄) = iprop(xPt c c (shareDrop fullShare 3) (XF m) ∗ lentX m c c) := toks_eq _ _
theorem slot_tokR (c : Dev nD) : (rPt c c fullShare (RF m) : sProp 𝕄) = iprop(rPt c c (shareDrop fullShare 3) (RF m) ∗ lentR m c c) := toks_eq _ _
theorem slot_tokW (c : Dev nD) : (wPt c c fullShare (WF m) : sProp 𝕄) = iprop(wPt c c (shareDrop fullShare 3) (WF m) ∗ lentW m c c) := toks_eq _ _

/-! ## The routing -/

theorem run6 (c : Dev nD) (Q : (Σ' (v171 : IVec S256x1 32) (v183 : IVec S256x1 32) (v185 : FVec F S256x1 .f32), FVec F S256x1 .f32) → sProp 𝕄) :
    iprop(Recs m K ∗ ow c lW ∗ Due c 1 2 ∗ (rPt c c (shareDrop fullShare 3) (RF m) ∗ Got m c 1 0 ∗ Got m c 1 1) ∗ x0Pt m c)
      ⊢ iprop((ow c lW ∗ allR m c ∗ asideR m c ∗ x0Pt m c
          -∗ Q ⟨k0_pay5 (k0_pay2 (rB m 0)) (k0_pay2 (rB m 1)) (k0_pay2 (rB m 2)) (k0_pay2 (rB m 3)) (xB m c), k0_pay8 (k0_pay2 (rB m 0)) (k0_pay2 (rB m 1)) (k0_pay2 (rB m 2)) (k0_pay2 (rB m 3)) (xB m c),
              k0_pay9 (k0_pay2 (rB m 0)) (k0_pay2 (rB m 1)) (k0_pay2 (rB m 2)) (k0_pay2 (rB m 3)) (xB m c), k0_pay10⟩)
        -∗ WP c (atArgs (k0_part6 (F := F)) c) Q) := by
  unfold atArgs
  rw [k0_part6_eq_skeleton]; unfold k0_part6_skel
  simp only [semSignalWord, semWaitWord, Prog.lift, Prog.bind_op, Prog.bind_ret, Prog.pure_eq_ret]
  have hl : ∀ a ∈ lW, 2 < a.lev := by decide
  have hr : ∀ j : Fin 4, plane (rM.view.read (Elt F) (RF m)) j = k0_pay2 (rB m j) := plane_stack (fun p : Fin 4 => k0_pay2 (rB m p))
  rw [← hr 0, ← hr 1, ← hr 2, ← hr 3]
  iintro ⟨#HR, HO, D2, ⟨Hr, G0, G1⟩, Hx⟩ Hk
  iapply (wait_rcv m K c 1 2 lW hl (semR1 (peer c 2) (off6 c 2) _) (by exact rfl)) $$ [HO D2]
  · isplitr; · iexact HR
    isplitl [HO] <;> iassumption
  iintro ⟨HO, G2⟩
  ihave Hr := (joinR m c) $$ [Hr G0 G1 G2]
  · isplitl [Hr]; · iexact Hr
    isplitl [G0]; · iexact G0
    isplitl [G1] <;> iassumption
  icases Hr with ⟨Hr, HA⟩
  iapply (load_slot c rM (j := 0) rfl (S := Finset.univ) (Finset.subset_univ _)) $$ Hr
  iintro Hr
  iapply (load_slot c rM (j := 1) rfl (S := Finset.univ) (Finset.subset_univ _)) $$ Hr
  iintro Hr
  iapply (load_slot c rM (j := 2) rfl (S := Finset.univ) (Finset.subset_univ _)) $$ Hr
  iintro Hr
  iapply (load_slot c rM (j := 3) rfl (S := Finset.univ) (Finset.subset_univ _)) $$ Hr
  iintro Hr
  iapply (load_at c x0M (Memref.readAt_unit_zero (Elt F) cc0_stg0_0 zero2 _ _)) $$ Hx
  iintro Hx
  iapply (wp_fin c _)
  iapply Hk
  isplitl [HO]; · iexact HO
  isplitl [Hr]; · iexact Hr
  isplitl [HA] <;> iassumption

theorem run7 (c : Dev nD) (v2 : BitVec 32) (Q : PUnit → sProp 𝕄) :
    iprop(Recs m K ∗ ow c lW ∗ rawW c ∗ Ready c 2 0 ∗ (∃ f, wPt (peer c 0) c fullShare f))
      ⊢ iprop((ow c (.rcv 2 1 :: .rcv 2 2 :: lO) ∗ Sent c 2 0 ∗ wPt c c (shareDrop fullShare 3) (WF m) ∗ wPt c c (shareTokN fullShare 1) (WF m) ∗ wPt c c (shareTokN fullShare 2) (WF m) -∗ Q ⟨⟩)
        -∗ WP c (atArgs (k0_part7 (F := F)) c v2
            (k0_pay5 (k0_pay2 (rB m 0)) (k0_pay2 (rB m 1)) (k0_pay2 (rB m 2)) (k0_pay2 (rB m 3)) (xB m c)) (k0_pay8 (k0_pay2 (rB m 0)) (k0_pay2 (rB m 1)) (k0_pay2 (rB m 2)) (k0_pay2 (rB m 3)) (xB m c))
              (k0_pay9 (k0_pay2 (rB m 0)) (k0_pay2 (rB m 1)) (k0_pay2 (rB m 2)) (k0_pay2 (rB m 3)) (xB m c)) k0_pay10) Q) := by
  unfold atArgs rawW
  rw [k0_part7_eq_skeleton]; unfold k0_part7_skel
  simp only [semSignalWord, semWaitWord, Prog.lift, Prog.bind_op, Prog.bind_ret, Prog.pure_eq_ret]
  have hw : plane (wM.view.read (Elt F) (WF m)) c = WV m c := plane_stack (fun p : Fin 4 => WV m p) c
  iintro ⟨#HR, HO, ⟨%fw, Hw⟩, Rw, Lw⟩ Hk
  iapply (load_slot c wM (off8 c) (S := slotSet 4 256 4 c) (setOn_w _).subset) $$ Hw
  iintro Hw
  iapply (store_slot c wM (off8 c) (S := slotSet 4 256 4 c) (setOn_w _) hw) $$ Hw
  iintro Hw
  ihave Hw := (Entails.of_eq (slot_tokW m c)) $$ Hw
  unfold lentW lent
  icases Hw with ⟨Hw, T0, T1, T2⟩
  iapply (send_w m K c 0 (.rcv 2 1 :: .rcv 2 2 :: lO) (dev10 c) (semS2 0 rfl _) (semR2 c (off3 c) _) (off9 c)) $$ [T0 Lw HO Rw]
  · isplitr; · iexact HR
    isplitl [T0]; · iexact T0
    isplitl [Lw]; · iexact Lw
    isplitl [HO] <;> iassumption
  iintro ⟨Sw, HO⟩
  iapply (wp_fin c _)
  iapply Hk
  isplitl [HO]; · iexact HO
  isplitl [Sw]; · iexact Sw
  isplitl [Hw]; · iexact Hw
  isplitl [T1] <;> iassumption

theorem run8 (c : Dev nD) (v2 : BitVec 32) (Q : PUnit → sProp 𝕄) :
    iprop(Recs m K ∗ ow c (.rcv 2 1 :: .rcv 2 2 :: lO)
        ∗ (wPt c c (shareTokN fullShare 1) (WF m) ∗ Ready c 2 1 ∗ ∃ f, wPt (peer c 1) c fullShare f)
        ∗ (wPt c c (shareTokN fullShare 2) (WF m) ∗ Ready c 2 2 ∗ ∃ f, wPt (peer c 2) c fullShare f) ∗ Due c 0 0)
      ⊢ iprop((ow c lO ∗ Sent c 2 1 ∗ Sent c 2 2 ∗ Got m c 0 0 -∗ Q ⟨⟩)
        -∗ WP c (atArgs (k0_part8 (F := F)) c v2) Q) := by
  unfold atArgs
  rw [k0_part8_eq_skeleton]; unfold k0_part8_skel
  simp only [semSignalWord, semWaitWord, Prog.lift, Prog.bind_op, Prog.bind_ret, Prog.pure_eq_ret]
  have hl : ∀ a ∈ lO, 3 < a.lev := by decide
  iintro ⟨#HR, HO, ⟨H1, R1, L1⟩, ⟨H2, R2, L2⟩, D0⟩ Hk
  iapply (send_w m K c 1 (.rcv 2 2 :: lO) (dev11 c) (semS2 1 rfl _) (semR2 c (off3 c) _) (off9 c)) $$ [H1 L1 HO R1]
  · isplitr; · iexact HR
    isplitl [H1]; · iexact H1
    isplitl [L1]; · iexact L1
    isplitl [HO] <;> iassumption
  iintro ⟨S1, HO⟩
  iapply (send_w m K c 2 lO (dev12 c) (semS2 2 rfl _) (semR2 c (off3 c) _) (off9 c)) $$ [H2 L2 HO R2]
  · isplitr; · iexact HR
    isplitl [H2]; · iexact H2
    isplitl [L2]; · iexact L2
    isplitl [HO] <;> iassumption
  iintro ⟨S2, HO⟩
  iapply (wait_rcv m K c 0 0 lO hl (semR0 (peer c 0) (off6 c 0) _) (by exact rfl)) $$ [HO D0]
  · isplitr; · iexact HR
    isplitl [HO] <;> iassumption
  iintro ⟨HO, G0⟩
  iapply (wp_fin c _)
  iapply Hk
  isplitl [HO]; · iexact HO
  isplitl [S1]; · iexact S1
  isplitl [S2] <;> iassumption

theorem run9 (c : Dev nD) (v2 : BitVec 32) (Q : BitVec 32 → sProp 𝕄) :
    iprop(Recs m K ∗ ow c lO ∗ Due c 2 0 ∗ Due c 0 1 ∗ Due c 2 1 ∗ Due c 0 2)
      ⊢ iprop((ow c lO ∗ Got m c 2 0 ∗ Got m c 0 1 ∗ Got m c 2 1 ∗ Got m c 0 2 -∗ ∀ v, Q v)
        -∗ WP c (atArgs (k0_part9 (F := F)) c v2) Q) := by
  unfold atArgs
  rw [k0_part9_eq_skeleton]; unfold k0_part9_skel
  simp only [semSignalWord, semWaitWord, Prog.lift, Prog.bind_op, Prog.bind_ret, Prog.pure_eq_ret]
  have hl : ∀ a ∈ lO, 3 < a.lev := by decide
  iintro ⟨#HR, HO, D0, D1, D2, D3⟩ Hk
  iapply (wait_rcv m K c 2 0 lO hl (semR2 (peer c 0) (off6 c 0) _) (by exact rfl)) $$ [HO D0]
  · isplitr; · iexact HR
    isplitl [HO] <;> iassumption
  iintro ⟨HO, G0⟩
  iapply (wait_rcv m K c 0 1 lO hl (semR0 (peer c 1) (off6 c 1) _) (by exact rfl)) $$ [HO D1]
  · isplitr; · iexact HR
    isplitl [HO] <;> iassumption
  iintro ⟨HO, G1⟩
  iapply (wait_rcv m K c 2 1 lO hl (semR2 (peer c 1) (off6 c 1) _) (by exact rfl)) $$ [HO D2]
  · isplitr; · iexact HR
    isplitl [HO] <;> iassumption
  iintro ⟨HO, G2⟩
  iapply (wait_rcv m K c 0 2 lO hl (semR0 (peer c 2) (off6 c 2) _) (by exact rfl)) $$ [HO D3]
  · isplitr; · iexact HR
    isplitl [HO] <;> iassumption
  iintro ⟨HO, G3⟩
  iapply (wp_fin c _)
  ispecialize Hk $$ [HO G0 G1 G2 G3]
  · isplitl [HO]; · iexact HO
    isplitl [G0]; · iexact G0
    isplitl [G1]; · iexact G1
    isplitl [G2] <;> iassumption
  iapply Hk

theorem run10 (c : Dev nD) (v283 : BitVec 32) (Q : (Σ' (v293 : FVec F S1024x1024 .f32) (v296 : FVec F S1024x1 .f32) (v297 : FVec F S1024x1 .f32) (v298 : FVec F S1024x1 .f32) (v299 : FVec F S1024x1 .f32), FVec F S1024x1024 .f32) → sProp 𝕄) :
    iprop(Recs m K ∗ ow c lO ∗ Due c 2 2 ∗ (wPt c c (shareDrop fullShare 3) (WF m) ∗ Got m c 2 0 ∗ Got m c 2 1)
        ∗ (xPt c c (shareDrop fullShare 3) (XF m) ∗ Got m c 0 0 ∗ Got m c 0 1 ∗ Got m c 0 2) ∗ Fly m c 0 0 0 ∗ Fly m c 1 0 0)
      ⊢ iprop((ow c lO ∗ allX m c ∗ asideX m c ∗ allW m c ∗ asideW m c ∗ (Land m c 0 0 0 ∗ tile m c 0 0 0) ∗ (Land m c 1 0 0 ∗ tile m c 1 0 0)
          -∗ Q ⟨vX m, vA1 m, vA2 m, vG1 m, vG2 m, k0_pay18⟩)
        -∗ WP c (atArgs (k0_part10 (F := F)) c v283) Q) := by
  unfold atArgs
  rw [k0_part10_eq_skeleton]; unfold k0_part10_skel
  simp only [semSignalWord, semWaitWord, Prog.lift, Prog.bind_op, Prog.bind_ret, Prog.pure_eq_ret]
  have hl : ∀ a ∈ lO, 3 < a.lev := by decide
  iintro ⟨#HR, HO, D2, ⟨Hw, G0, G1⟩, Hx, F0, F1⟩ Hk
  iapply (wait_rcv m K c 2 2 lO hl (semR2 (peer c 2) (off6 c 2) _) (by exact rfl)) $$ [HO D2]
  · isplitr; · iexact HR
    isplitl [HO] <;> iassumption
  iintro ⟨HO, G2⟩
  ihave Hw := (joinW m c) $$ [Hw G0 G1 G2]
  · isplitl [Hw]; · iexact Hw
    isplitl [G0]; · iexact G0
    isplitl [G1] <;> iassumption
  icases Hw with ⟨Hw, HA⟩
  ihave Hx := (joinX m c) $$ Hx
  icases Hx with ⟨Hx, HB⟩
  iapply (load_at c xM (Memref.readAt_unit_zero (Elt F) cc0_scratch0 zero3 _ _)) $$ Hx
  iintro Hx
  iapply (load_at c wM (Memref.readAt_unit_zero (Elt F) cc0_scratch2 zero3 _ _)) $$ Hw
  iintro Hw
  iapply (wait_loc m K c 0 0 0 lO (semL0 0 rfl _) (by exact rfl)) $$ [HO F0]
  · isplitr; · iexact HR
    isplitl [HO] <;> iassumption
  iintro ⟨HO, T0⟩
  iapply (wait_loc m K c 1 0 0 lO (semL1 0 rfl _) (by exact rfl)) $$ [HO F1]
  · isplitr; · iexact HR
    isplitl [HO] <;> iassumption
  iintro ⟨HO, T1⟩
  iapply (wp_fin c _)
  iapply (Entails.of_eq (show Q ⟨vX m, vA1 m, vA2 m, vG1 m, vG2 m, k0_pay18⟩ = Q ⟨k0_pay12 (XF m), k0_pay14 (WF m), k0_pay15 (WF m), k0_pay16 (WF m), k0_pay17 (WF m), k0_pay18⟩ from rfl))
  iapply Hk
  isplitl [HO]; · iexact HO
  isplitl [Hx]; · iexact Hx
  isplitl [HB]; · iexact HB
  isplitl [Hw]; · iexact Hw
  isplitl [HA]; · iexact HA
  isplitl [T0] <;> iassumption

end Cert.MoE

end
-- ==== Proof.Body3.lean ====
/-
# The body: the eight half-experts
-/
module

public import proofs.«01_k».proof.Proof.Body2

@[expose] public section

noncomputable section

namespace Cert.MoE

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareDrop shareTokN)

variable {F : FTy → Type} [FloatOps F]
local notation "𝕄" => MT nD τ sig Unit (Elt F) ℕ UU ℕ

variable (m : (ℓ : Loc nD τ sig) → Buf (Elt F) ℓ) (K : Dev nD × Fin 33 → ℕ)

/-- The next copy into a tile buffer whose tile has been read. -/
theorem next_w1 (c : Dev nD) (b : Fin 2) (e e' : Fin 4) (he : e'.val = e.val + 1) {sem : SemLoc sig} {α : Type} {Q : α → sProp 𝕄} {k' : PUnit → Prog (TpuEff nD τ sig (Elt F) Λ₀ .tc) α}
    (hs : sem = at' (.loc 0 b)) {off off' : Fin 3 → ℕ} (ho : off = ![e'.val, 0, b.val * 1024]) (ho' : off' = ![b.val, 0, 0])
    {h : ∀ a, off a + S1x1024x1024.size a ≤ S4x1024x2048.size a} {h' : ∀ a, off' a + S1x1024x1024.size a ≤ S2x1024x1024.size a}
    {hsrc : (a2S off h).view.WordExact} {hdst : (t1S off' h').view.WordExact} {hsem : DmaTarget.Typed (nD := nD) (τ := τ) (p := Proc.tc) .hbm sem (.here (t1S off' h'))} :
    iprop(Recs m K ∗ Land m c 0 b e ∗ tile m c 0 b e)
      ⊢ iprop((Fly m c 0 b e' -∗ WP c (k' ⟨⟩) Q) -∗ WP c (.op (.enqueueDma (a2S off h) (.here (t1S off' h')) sem hsrc hdst hsem) k') Q) := by
  iintro ⟨#HR, HI⟩ Hk
  ihave HI := (land_open m c 0 b e e' he) $$ HI
  icases HI with ⟨Hs, Ht, Hd, Hr, Hf⟩
  iapply (copy_w1 m K c b e' hs ho ho') $$ [Hs Ht Hd Hr]
  · isplitr; · iexact HR
    isplitl [Hs]; · iapply (Entails.of_eq (show srcPt m c 0 b e' = s1Pt m c e' b from rfl)); iexact Hs
    isplitl [Ht]; · iapply (Entails.of_eq (show tileAny (F := F) c 0 b = iprop(∃ f, t1Pt c b f) from rfl)); iexact Ht
    isplitl [Hd] <;> iassumption
  iintro Hc
  iapply Hk
  iapply Hf
  iexact Hc
theorem next_w2 (c : Dev nD) (b : Fin 2) (e e' : Fin 4) (he : e'.val = e.val + 1) {sem : SemLoc sig} {α : Type} {Q : α → sProp 𝕄} {k' : PUnit → Prog (TpuEff nD τ sig (Elt F) Λ₀ .tc) α}
    (hs : sem = at' (.loc 1 b)) {off off' : Fin 3 → ℕ} (ho : off = ![e'.val, b.val * 1024, 0]) (ho' : off' = ![b.val, 0, 0])
    {h : ∀ a, off a + S1x1024x1024.size a ≤ S4x2048x1024.size a} {h' : ∀ a, off' a + S1x1024x1024.size a ≤ S2x1024x1024.size a}
    {hsrc : (a3S off h).view.WordExact} {hdst : (t2S off' h').view.WordExact} {hsem : DmaTarget.Typed (nD := nD) (τ := τ) (p := Proc.tc) .hbm sem (.here (t2S off' h'))} :
    iprop(Recs m K ∗ Land m c 1 b e ∗ tile m c 1 b e)
      ⊢ iprop((Fly m c 1 b e' -∗ WP c (k' ⟨⟩) Q) -∗ WP c (.op (.enqueueDma (a3S off h) (.here (t2S off' h')) sem hsrc hdst hsem) k') Q) := by
  iintro ⟨#HR, HI⟩ Hk
  ihave HI := (land_open m c 1 b e e' he) $$ HI
  icases HI with ⟨Hs, Ht, Hd, Hr, Hf⟩
  iapply (copy_w2 m K c b e' hs ho ho') $$ [Hs Ht Hd Hr]
  · isplitr; · iexact HR
    isplitl [Hs]; · iapply (Entails.of_eq (show srcPt m c 1 b e' = s2Pt m c e' b from rfl)); iexact Hs
    isplitl [Ht]; · iapply (Entails.of_eq (show tileAny (F := F) c 1 b = iprop(∃ f, t2Pt c b f) from rfl)); iexact Ht
    isplitl [Hd] <;> iassumption
  iintro Hc
  iapply Hk
  iapply Hf
  iexact Hc

/-- Reading a tile. -/
theorem load_t1 (c : Dev nD) (b : Fin 2) (e : Fin 4) {off : Fin 3 → ℕ} (ho : off = ![b.val, 0, 0]) {h : ∀ d, off d + S1x1024x1024.size d ≤ S2x1024x1024.size d}
    {hl : t1M.view.LoadsAt (Rect.unit (s := S2x1024x1024) off S1x1024x1024.size h).toLoadRect}
    {α : Type} {Q : α → sProp 𝕄} {k' : Vec F S1x1024x1024 .f32 → Prog (TpuEff nD τ sig (Elt F) Λ₀ .tc) α} :
    tile m c 0 b e ⊢ iprop((tile m c 0 b e -∗ WP c (k' (w1T m c e b)) Q) -∗ WP c (.op (.load t1M (Rect.unit (s := S2x1024x1024) off S1x1024x1024.size h).toLoadRect hl) k') Q) := by
  have hp : plane (t1M.view.read (Elt F) (W1c m c e b)) b = w1T m c e b := plane_stack (fun _ : Fin 2 => w1T m c e b) b
  rw [← hp]
  exact load_slot c t1M ho (S := slotSet 2 1024 1024 b) (setOn_t1 _).subset
theorem load_t2 (c : Dev nD) (b : Fin 2) (e : Fin 4) {off : Fin 3 → ℕ} (ho : off = ![b.val, 0, 0]) {h : ∀ d, off d + S1x1024x1024.size d ≤ S2x1024x1024.size d}
    {hl : t2M.view.LoadsAt (Rect.unit (s := S2x1024x1024) off S1x1024x1024.size h).toLoadRect}
    {α : Type} {Q : α → sProp 𝕄} {k' : Vec F S1x1024x1024 .f32 → Prog (TpuEff nD τ sig (Elt F) Λ₀ .tc) α} :
    tile m c 1 b e ⊢ iprop((tile m c 1 b e -∗ WP c (k' (w2T m c e b)) Q) -∗ WP c (.op (.load t2M (Rect.unit (s := S2x1024x1024) off S1x1024x1024.size h).toLoadRect hl) k') Q) := by
  have hp : plane (t2M.view.read (Elt F) (W2c m c e b)) b = w2T m c e b := plane_stack (fun _ : Fin 2 => w2T m c e b) b
  rw [← hp]
  exact load_slot c t2M ho (S := slotSet 2 1024 1024 b) (setOn_t2 _).subset

/-- Both tiles of a half-expert, each with its counter and sources. -/
abbrev HasL (c : Dev nD) (w b : Fin 2) (e : Fin 4) : sProp 𝕄 := iprop(Land m c w b e ∗ tile m c w b e)

theorem run11 (c : Dev nD) (v2 : BitVec 32) (v293 : FVec F S1024x1024 .f32) (v296 v297 v298 v299 : FVec F S1024x1 .f32) (Q : (Σ' (v320 : FVec F S1024x1024 .f32), FVec F S1024x1024 .f32) → sProp 𝕄) :
    iprop(Recs m K ∗ HasL m c 0 0 0 ∗ HasL m c 1 0 0)
      ⊢ iprop((Fly m c 0 0 1 ∗ Fly m c 1 0 1 -∗ Q ⟨k0_pay19 v293 (w1T m c 0 0) (w2T m c 0 0), k0_pay20 v2 v296 v297 v298 v299⟩)
        -∗ WP c (atArgs (k0_part11 (F := F)) v2 v293 v296 v297 v298 v299) Q) := by
  unfold atArgs
  rw [k0_part11_eq_skeleton]; unfold k0_part11_skel
  simp only [semSignalWord, semWaitWord, Prog.lift, Prog.bind_op, Prog.bind_ret, Prog.pure_eq_ret]
  iintro ⟨#HR, A, B⟩ Hk
  icases A with ⟨A, T⟩
  iapply (load_t1 m c 0 0 rfl) $$ T
  iintro T
  ihave A := (show iprop(Land m c 0 0 0 ∗ tile m c 0 0 0) ⊢ HasL m c 0 0 0 from Entails.refl _) $$ [A T]
  · isplitl [A] <;> iassumption
  icases B with ⟨B, T⟩
  iapply (load_t2 m c 0 0 rfl) $$ T
  iintro T
  ihave B := (show iprop(Land m c 1 0 0 ∗ tile m c 1 0 0) ⊢ HasL m c 1 0 0 from Entails.refl _) $$ [B T]
  · isplitl [B] <;> iassumption
  iapply (next_w1 m K c 0 0 1 rfl (semL0 0 rfl _) rfl rfl) $$ [A]
  · isplitr; · iexact HR
    iexact A
  iintro A
  iapply (next_w2 m K c 0 0 1 rfl (semL1 0 rfl _) rfl rfl) $$ [B]
  · isplitr; · iexact HR
    iexact B
  iintro B
  iapply (wp_fin c _)
  iapply Hk
  isplitl [A]; · iexact A
  iexact B

theorem run12 (c : Dev nD) (v293 v300 v320 v345 : FVec F S1024x1024 .f32) (Q : (Σ' (v347 : FVec F S1024x1024 .f32), FVec F S1024x1024 .f32) → sProp 𝕄) :
    iprop(Recs m K ∗ ow c lO ∗ Fly m c 0 1 0 ∗ Fly m c 1 1 0)
      ⊢ iprop((ow c lO ∗ HasL m c 0 1 0 ∗ HasL m c 1 1 0 -∗ Q ⟨k0_pay21 v300 v320 v345, k0_pay22 v293 (w1T m c 0 1) (w2T m c 0 1)⟩)
        -∗ WP c (atArgs (k0_part12 (F := F)) v293 v300 v320 v345) Q) := by
  unfold atArgs
  rw [k0_part12_eq_skeleton]; unfold k0_part12_skel
  simp only [semSignalWord, semWaitWord, Prog.lift, Prog.bind_op, Prog.bind_ret, Prog.pure_eq_ret]
  iintro ⟨#HR, HO, A, B⟩ Hk
  iapply (wait_loc m K c 0 1 0 lO (semL0 1 rfl _) (by exact rfl)) $$ [HO A]
  · isplitr; · iexact HR
    isplitl [HO] <;> iassumption
  iintro ⟨HO, A⟩
  iapply (wait_loc m K c 1 1 0 lO (semL1 1 rfl _) (by exact rfl)) $$ [HO B]
  · isplitr; · iexact HR
    isplitl [HO] <;> iassumption
  iintro ⟨HO, B⟩
  icases A with ⟨A, T⟩
  iapply (load_t1 m c 1 0 rfl) $$ T
  iintro T
  ihave A := (show iprop(Land m c 0 1 0 ∗ tile m c 0 1 0) ⊢ HasL m c 0 1 0 from Entails.refl _) $$ [A T]
  · isplitl [A] <;> iassumption
  icases B with ⟨B, T⟩
  iapply (load_t2 m c 1 0 rfl) $$ T
  iintro T
  ihave B := (show iprop(Land m c 1 1 0 ∗ tile m c 1 1 0) ⊢ HasL m c 1 1 0 from Entails.refl _) $$ [B T]
  · isplitl [B] <;> iassumption
  iapply (wp_fin c _)
  iapply Hk
  isplitl [HO]; · iexact HO
  isplitl [A]; · iexact A
  iexact B

theorem run13 (c : Dev nD) (v2 : BitVec 32) (v296 v297 v298 v299 : FVec F S1024x1 .f32) (v347 v367 : FVec F S1024x1024 .f32) (Q : (FVec F S1024x1024 .f32) → sProp 𝕄) :
    iprop(Recs m K ∗ ow c lO ∗ HasL m c 0 1 0 ∗ HasL m c 1 1 0 ∗ Fly m c 0 0 1)
      ⊢ iprop((ow c lO ∗ Fly m c 0 1 1 ∗ Fly m c 1 1 1 ∗ HasL m c 0 0 1 -∗ Q (k0_pay23 v2 v296 v297 v298 v299 v347 v367))
        -∗ WP c (atArgs (k0_part13 (F := F)) v2 v296 v297 v298 v299 v347 v367) Q) := by
  unfold atArgs
  rw [k0_part13_eq_skeleton]; unfold k0_part13_skel
  simp only [semSignalWord, semWaitWord, Prog.lift, Prog.bind_op, Prog.bind_ret, Prog.pure_eq_ret]
  iintro ⟨#HR, HO, A, B, D⟩ Hk
  iapply (next_w1 m K c 1 0 1 rfl (semL0 1 rfl _) rfl rfl) $$ [A]
  · isplitr; · iexact HR
    iexact A
  iintro A
  iapply (next_w2 m K c 1 0 1 rfl (semL1 1 rfl _) rfl rfl) $$ [B]
  · isplitr; · iexact HR
    iexact B
  iintro B
  iapply (wait_loc m K c 0 0 1 lO (semL0 0 rfl _) (by exact rfl)) $$ [HO D]
  · isplitr; · iexact HR
    isplitl [HO] <;> iassumption
  iintro ⟨HO, D⟩
  iapply (wp_fin c _)
  iapply Hk
  isplitl [HO]; · iexact HO
  isplitl [A]; · iexact A
  isplitl [B]; · iexact B
  iexact D

theorem run14 (c : Dev nD) (v2 : BitVec 32) (v293 : FVec F S1024x1024 .f32) (v296 v297 v298 : FVec F S1024x1 .f32) (Q : (Σ' (v414 : FVec F S1024x1024 .f32) (v433 : FVec F S1024x1 .f32) (v435 : IVec S1024x1 1), F .f32) → sProp 𝕄) :
    iprop(Recs m K ∗ ow c lO ∗ HasL m c 0 0 1 ∗ Fly m c 1 0 1)
      ⊢ iprop((ow c lO ∗ Fly m c 0 0 2 ∗ Fly m c 1 0 2 -∗ Q ⟨k0_pay24 v293 (w1T m c 1 0) (w2T m c 1 0), k0_pay26 v2 v296 v298, k0_pay27 v2 v297, Scalar.ofBits .f32 0x00000000#32⟩)
        -∗ WP c (atArgs (k0_part14 (F := F)) v2 v293 v296 v297 v298) Q) := by
  unfold atArgs
  rw [k0_part14_eq_skeleton]; unfold k0_part14_skel
  simp only [semSignalWord, semWaitWord, Prog.lift, Prog.bind_op, Prog.bind_ret, Prog.pure_eq_ret]
  iintro ⟨#HR, HO, A, B⟩ Hk
  iapply (wait_loc m K c 1 0 1 lO (semL1 0 rfl _) (by exact rfl)) $$ [HO B]
  · isplitr; · iexact HR
    isplitl [HO] <;> iassumption
  iintro ⟨HO, B⟩
  icases A with ⟨A, T⟩
  iapply (load_t1 m c 0 1 rfl) $$ T
  iintro T
  ihave A := (show iprop(Land m c 0 0 1 ∗ tile m c 0 0 1) ⊢ HasL m c 0 0 1 from Entails.refl _) $$ [A T]
  · isplitl [A] <;> iassumption
  icases B with ⟨B, T⟩
  iapply (load_t2 m c 0 1 rfl) $$ T
  iintro T
  ihave B := (show iprop(Land m c 1 0 1 ∗ tile m c 1 0 1) ⊢ HasL m c 1 0 1 from Entails.refl _) $$ [B T]
  · isplitl [B] <;> iassumption
  iapply (next_w1 m K c 0 1 2 rfl (semL0 0 rfl _) rfl rfl) $$ [A]
  · isplitr; · iexact HR
    iexact A
  iintro A
  iapply (next_w2 m K c 0 1 2 rfl (semL1 0 rfl _) rfl rfl) $$ [B]
  · isplitr; · iexact HR
    iexact B
  iintro B
  iapply (wp_fin c _)
  iapply Hk
  isplitl [HO]; · iexact HO
  isplitl [A]; · iexact A
  iexact B

theorem run15 (c : Dev nD) (v293 : FVec F S1024x1024 .f32) (v299 : FVec F S1024x1 .f32) (v394 v414 : FVec F S1024x1024 .f32) (v433 : FVec F S1024x1 .f32) (v435 : IVec S1024x1 1) (cst : F .f32) (Q : (Σ' (v441 : FVec F S1024x1024 .f32), FVec F S1024x1024 .f32) → sProp 𝕄) :
    iprop(Recs m K ∗ ow c lO ∗ Fly m c 0 1 1 ∗ Fly m c 1 1 1)
      ⊢ iprop((ow c lO ∗ HasL m c 0 1 1 ∗ HasL m c 1 1 1 -∗ Q ⟨k0_pay28 v299 v394 v414 v433 v435 cst, k0_pay29 v293 (w1T m c 1 1) (w2T m c 1 1)⟩)
        -∗ WP c (atArgs (k0_part15 (F := F)) v293 v299 v394 v414 v433 v435 cst) Q) := by
  unfold atArgs
  rw [k0_part15_eq_skeleton]; unfold k0_part15_skel
  simp only [semSignalWord, semWaitWord, Prog.lift, Prog.bind_op, Prog.bind_ret, Prog.pure_eq_ret]
  iintro ⟨#HR, HO, A, B⟩ Hk
  iapply (wait_loc m K c 0 1 1 lO (semL0 1 rfl _) (by exact rfl)) $$ [HO A]
  · isplitr; · iexact HR
    isplitl [HO] <;> iassumption
  iintro ⟨HO, A⟩
  iapply (wait_loc m K c 1 1 1 lO (semL1 1 rfl _) (by exact rfl)) $$ [HO B]
  · isplitr; · iexact HR
    isplitl [HO] <;> iassumption
  iintro ⟨HO, B⟩
  icases A with ⟨A, T⟩
  iapply (load_t1 m c 1 1 rfl) $$ T
  iintro T
  ihave A := (show iprop(Land m c 0 1 1 ∗ tile m c 0 1 1) ⊢ HasL m c 0 1 1 from Entails.refl _) $$ [A T]
  · isplitl [A] <;> iassumption
  icases B with ⟨B, T⟩
  iapply (load_t2 m c 1 1 rfl) $$ T
  iintro T
  ihave B := (show iprop(Land m c 1 1 1 ∗ tile m c 1 1 1) ⊢ HasL m c 1 1 1 from Entails.refl _) $$ [B T]
  · isplitl [B] <;> iassumption
  iapply (wp_fin c _)
  iapply Hk
  isplitl [HO]; · iexact HO
  isplitl [A]; · iexact A
  iexact B

theorem run16 (c : Dev nD) (v2 : BitVec 32) (v296 v297 v298 v299 : FVec F S1024x1 .f32) (v441 v461 : FVec F S1024x1024 .f32) (Q : (FVec F S1024x1024 .f32) → sProp 𝕄) :
    iprop(Recs m K ∗ ow c lO ∗ HasL m c 0 1 1 ∗ HasL m c 1 1 1 ∗ Fly m c 0 0 2)
      ⊢ iprop((ow c lO ∗ Fly m c 0 1 2 ∗ Fly m c 1 1 2 ∗ HasL m c 0 0 2 -∗ Q (k0_pay30 v2 v296 v297 v298 v299 v441 v461))
        -∗ WP c (atArgs (k0_part16 (F := F)) v2 v296 v297 v298 v299 v441 v461) Q) := by
  unfold atArgs
  rw [k0_part16_eq_skeleton]; unfold k0_part16_skel
  simp only [semSignalWord, semWaitWord, Prog.lift, Prog.bind_op, Prog.bind_ret, Prog.pure_eq_ret]
  iintro ⟨#HR, HO, A, B, D⟩ Hk
  iapply (next_w1 m K c 1 1 2 rfl (semL0 1 rfl _) rfl rfl) $$ [A]
  · isplitr; · iexact HR
    iexact A
  iintro A
  iapply (next_w2 m K c 1 1 2 rfl (semL1 1 rfl _) rfl rfl) $$ [B]
  · isplitr; · iexact HR
    iexact B
  iintro B
  iapply (wait_loc m K c 0 0 2 lO (semL0 0 rfl _) (by exact rfl)) $$ [HO D]
  · isplitr; · iexact HR
    isplitl [HO] <;> iassumption
  iintro ⟨HO, D⟩
  iapply (wp_fin c _)
  iapply Hk
  isplitl [HO]; · iexact HO
  isplitl [A]; · iexact A
  isplitl [B]; · iexact B
  iexact D

theorem run17 (c : Dev nD) (v2 : BitVec 32) (v293 : FVec F S1024x1024 .f32) (v296 : FVec F S1024x1 .f32) (Q : (Σ' (v508 : FVec F S1024x1024 .f32) (v523 : F .f32) (v525 : IVec S1024x1 1), FVec F S1024x1 .f32) → sProp 𝕄) :
    iprop(Recs m K ∗ ow c lO ∗ HasL m c 0 0 2 ∗ Fly m c 1 0 2)
      ⊢ iprop((ow c lO ∗ Fly m c 0 0 3 ∗ Fly m c 1 0 3 -∗ Q ⟨k0_pay31 v293 (w1T m c 2 0) (w2T m c 2 0), k0_pay32 (F := F) v2, k0_pay33 v2 v296, k0_pay34 (F := F)⟩)
        -∗ WP c (atArgs (k0_part17 (F := F)) v2 v293 v296) Q) := by
  unfold atArgs
  rw [k0_part17_eq_skeleton]; unfold k0_part17_skel
  simp only [semSignalWord, semWaitWord, Prog.lift, Prog.bind_op, Prog.bind_ret, Prog.pure_eq_ret]
  iintro ⟨#HR, HO, A, B⟩ Hk
  iapply (wait_loc m K c 1 0 2 lO (semL1 0 rfl _) (by exact rfl)) $$ [HO B]
  · isplitr; · iexact HR
    isplitl [HO] <;> iassumption
  iintro ⟨HO, B⟩
  icases A with ⟨A, T⟩
  iapply (load_t1 m c 0 2 rfl) $$ T
  iintro T
  ihave A := (show iprop(Land m c 0 0 2 ∗ tile m c 0 0 2) ⊢ HasL m c 0 0 2 from Entails.refl _) $$ [A T]
  · isplitl [A] <;> iassumption
  icases B with ⟨B, T⟩
  iapply (load_t2 m c 0 2 rfl) $$ T
  iintro T
  ihave B := (show iprop(Land m c 1 0 2 ∗ tile m c 1 0 2) ⊢ HasL m c 1 0 2 from Entails.refl _) $$ [B T]
  · isplitl [B] <;> iassumption
  iapply (next_w1 m K c 0 2 3 rfl (semL0 0 rfl _) rfl rfl) $$ [A]
  · isplitr; · iexact HR
    iexact A
  iintro A
  iapply (next_w2 m K c 0 2 3 rfl (semL1 0 rfl _) rfl rfl) $$ [B]
  · isplitr; · iexact HR
    iexact B
  iintro B
  iapply (wp_fin c _)
  iapply Hk
  isplitl [HO]; · iexact HO
  isplitl [A]; · iexact A
  iexact B

theorem run18 (c : Dev nD) (v293 : FVec F S1024x1024 .f32) (v297 v298 v299 : FVec F S1024x1 .f32) (v488 v508 : FVec F S1024x1024 .f32) (v523 : F .f32) (v525 : IVec S1024x1 1) (v526 : FVec F S1024x1 .f32) (Q : (Σ' (v535 : FVec F S1024x1024 .f32), FVec F S1024x1024 .f32) → sProp 𝕄) :
    iprop(Recs m K ∗ ow c lO ∗ Fly m c 0 1 2 ∗ Fly m c 1 1 2)
      ⊢ iprop((ow c lO ∗ HasL m c 0 1 2 ∗ HasL m c 1 1 2 -∗ Q ⟨k0_pay35 v297 v298 v299 v488 v508 v523 v525 v526, k0_pay36 v293 (w1T m c 2 1) (w2T m c 2 1)⟩)
        -∗ WP c (atArgs (k0_part18 (F := F)) v293 v297 v298 v299 v488 v508 v523 v525 v526) Q) := by
  unfold atArgs
  rw [k0_part18_eq_skeleton]; unfold k0_part18_skel
  simp only [semSignalWord, semWaitWord, Prog.lift, Prog.bind_op, Prog.bind_ret, Prog.pure_eq_ret]
  iintro ⟨#HR, HO, A, B⟩ Hk
  iapply (wait_loc m K c 0 1 2 lO (semL0 1 rfl _) (by exact rfl)) $$ [HO A]
  · isplitr; · iexact HR
    isplitl [HO] <;> iassumption
  iintro ⟨HO, A⟩
  iapply (wait_loc m K c 1 1 2 lO (semL1 1 rfl _) (by exact rfl)) $$ [HO B]
  · isplitr; · iexact HR
    isplitl [HO] <;> iassumption
  iintro ⟨HO, B⟩
  icases A with ⟨A, T⟩
  iapply (load_t1 m c 1 2 rfl) $$ T
  iintro T
  ihave A := (show iprop(Land m c 0 1 2 ∗ tile m c 0 1 2) ⊢ HasL m c 0 1 2 from Entails.refl _) $$ [A T]
  · isplitl [A] <;> iassumption
  icases B with ⟨B, T⟩
  iapply (load_t2 m c 1 2 rfl) $$ T
  iintro T
  ihave B := (show iprop(Land m c 1 1 2 ∗ tile m c 1 1 2) ⊢ HasL m c 1 1 2 from Entails.refl _) $$ [B T]
  · isplitl [B] <;> iassumption
  iapply (wp_fin c _)
  iapply Hk
  isplitl [HO]; · iexact HO
  isplitl [A]; · iexact A
  iexact B

theorem run19 (c : Dev nD) (v2 : BitVec 32) (v296 v297 v298 v299 : FVec F S1024x1 .f32) (v535 v555 : FVec F S1024x1024 .f32) (Q : (FVec F S1024x1024 .f32) → sProp 𝕄) :
    iprop(Recs m K ∗ ow c lO ∗ HasL m c 0 1 2 ∗ HasL m c 1 1 2 ∗ Fly m c 0 0 3)
      ⊢ iprop((ow c lO ∗ Fly m c 0 1 3 ∗ Fly m c 1 1 3 ∗ HasL m c 0 0 3 -∗ Q (k0_pay37 v2 v296 v297 v298 v299 v535 v555))
        -∗ WP c (atArgs (k0_part19 (F := F)) v2 v296 v297 v298 v299 v535 v555) Q) := by
  unfold atArgs
  rw [k0_part19_eq_skeleton]; unfold k0_part19_skel
  simp only [semSignalWord, semWaitWord, Prog.lift, Prog.bind_op, Prog.bind_ret, Prog.pure_eq_ret]
  iintro ⟨#HR, HO, A, B, D⟩ Hk
  iapply (next_w1 m K c 1 2 3 rfl (semL0 1 rfl _) rfl rfl) $$ [A]
  · isplitr; · iexact HR
    iexact A
  iintro A
  iapply (next_w2 m K c 1 2 3 rfl (semL1 1 rfl _) rfl rfl) $$ [B]
  · isplitr; · iexact HR
    iexact B
  iintro B
  iapply (wait_loc m K c 0 0 3 lO (semL0 0 rfl _) (by exact rfl)) $$ [HO D]
  · isplitr; · iexact HR
    isplitl [HO] <;> iassumption
  iintro ⟨HO, D⟩
  iapply (wp_fin c _)
  iapply Hk
  isplitl [HO]; · iexact HO
  isplitl [A]; · iexact A
  isplitl [B]; · iexact B
  iexact D

theorem run20 (c : Dev nD) (v2 : BitVec 32) (v293 : FVec F S1024x1024 .f32) (v296 v297 v298 v299 : FVec F S1024x1 .f32) (v582 : FVec F S1024x1024 .f32) (Q : (FVec F S1024x1024 .f32) → sProp 𝕄) :
    iprop(Recs m K ∗ ow c lO ∗ HasL m c 0 0 3 ∗ Fly m c 1 0 3 ∗ Fly m c 0 1 3)
      ⊢ iprop((ow c lO ∗ HasL m c 0 0 3 ∗ HasL m c 1 0 3 ∗ HasL m c 0 1 3 -∗ Q (k0_pay38 v2 v293 v296 v297 v298 v299 v582 (w1T m c 3 0) (w2T m c 3 0)))
        -∗ WP c (atArgs (k0_part20 (F := F)) v2 v293 v296 v297 v298 v299 v582) Q) := by
  unfold atArgs
  rw [k0_part20_eq_skeleton]; unfold k0_part20_skel
  simp only [semSignalWord, semWaitWord, Prog.lift, Prog.bind_op, Prog.bind_ret, Prog.pure_eq_ret]
  iintro ⟨#HR, HO, A, B, D⟩ Hk
  iapply (wait_loc m K c 1 0 3 lO (semL1 0 rfl _) (by exact rfl)) $$ [HO B]
  · isplitr; · iexact HR
    isplitl [HO] <;> iassumption
  iintro ⟨HO, B⟩
  icases A with ⟨A, T⟩
  iapply (load_t1 m c 0 3 rfl) $$ T
  iintro T
  ihave A := (show iprop(Land m c 0 0 3 ∗ tile m c 0 0 3) ⊢ HasL m c 0 0 3 from Entails.refl _) $$ [A T]
  · isplitl [A] <;> iassumption
  icases B with ⟨B, T⟩
  iapply (load_t2 m c 0 3 rfl) $$ T
  iintro T
  ihave B := (show iprop(Land m c 1 0 3 ∗ tile m c 1 0 3) ⊢ HasL m c 1 0 3 from Entails.refl _) $$ [B T]
  · isplitl [B] <;> iassumption
  iapply (wait_loc m K c 0 1 3 lO (semL0 1 rfl _) (by exact rfl)) $$ [HO D]
  · isplitr; · iexact HR
    isplitl [HO] <;> iassumption
  iintro ⟨HO, D⟩
  iapply (wp_fin c _)
  iapply Hk
  isplitl [HO]; · iexact HO
  isplitl [A]; · iexact A
  isplitl [B]; · iexact B
  iexact D

theorem run21 (c : Dev nD) (v2 : BitVec 32) (v293 : FVec F S1024x1024 .f32) (v296 v297 v298 v299 : FVec F S1024x1 .f32) (v617 : FVec F S1024x1024 .f32) (Q : BitVec 32 → sProp 𝕄) :
    iprop(Recs m K ∗ ow c lO ∗ HasL m c 0 1 3 ∗ Fly m c 1 1 3 ∗ (∃ f, ((c : Thread nD τ).loc cc0_scratch5) ↦{fullShare} f))
      ⊢ iprop((ow c lO ∗ HasL m c 0 1 3 ∗ HasL m c 1 1 3
            ∗ (((c : Thread nD τ).loc cc0_scratch5) ↦{fullShare} (k0_pay39 v2 v293 v296 v297 v298 v299 v617 (w1T m c 3 1) (w2T m c 3 1) : Vec F S4x256x1024 .f32)) -∗ ∀ v, Q v)
        -∗ WP c (atArgs (k0_part21 (F := F)) v2 v293 v296 v297 v298 v299 v617) Q) := by
  unfold atArgs
  rw [k0_part21_eq_skeleton]; unfold k0_part21_skel
  simp only [semSignalWord, semWaitWord, Prog.lift, Prog.bind_op, Prog.bind_ret, Prog.pure_eq_ret]
  iintro ⟨#HR, HO, A, B, ⟨%fp, P⟩⟩ Hk
  iapply (wait_loc m K c 1 1 3 lO (semL1 1 rfl _) (by exact rfl)) $$ [HO B]
  · isplitr; · iexact HR
    isplitl [HO] <;> iassumption
  iintro ⟨HO, B⟩
  icases A with ⟨A, T⟩
  iapply (load_t1 m c 1 3 rfl) $$ T
  iintro T
  ihave A := (show iprop(Land m c 0 1 3 ∗ tile m c 0 1 3) ⊢ HasL m c 0 1 3 from Entails.refl _) $$ [A T]
  · isplitl [A] <;> iassumption
  icases B with ⟨B, T⟩
  iapply (load_t2 m c 1 3 rfl) $$ T
  iintro T
  ihave B := (show iprop(Land m c 1 1 3 ∗ tile m c 1 1 3) ⊢ HasL m c 1 1 3 from Entails.refl _) $$ [B T]
  · isplitl [B] <;> iassumption
  iapply (load_at c pM (Memref.readAt_unit_zero (Elt F) cc0_scratch5 zero3 _ _)) $$ P
  iintro P
  iapply (store_at c pM (Memref.write_access_unit_zero_univ (Elt F) cc0_scratch5 zero3 _ _ _)) $$ P
  iintro P
  iapply (wp_fin c _)
  ispecialize Hk $$ [HO A B P]
  · isplitl [HO]; · iexact HO
    isplitl [A]; · iexact A
    isplitl [B] <;> iassumption
  iapply Hk

end Cert.MoE

end
-- ==== Proof.Body4.lean ====
/-
# The body: the exchange of the partial results, and the end
-/
module

public import proofs.«01_k».proof.Proof.Body3

@[expose] public section

noncomputable section

namespace Cert.MoE

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareDrop shareTokN)

variable {F : FTy → Type} [FloatOps F]
local notation "𝕄" => MT nD τ sig Unit (Elt F) ℕ UU ℕ

variable (m : (ℓ : Loc nD τ sig) → Buf (Elt F) ℓ) (K : Dev nD × Fin 33 → ℕ)

/-- The partial results' buffer. -/
abbrev pPt (c : Dev nD) : sProp 𝕄 := ((c : Thread nD τ).loc cc0_scratch5) ↦{fullShare} PART m c
abbrev rawO (c : Dev nD) (k : Fin 3) : sProp 𝕄 := iprop(∃ f, oPt c k fullShare f)
abbrev y0Pt (c : Dev nD) : sProp 𝕄 := ((c : Thread nD τ).loc cc0_stg2_0) ↦{fullShare} OUT m c

theorem run22 (c : Dev nD) (v2 v657 : BitVec 32) (Q : PUnit → sProp 𝕄) :
    iprop(Recs m K ∗ ow c lO ∗ pPt m c ∗ (rawO c 0 ∗ Ready c 3 0 ∗ ∃ f, iPt (peer c 0) c fullShare f) ∗ rawO c 1)
      ⊢ iprop((ow c [.rcv 3 1, .rcv 3 2] ∗ pPt m c ∗ Sent c 3 0 ∗ oPt c 1 fullShare (ROUT m c) -∗ Q ⟨⟩)
        -∗ WP c (atArgs (k0_part22 (F := F)) c v2 v657) Q) := by
  unfold atArgs
  rw [k0_part22_eq_skeleton]; unfold k0_part22_skel
  simp only [semSignalWord, semWaitWord, Prog.lift, Prog.bind_op, Prog.bind_ret, Prog.pure_eq_ret]
  have ho0 : plane (oM.view.read (Elt F) (ROUT m c)) 0 = k0_pay40 (plane (PART m c) (peer c 0)) := plane_stack (fun k : Fin 3 => k0_pay40 (plane (PART m c) (peer c k))) 0
  have ho1 : plane (oM.view.read (Elt F) (ROUT m c)) 1 = k0_pay40 (plane (PART m c) (peer c 1)) := plane_stack (fun k : Fin 3 => k0_pay40 (plane (PART m c) (peer c k))) 1
  iintro ⟨#HR, HO, P, ⟨⟨%f0, O0⟩, R0, L0⟩, ⟨%f1, O1⟩⟩ Hk
  iapply (load_slot c pM (off12 c 0) (S := Finset.univ) (Finset.subset_univ _)) $$ P
  iintro P
  iapply (load_slot c oM (j := 0) rfl (S := slotSet 3 256 1024 0) (setOn_o _).subset) $$ O0
  iintro O0
  iapply (store_slot c oM (j := 0) rfl (S := slotSet 3 256 1024 0) (setOn_o _) ho0) $$ O0
  iintro O0
  iapply (send_o m K c 0 [.rcv 3 1, .rcv 3 2] (dev13 c) (semS3 0 rfl _) (semR3 c (off3 c) _) rfl (off4 c)) $$ [O0 L0 HO R0]
  · isplitr; · iexact HR
    isplitl [O0]; · iexact O0
    isplitl [L0]; · iexact L0
    isplitl [HO] <;> iassumption
  iintro ⟨S0, HO⟩
  iapply (load_slot c pM (off12 c 1) (S := Finset.univ) (Finset.subset_univ _)) $$ P
  iintro P
  iapply (load_slot c oM (j := 1) rfl (S := slotSet 3 256 1024 1) (setOn_o _).subset) $$ O1
  iintro O1
  iapply (store_slot c oM (j := 1) rfl (S := slotSet 3 256 1024 1) (setOn_o _) ho1) $$ O1
  iintro O1
  iapply (wp_fin c _)
  iapply Hk
  isplitl [HO]; · iexact HO
  isplitl [P]; · iexact P
  isplitl [S0]; · iexact S0
  iexact O1

theorem run23 (c : Dev nD) (v2 : BitVec 32) (Q : (Σ' (v713 : FVec F S256x1024 .f32), BitVec 32) → sProp 𝕄) :
    iprop(Recs m K ∗ ow c [.rcv 3 1, .rcv 3 2] ∗ pPt m c ∗ (oPt c 1 fullShare (ROUT m c) ∗ Ready c 3 1 ∗ ∃ f, iPt (peer c 1) c fullShare f) ∗ (rawO c 2 ∗ Ready c 3 2 ∗ ∃ f, iPt (peer c 2) c fullShare f))
      ⊢ iprop((ow c [] ∗ pPt m c ∗ Sent c 3 1 ∗ Sent c 3 2 -∗ ∀ v, Q ⟨k0_pay43 (plane (PART m c) c), v⟩)
        -∗ WP c (atArgs (k0_part23 (F := F)) c v2) Q) := by
  unfold atArgs
  rw [k0_part23_eq_skeleton]; unfold k0_part23_skel
  simp only [semSignalWord, semWaitWord, Prog.lift, Prog.bind_op, Prog.bind_ret, Prog.pure_eq_ret]
  have ho2 : plane (oM.view.read (Elt F) (ROUT m c)) 2 = k0_pay40 (plane (PART m c) (peer c 2)) := plane_stack (fun k : Fin 3 => k0_pay40 (plane (PART m c) (peer c k))) 2
  iintro ⟨#HR, HO, P, ⟨O1, R1, L1⟩, ⟨%f2, O2⟩, R2, L2⟩ Hk
  iapply (send_o m K c 1 [.rcv 3 2] (dev14 c) (semS3 1 rfl _) (semR3 c (off3 c) _) rfl (off4 c)) $$ [O1 L1 HO R1]
  · isplitr; · iexact HR
    isplitl [O1]; · iexact O1
    isplitl [L1]; · iexact L1
    isplitl [HO] <;> iassumption
  iintro ⟨S1, HO⟩
  iapply (load_slot c pM (off12 c 2) (S := Finset.univ) (Finset.subset_univ _)) $$ P
  iintro P
  iapply (load_slot c oM (j := 2) rfl (S := slotSet 3 256 1024 2) (setOn_o _).subset) $$ O2
  iintro O2
  iapply (store_slot c oM (j := 2) rfl (S := slotSet 3 256 1024 2) (setOn_o _) ho2) $$ O2
  iintro O2
  iapply (send_o m K c 2 [] (dev15 c) (semS3 2 rfl _) (semR3 c (off3 c) _) rfl (off4 c)) $$ [O2 L2 HO R2]
  · isplitr; · iexact HR
    isplitl [O2]; · iexact O2
    isplitl [L2]; · iexact L2
    isplitl [HO] <;> iassumption
  iintro ⟨S2, HO⟩
  iapply (load_slot c pM (off1 c) (S := Finset.univ) (Finset.subset_univ _)) $$ P
  iintro P
  iapply (wp_fin c _)
  ispecialize Hk $$ [HO P S1 S2]
  · isplitl [HO]; · iexact HO
    isplitl [P]; · iexact P
    isplitl [S1] <;> iassumption
  iapply (Entails.of_eq (show Q ⟨k0_pay43 (plane (PART m c) c), Scalar.remsi (Scalar.addi v2 1#32) 4#32⟩ = Q ⟨k0_pay43 (plane (pM.view.read (Elt F) (PART m c)) c), Scalar.remsi (Scalar.addi v2 1#32) 4#32⟩ from rfl))
  iapply Hk

theorem run24 (c : Dev nD) (v2 : BitVec 32) (v713 : FVec F S256x1024 .f32) (v715 : BitVec 32) (Q : (Σ' (v743 : FVec F S256x1024 .f32), BitVec 32) → sProp 𝕄) :
    iprop(Recs m K ∗ ow c [] ∗ Due c 3 0 ∗ Due c 3 1)
      ⊢ iprop((ow c [] ∗ (done c 3 0 ∗ iPt c (peer c 0) fullShare (RIN m c)) ∗ (done c 3 1 ∗ iPt c (peer c 1) fullShare (RIN m c)) -∗ ∀ v, Q ⟨k0_pay44 v713 (plane (RIN m c) (peer c 0)) (plane (RIN m c) (peer c 1)), v⟩)
        -∗ WP c (atArgs (k0_part24 (F := F)) c v2 v713 v715) Q) := by
  unfold atArgs
  rw [k0_part24_eq_skeleton]; unfold k0_part24_skel
  simp only [semSignalWord, semWaitWord, Prog.lift, Prog.bind_op, Prog.bind_ret, Prog.pure_eq_ret]
  have hl : ∀ a ∈ ([] : List Pm), 4 < a.lev := fun a h => nomatch h
  iintro ⟨#HR, HO, D0, D1⟩ Hk
  iapply (wait_rcv m K c 3 0 [] hl (semR3 (peer c 0) (off6 c 0) _) (by exact rfl)) $$ [HO D0]
  · isplitr; · iexact HR
    isplitl [HO] <;> iassumption
  iintro ⟨HO, G0⟩
  ihave G0 := (show Got m c 3 0 ⊢ iprop(done c 3 0 ∗ iPt c (peer c 0) fullShare (RIN m c)) from Entails.refl _) $$ G0
  icases G0 with ⟨A0, I0⟩
  iapply (load_slot c iM (off12 c 0) (S := slotSet 4 256 1024 (peer c 0)) (setOn_i _).subset) $$ I0
  iintro I0
  iapply (wait_rcv m K c 3 1 [] hl (semR3 (peer c 1) (off6 c 1) _) (by exact rfl)) $$ [HO D1]
  · isplitr; · iexact HR
    isplitl [HO] <;> iassumption
  iintro ⟨HO, G1⟩
  ihave G1 := (show Got m c 3 1 ⊢ iprop(done c 3 1 ∗ iPt c (peer c 1) fullShare (RIN m c)) from Entails.refl _) $$ G1
  icases G1 with ⟨A1, I1⟩
  iapply (load_slot c iM (off12 c 1) (S := slotSet 4 256 1024 (peer c 1)) (setOn_i _).subset) $$ I1
  iintro I1
  iapply (wp_fin c _)
  ispecialize Hk $$ [HO A0 I0 A1 I1]
  · isplitl [HO]; · iexact HO
    isplitl [A0 I0]
    · isplitl [A0] <;> iassumption
    isplitl [A1] <;> iassumption
  iapply (Entails.of_eq (show Q ⟨k0_pay44 v713 (plane (RIN m c) (peer c 0)) (plane (RIN m c) (peer c 1)), Scalar.remsi (Scalar.addi v2 3#32) 4#32⟩
      = Q ⟨k0_pay44 v713 (plane (iM.view.read (Elt F) (RIN m c)) (peer c 0)) (plane (iM.view.read (Elt F) (RIN m c)) (peer c 1)), Scalar.remsi (Scalar.addi v2 3#32) 4#32⟩ from rfl))
  iapply Hk

theorem run25 (c : Dev nD) (v2 : BitVec 32) (v743 : FVec F S256x1024 .f32) (v745 : BitVec 32) (Q : PUnit → sProp 𝕄) :
    iprop(Recs m K ∗ ow c [] ∗ Due c 3 2 ∗ (∃ f, ((c : Thread nD τ).loc cc0_stg2_0) ↦{fullShare} f) ∗ Sent c 0 0 ∗ Sent c 1 0 ∗ Sent c 2 0)
      ⊢ iprop((ow c [] ∗ (done c 3 2 ∗ iPt c (peer c 2) fullShare (RIN m c)) ∗ (((c : Thread nD τ).loc cc0_stg2_0) ↦{fullShare} (k0_pay45 v743 (plane (RIN m c) (peer c 2)) : Vec F S256x1024 .f32)) ∗ Back m c 0 0 ∗ Back m c 1 0 ∗ Back m c 2 0 -∗ Q ⟨⟩)
        -∗ WP c (atArgs (k0_part25 (F := F)) c v2 v743 v745) Q) := by
  unfold atArgs
  rw [k0_part25_eq_skeleton]; unfold k0_part25_skel
  simp only [semSignalWord, semWaitWord, Prog.lift, Prog.bind_op, Prog.bind_ret, Prog.pure_eq_ret]
  have hl : ∀ a ∈ ([] : List Pm), 4 < a.lev := fun a h => nomatch h
  iintro ⟨#HR, HO, D2, ⟨%fy, Y⟩, X0, X1, X2⟩ Hk
  iapply (wait_rcv m K c 3 2 [] hl (semR3 (peer c 2) (off6 c 2) _) (by exact rfl)) $$ [HO D2]
  · isplitr; · iexact HR
    isplitl [HO] <;> iassumption
  iintro ⟨HO, G2⟩
  ihave G2 := (show Got m c 3 2 ⊢ iprop(done c 3 2 ∗ iPt c (peer c 2) fullShare (RIN m c)) from Entails.refl _) $$ G2
  icases G2 with ⟨A2, I2⟩
  iapply (load_slot c iM (off12 c 2) (S := slotSet 4 256 1024 (peer c 2)) (setOn_i _).subset) $$ I2
  iintro I2
  iapply (load_at c y0M (Memref.readAt_unit_zero (Elt F) cc0_stg2_0 zero2 _ _)) $$ Y
  iintro Y
  iapply (store_at c y0M (Memref.write_access_unit_zero_univ (Elt F) cc0_stg2_0 zero2 _ _ _)) $$ Y
  iintro Y
  iapply (wait_snd m K c 0 0 [] (semS0 0 rfl _) (by exact rfl)) $$ [HO X0]
  · isplitr; · iexact HR
    isplitl [HO] <;> iassumption
  iintro ⟨HO, X0⟩
  iapply (wait_snd m K c 1 0 [] (semS1 0 rfl _) (by exact rfl)) $$ [HO X1]
  · isplitr; · iexact HR
    isplitl [HO] <;> iassumption
  iintro ⟨HO, X1⟩
  iapply (wait_snd m K c 2 0 [] (semS2 0 rfl _) (by exact rfl)) $$ [HO X2]
  · isplitr; · iexact HR
    isplitl [HO] <;> iassumption
  iintro ⟨HO, X2⟩
  iapply (wp_fin c _)
  iapply Hk
  isplitl [HO]; · iexact HO
  isplitl [A2 I2]
  · isplitl [A2] <;> iassumption
  isplitl [Y]; · iexact Y
  isplitl [X0]; · iexact X0
  isplitl [X1]; · iexact X1
  iexact X2

theorem run26 (c : Dev nD) (v2 : BitVec 32) (Q : PUnit → sProp 𝕄) :
    iprop(Recs m K ∗ ow c [] ∗ Sent c 3 0 ∗ Sent c 0 1 ∗ Sent c 1 1 ∗ Sent c 2 1)
      ⊢ iprop((ow c [] ∗ Back m c 3 0 ∗ Back m c 0 1 ∗ Back m c 1 1 ∗ Back m c 2 1 -∗ Q ⟨⟩)
        -∗ WP c (atArgs (k0_part26 (F := F)) c v2) Q) := by
  unfold atArgs
  rw [k0_part26_eq_skeleton]; unfold k0_part26_skel
  simp only [semSignalWord, semWaitWord, Prog.lift, Prog.bind_op, Prog.bind_ret, Prog.pure_eq_ret]
  iintro ⟨#HR, HO, X3, X0, X1, X2⟩ Hk
  iapply (wait_snd m K c 3 0 [] (semS3 0 rfl _) (by exact rfl)) $$ [HO X3]
  · isplitr; · iexact HR
    isplitl [HO] <;> iassumption
  iintro ⟨HO, X3⟩
  iapply (wait_snd m K c 0 1 [] (semS0 1 rfl _) (by exact rfl)) $$ [HO X0]
  · isplitr; · iexact HR
    isplitl [HO] <;> iassumption
  iintro ⟨HO, X0⟩
  iapply (wait_snd m K c 1 1 [] (semS1 1 rfl _) (by exact rfl)) $$ [HO X1]
  · isplitr; · iexact HR
    isplitl [HO] <;> iassumption
  iintro ⟨HO, X1⟩
  iapply (wait_snd m K c 2 1 [] (semS2 1 rfl _) (by exact rfl)) $$ [HO X2]
  · isplitr; · iexact HR
    isplitl [HO] <;> iassumption
  iintro ⟨HO, X2⟩
  iapply (wp_fin c _)
  iapply Hk
  isplitl [HO]; · iexact HO
  isplitl [X3]; · iexact X3
  isplitl [X0]; · iexact X0
  isplitl [X1]; · iexact X1
  iexact X2

theorem run27 (c : Dev nD) (v2 : BitVec 32) (Q : PUnit → sProp 𝕄) :
    iprop(Recs m K ∗ ow c [] ∗ Sent c 3 1 ∗ Sent c 0 2 ∗ Sent c 1 2 ∗ Sent c 2 2)
      ⊢ iprop((ow c [] ∗ Back m c 3 1 ∗ Back m c 0 2 ∗ Back m c 1 2 ∗ Back m c 2 2 -∗ Q ⟨⟩)
        -∗ WP c (atArgs (k0_part27 (F := F)) c v2) Q) := by
  unfold atArgs
  rw [k0_part27_eq_skeleton]; unfold k0_part27_skel
  simp only [semSignalWord, semWaitWord, Prog.lift, Prog.bind_op, Prog.bind_ret, Prog.pure_eq_ret]
  iintro ⟨#HR, HO, X3, X0, X1, X2⟩ Hk
  iapply (wait_snd m K c 3 1 [] (semS3 1 rfl _) (by exact rfl)) $$ [HO X3]
  · isplitr; · iexact HR
    isplitl [HO] <;> iassumption
  iintro ⟨HO, X3⟩
  iapply (wait_snd m K c 0 2 [] (semS0 2 rfl _) (by exact rfl)) $$ [HO X0]
  · isplitr; · iexact HR
    isplitl [HO] <;> iassumption
  iintro ⟨HO, X0⟩
  iapply (wait_snd m K c 1 2 [] (semS1 2 rfl _) (by exact rfl)) $$ [HO X1]
  · isplitr; · iexact HR
    isplitl [HO] <;> iassumption
  iintro ⟨HO, X1⟩
  iapply (wait_snd m K c 2 2 [] (semS2 2 rfl _) (by exact rfl)) $$ [HO X2]
  · isplitr; · iexact HR
    isplitl [HO] <;> iassumption
  iintro ⟨HO, X2⟩
  iapply (wp_fin c _)
  iapply Hk
  isplitl [HO]; · iexact HO
  isplitl [X3]; · iexact X3
  isplitl [X0]; · iexact X0
  isplitl [X1]; · iexact X1
  iexact X2

end Cert.MoE

end
-- ==== Proof.Body.lean ====
/-
# One device's run
-/
module

public import proofs.«01_k».proof.Proof.Body4

@[expose] public section

noncomputable section

namespace Cert.MoE

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareDrop shareTokN)

variable {F : FTy → Type} [FloatOps F]
local notation "𝕄" => MT nD τ sig Unit (Elt F) ℕ UU ℕ

variable (m : (ℓ : Loc nD τ sig) → Buf (Elt F) ℓ) (K : Dev nD × Fin 33 → ℕ)

/-- The program on the arguments the launch gives it. -/
abbrev prog : Prog (TpuEff nD τ sig (Elt F) Λ₀ .tc) PUnit := atArgs (cc0_body (F := F))

theorem bind_run (c : Dev nD) {α β : Type} {p : Prog (TpuEff nD τ sig (Elt F) Λ₀ .tc) α} {k : α → Prog (TpuEff nD τ sig (Elt F) Λ₀ .tc) β} {Q : β → sProp 𝕄} :
    WP c p (fun a => WP c (k a) Q) ⊢ WP c (p >>= k) Q := Entails.of_eq (wp_bind _ _ _ _ _ _).symm

/-- The partial result, spelled out. -/
theorem part_eq (c : Dev nD) :
    (((c : Thread nD τ).loc cc0_scratch5) ↦{fullShare}
      (k0_pay39 (myW c) (vX m) (vA1 m) (vA2 m) (vG1 m) (vG2 m)
        (k0_pay38 (myW c) (vX m) (vA1 m) (vA2 m) (vG1 m) (vG2 m)
          (k0_pay37 (myW c) (vA1 m) (vA2 m) (vG1 m) (vG2 m)
            (k0_pay35 (vA2 m) (vG1 m) (vG2 m)
              (k0_pay30 (myW c) (vA1 m) (vA2 m) (vG1 m) (vG2 m)
                (k0_pay28 (vG2 m)
                  (k0_pay23 (myW c) (vA1 m) (vA2 m) (vG1 m) (vG2 m)
                    (k0_pay21 k0_pay18 (k0_pay19 (vX m) (w1T m c 0 0) (w2T m c 0 0)) (k0_pay20 (myW c) (vA1 m) (vA2 m) (vG1 m) (vG2 m)))
                    (k0_pay22 (vX m) (w1T m c 0 1) (w2T m c 0 1)))
                  (k0_pay24 (vX m) (w1T m c 1 0) (w2T m c 1 0)) (k0_pay26 (myW c) (vA1 m) (vG1 m)) (k0_pay27 (myW c) (vA2 m)) (FloatOps.ofBits FTy.f32 0#32))
                (k0_pay29 (vX m) (w1T m c 1 1) (w2T m c 1 1)))
              (k0_pay31 (vX m) (w1T m c 2 0) (w2T m c 2 0)) (k0_pay32 (myW c)) (k0_pay33 (myW c) (vA1 m)) k0_pay34)
            (k0_pay36 (vX m) (w1T m c 2 1) (w2T m c 2 1)))
          (w1T m c 3 0) (w2T m c 3 0))
        (w1T m c 3 1) (w2T m c 3 1) : Vec F S4x256x1024 .f32) : sProp 𝕄) = pPt m c := rfl
theorem out_eq (c : Dev nD) :
    (((c : Thread nD τ).loc cc0_stg2_0) ↦{fullShare}
      (k0_pay45 (k0_pay44 (k0_pay43 (plane (PART m c) c)) (plane (RIN m c) (peer c 0)) (plane (RIN m c) (peer c 1))) (plane (RIN m c) (peer c 2)) : Vec F S256x1024 .f32) : sProp 𝕄)
      = y0Pt m c := rfl

/-- What a device's run of the program uses. -/
def before (c : Dev nD) : sProp 𝕄 :=
  iprop(ow c pays
    ∗ (cred (tallyAt (cell c .bar) () 3) ∗ atPos ER (cell c .bar) 0 ∅ 0)
    ∗ x0Pt m c
    ∗ r0Pt m c
    ∗ rawX c
    ∗ rawR c
    ∗ rawW c
    ∗ Idle m c 0 0
    ∗ Idle m c 0 1
    ∗ Idle m c 1 0
    ∗ Idle m c 1 1
    ∗ (dutyTok ER (cell (peer c 0) .bar) 0 c ∗ landing (F := F) c (peer c 0))
    ∗ (dutyTok ER (cell (peer c 1) .bar) 0 c ∗ landing (F := F) c (peer c 1))
    ∗ (dutyTok ER (cell (peer c 2) .bar) 0 c ∗ landing (F := F) c (peer c 2))
    ∗ Ready c 0 0
    ∗ Ready c 0 1
    ∗ Ready c 0 2
    ∗ Ready c 1 0
    ∗ Ready c 1 1
    ∗ Ready c 1 2
    ∗ Ready c 2 0
    ∗ Ready c 2 1
    ∗ Ready c 2 2
    ∗ Ready c 3 0
    ∗ Ready c 3 1
    ∗ Ready c 3 2
    ∗ Due c 0 0
    ∗ Due c 0 1
    ∗ Due c 0 2
    ∗ Due c 1 0
    ∗ Due c 1 1
    ∗ Due c 1 2
    ∗ Due c 2 0
    ∗ Due c 2 1
    ∗ Due c 2 2
    ∗ Due c 3 0
    ∗ Due c 3 1
    ∗ Due c 3 2
    ∗ (∃ f, ((c : Thread nD τ).loc cc0_scratch5) ↦{fullShare} f)
    ∗ rawO c 0
    ∗ rawO c 1
    ∗ rawO c 2
    ∗ ∃ f, ((c : Thread nD τ).loc cc0_stg2_0) ↦{fullShare} f)

/-- What it ends with. -/
def after (c : Dev nD) : sProp 𝕄 :=
  iprop(ow c []
    ∗ atPos ER (cell c .bar) 1 ∅ 0
    ∗ x0Pt m c
    ∗ r0Pt m c
    ∗ allX m c
    ∗ asideX m c
    ∗ allR m c
    ∗ asideR m c
    ∗ allW m c
    ∗ asideW m c
    ∗ HasL m c 0 0 3
    ∗ HasL m c 0 1 3
    ∗ HasL m c 1 0 3
    ∗ HasL m c 1 1 3
    ∗ pPt m c
    ∗ (done c 3 0 ∗ iPt c (peer c 0) fullShare (RIN m c))
    ∗ (done c 3 1 ∗ iPt c (peer c 1) fullShare (RIN m c))
    ∗ (done c 3 2 ∗ iPt c (peer c 2) fullShare (RIN m c))
    ∗ y0Pt m c
    ∗ Back m c 0 0
    ∗ Back m c 0 1
    ∗ Back m c 0 2
    ∗ Back m c 1 0
    ∗ Back m c 1 1
    ∗ Back m c 1 2
    ∗ Back m c 2 0
    ∗ Back m c 2 1
    ∗ Back m c 2 2
    ∗ Back m c 3 0
    ∗ Back m c 3 1
    ∗ Back m c 3 2)

set_option maxRecDepth 65536 in
set_option maxHeartbeats 4000000 in
/-- One device's run of the whole program. -/
theorem run_body (c : Dev nD) (Q : PUnit → sProp 𝕄) :
    iprop(Recs m K ∗ before m c) ⊢ iprop((after m c -∗ Q ⟨⟩) -∗ WP c prog Q) := by
  unfold before
  unfold prog atArgs
  rw [cc0_body_eq_skeleton]
  unfold cc0_body_skel
  iintro ⟨#HR, HO, B, X0, R0, rX, rR, rW, I00, I01, I10, I11, T0, T1, T2, Rd00, Rd01, Rd02, Rd10, Rd11, Rd12, Rd20, Rd21, Rd22, Rd30, Rd31, Rd32, D00, D01, D02, D10, D11, D12, D20, D21, D22, D30, D31, D32, P5, O0, O1, O2, Y⟩ Hk
  iapply (bind_run c)
  iapply (run1 m K c _) $$ [I00 I10 I01]
  · isplitr; · iexact HR
    isplitl [I00]; · iexact I00
    isplitl [I10]; · iexact I10
    iexact I01
  iintro ⟨I00, I10, I01⟩
  iapply (bind_run c)
  iapply (run2 m K c (myW c) _) $$ [I11 X0 R0 rX rR HO T0 T1 T2]
  · isplitr; · iexact HR
    isplitl [I11]; · iexact I11
    isplitl [X0]; · iexact X0
    isplitl [R0]; · iexact R0
    isplitl [rX]; · iexact rX
    isplitl [rR]; · iexact rR
    isplitl [HO]; · iexact HO
    isplitl [T0]; · iexact T0
    isplitl [T1]; · iexact T1
    iexact T2
  iintro ⟨I11, X0, R0, rX, rR, HO⟩
  ihave rX := (Entails.of_eq (slot_tokX m c)) $$ rX
  ihave rR := (Entails.of_eq (slot_tokR m c)) $$ rR
  unfold lentX lentR lent
  icases rX with ⟨rX, tx0, tx1, tx2⟩
  icases rR with ⟨rR, tr0, tr1, tr2⟩
  iapply (bind_run c)
  iapply (run3 m K c (myW c) _) $$ [HO B tx0 Rd00 tr0 Rd10]
  · isplitr; · iexact HR
    isplitl [HO]; · iexact HO
    isplitl [B]; · iexact B
    isplitl [tx0 Rd00]
    · isplitl [tx0]; · iexact tx0
      iexact Rd00
    isplitl [tr0]; · iexact tr0
    iexact Rd10
  iintro ⟨HO, B, S00, S10, ⟨lw0, li0⟩, M1, M2⟩
  iintro %v78
  unfold landing
  icases M1 with ⟨lx1, lr1, lw1, li1⟩
  icases M2 with ⟨lx2, lr2, lw2, li2⟩
  iapply (bind_run c)
  iapply (run4 m K c (myW c) v78 _) $$ [HO tx1 Rd01 lx1 tr1 Rd11 lr1 tx2 Rd02 lx2]
  · isplitr; · iexact HR
    isplitl [HO]; · iexact HO
    isplitl [tx1 Rd01 lx1]
    · isplitl [tx1]; · iexact tx1
      isplitl [Rd01]; · iexact Rd01
      iexact lx1
    isplitl [tr1 Rd11 lr1]
    · isplitl [tr1]; · iexact tr1
      isplitl [Rd11]; · iexact Rd11
      iexact lr1
    isplitl [tx2]; · iexact tx2
    isplitl [Rd02]; · iexact Rd02
    iexact lx2
  iintro ⟨HO, S01, S11, S02⟩
  iapply (bind_run c)
  iapply (run5 m K c (myW c) _) $$ [HO tr2 Rd12 lr2 D10 D11]
  · isplitr; · iexact HR
    isplitl [HO]; · iexact HO
    isplitl [tr2 Rd12 lr2]
    · isplitl [tr2]; · iexact tr2
      isplitl [Rd12]; · iexact Rd12
      iexact lr2
    isplitl [D10]; · iexact D10
    iexact D11
  iintro ⟨HO, S12, G10, G11⟩
  iapply (bind_run c)
  iapply (run6 m K c _) $$ [HO D12 rR G10 G11 X0]
  · isplitr; · iexact HR
    isplitl [HO]; · iexact HO
    isplitl [D12]; · iexact D12
    isplitl [rR G10 G11]
    · isplitl [rR]; · iexact rR
      isplitl [G10]; · iexact G10
      iexact G11
    iexact X0
  iintro ⟨HO, AR, SR, X0⟩
  iapply (bind_run c)
  iapply (run7 m K c (myW c) _) $$ [HO rW Rd20 lw0]
  · isplitr; · iexact HR
    isplitl [HO]; · iexact HO
    isplitl [rW]; · iexact rW
    isplitl [Rd20]; · iexact Rd20
    iexact lw0
  iintro ⟨HO, S20, rW, tw1, tw2⟩
  iapply (bind_run c)
  iapply (run8 m K c (myW c) _) $$ [HO tw1 Rd21 lw1 tw2 Rd22 lw2 D00]
  · isplitr; · iexact HR
    isplitl [HO]; · iexact HO
    isplitl [tw1 Rd21 lw1]
    · isplitl [tw1]; · iexact tw1
      isplitl [Rd21]; · iexact Rd21
      iexact lw1
    isplitl [tw2 Rd22 lw2]
    · isplitl [tw2]; · iexact tw2
      isplitl [Rd22]; · iexact Rd22
      iexact lw2
    iexact D00
  iintro ⟨HO, S21, S22, G00⟩
  iapply (bind_run c)
  iapply (run9 m K c (myW c) _) $$ [HO D20 D01 D21 D02]
  · isplitr; · iexact HR
    isplitl [HO]; · iexact HO
    isplitl [D20]; · iexact D20
    isplitl [D01]; · iexact D01
    isplitl [D21]; · iexact D21
    iexact D02
  iintro ⟨HO, G20, G01, G21, G02⟩
  iintro %v283
  iapply (bind_run c)
  iapply (run10 m K c v283 _) $$ [HO D22 rW G20 G21 rX G00 G01 G02 I00 I10]
  · isplitr; · iexact HR
    isplitl [HO]; · iexact HO
    isplitl [D22]; · iexact D22
    isplitl [rW G20 G21]
    · isplitl [rW]; · iexact rW
      isplitl [G20]; · iexact G20
      iexact G21
    isplitl [rX G00 G01 G02]
    · isplitl [rX]; · iexact rX
      isplitl [G00]; · iexact G00
      isplitl [G01]; · iexact G01
      iexact G02
    isplitl [I00]; · iexact I00
    iexact I10
  iintro ⟨HO, AX, SX, AW, SW, L00, L10⟩
  iapply (bind_run c)
  iapply (run11 m K c _ _ _ _ _ _ _) $$ [L00 L10]
  · isplitr; · iexact HR
    isplitl [L00]; · iexact L00
    iexact L10
  iintro ⟨I00, I10⟩
  iapply (bind_run c)
  iapply (run12 m K c _ _ _ _ _) $$ [HO I01 I11]
  · isplitr; · iexact HR
    isplitl [HO]; · iexact HO
    isplitl [I01]; · iexact I01
    iexact I11
  iintro ⟨HO, L01, L11⟩
  iapply (bind_run c)
  iapply (run13 m K c _ _ _ _ _ _ _ _) $$ [HO L01 L11 I00]
  · isplitr; · iexact HR
    isplitl [HO]; · iexact HO
    isplitl [L01]; · iexact L01
    isplitl [L11]; · iexact L11
    iexact I00
  iintro ⟨HO, I01, I11, L00⟩
  iapply (bind_run c)
  iapply (run14 m K c _ _ _ _ _ _) $$ [HO L00 I10]
  · isplitr; · iexact HR
    isplitl [HO]; · iexact HO
    isplitl [L00]; · iexact L00
    iexact I10
  iintro ⟨HO, I00, I10⟩
  iapply (bind_run c)
  iapply (run15 m K c _ _ _ _ _ _ _ _) $$ [HO I01 I11]
  · isplitr; · iexact HR
    isplitl [HO]; · iexact HO
    isplitl [I01]; · iexact I01
    iexact I11
  iintro ⟨HO, L01, L11⟩
  iapply (bind_run c)
  iapply (run16 m K c _ _ _ _ _ _ _ _) $$ [HO L01 L11 I00]
  · isplitr; · iexact HR
    isplitl [HO]; · iexact HO
    isplitl [L01]; · iexact L01
    isplitl [L11]; · iexact L11
    iexact I00
  iintro ⟨HO, I01, I11, L00⟩
  iapply (bind_run c)
  iapply (run17 m K c _ _ _ _) $$ [HO L00 I10]
  · isplitr; · iexact HR
    isplitl [HO]; · iexact HO
    isplitl [L00]; · iexact L00
    iexact I10
  iintro ⟨HO, I00, I10⟩
  iapply (bind_run c)
  iapply (run18 m K c _ _ _ _ _ _ _ _ _ _) $$ [HO I01 I11]
  · isplitr; · iexact HR
    isplitl [HO]; · iexact HO
    isplitl [I01]; · iexact I01
    iexact I11
  iintro ⟨HO, L01, L11⟩
  iapply (bind_run c)
  iapply (run19 m K c _ _ _ _ _ _ _ _) $$ [HO L01 L11 I00]
  · isplitr; · iexact HR
    isplitl [HO]; · iexact HO
    isplitl [L01]; · iexact L01
    isplitl [L11]; · iexact L11
    iexact I00
  iintro ⟨HO, I01, I11, L00⟩
  iapply (bind_run c)
  iapply (run20 m K c _ _ _ _ _ _ _ _) $$ [HO L00 I10 I01]
  · isplitr; · iexact HR
    isplitl [HO]; · iexact HO
    isplitl [L00]; · iexact L00
    isplitl [I10]; · iexact I10
    iexact I01
  iintro ⟨HO, L00, L10, L01⟩
  iapply (bind_run c)
  iapply (run21 m K c _ _ _ _ _ _ _ _) $$ [HO L01 I11 P5]
  · isplitr; · iexact HR
    isplitl [HO]; · iexact HO
    isplitl [L01]; · iexact L01
    isplitl [I11]; · iexact I11
    iexact P5
  iintro ⟨HO, L01, L11, P5⟩
  iintro %v657
  ihave P5 := (Entails.of_eq (part_eq m c)) $$ P5
  iapply (bind_run c)
  iapply (run22 m K c _ v657 _) $$ [HO P5 O0 Rd30 li0 O1]
  · isplitr; · iexact HR
    isplitl [HO]; · iexact HO
    isplitl [P5]; · iexact P5
    isplitl [O0 Rd30 li0]
    · isplitl [O0]; · iexact O0
      isplitl [Rd30]; · iexact Rd30
      iexact li0
    iexact O1
  iintro ⟨HO, P5, S30, O1⟩
  iapply (bind_run c)
  iapply (run23 m K c _ _) $$ [HO P5 O1 Rd31 li1 O2 Rd32 li2]
  · isplitr; · iexact HR
    isplitl [HO]; · iexact HO
    isplitl [P5]; · iexact P5
    isplitl [O1 Rd31 li1]
    · isplitl [O1]; · iexact O1
      isplitl [Rd31]; · iexact Rd31
      iexact li1
    isplitl [O2]; · iexact O2
    isplitl [Rd32]; · iexact Rd32
    iexact li2
  iintro ⟨HO, P5, S31, S32⟩
  iintro %v715
  iapply (bind_run c)
  iapply (run24 m K c _ _ _ _) $$ [HO D30 D31]
  · isplitr; · iexact HR
    isplitl [HO]; · iexact HO
    isplitl [D30]; · iexact D30
    iexact D31
  iintro ⟨HO, J0, J1⟩
  iintro %v745
  iapply (bind_run c)
  iapply (run25 m K c _ _ _ _) $$ [HO D32 Y S00 S10 S20]
  · isplitr; · iexact HR
    isplitl [HO]; · iexact HO
    isplitl [D32]; · iexact D32
    isplitl [Y]; · iexact Y
    isplitl [S00]; · iexact S00
    isplitl [S10]; · iexact S10
    iexact S20
  iintro ⟨HO, J2, Y, K00, K10, K20⟩
  ihave Y := (Entails.of_eq (out_eq m c)) $$ Y
  iapply (bind_run c)
  iapply (run26 m K c _ _) $$ [HO S30 S01 S11 S21]
  · isplitr; · iexact HR
    isplitl [HO]; · iexact HO
    isplitl [S30]; · iexact S30
    isplitl [S01]; · iexact S01
    isplitl [S11]; · iexact S11
    iexact S21
  iintro ⟨HO, K30, K01, K11, K21⟩
  iapply (bind_run c)
  iapply (run27 m K c _ _) $$ [HO S31 S02 S12 S22]
  · isplitr; · iexact HR
    isplitl [HO]; · iexact HO
    isplitl [S31]; · iexact S31
    isplitl [S02]; · iexact S02
    isplitl [S12]; · iexact S12
    iexact S22
  iintro ⟨HO, K31, K02, K12, K22⟩
  simp only [Prog.lift, Prog.bind_op, Prog.bind_ret, Prog.pure_eq_ret]
  iapply (wait_snd m K c 3 2 [] (semS3 2 rfl _) (by exact rfl)) $$ [HO S32]
  · isplitr; · iexact HR
    isplitl [HO] <;> iassumption
  iintro ⟨HO, K32⟩
  iapply (wp_fin c _)
  iapply Hk
  unfold after
  isplitl [HO]; · iexact HO
  isplitl [B]; · iexact B
  isplitl [X0]; · iexact X0
  isplitl [R0]; · iexact R0
  isplitl [AX]; · iexact AX
  isplitl [SX]; · iexact SX
  isplitl [AR]; · iexact AR
  isplitl [SR]; · iexact SR
  isplitl [AW]; · iexact AW
  isplitl [SW]; · iexact SW
  isplitl [L00]; · iexact L00
  isplitl [L01]; · iexact L01
  isplitl [L10]; · iexact L10
  isplitl [L11]; · iexact L11
  isplitl [P5]; · iexact P5
  isplitl [J0]; · iexact J0
  isplitl [J1]; · iexact J1
  isplitl [J2]; · iexact J2
  isplitl [Y]; · iexact Y
  isplitl [K00]; · iexact K00
  isplitl [K01]; · iexact K01
  isplitl [K02]; · iexact K02
  isplitl [K10]; · iexact K10
  isplitl [K11]; · iexact K11
  isplitl [K12]; · iexact K12
  isplitl [K20]; · iexact K20
  isplitl [K21]; · iexact K21
  isplitl [K22]; · iexact K22
  isplitl [K30]; · iexact K30
  isplitl [K31]; · iexact K31
  iexact K32

end Cert.MoE

end
-- ==== Proof.Close.lean ====
/-
# Taking buffers apart at the start and putting everything back at the end

The scratch buffers split into slots before the run and are whole again after it; the weight arrays
split into the parts the copies read; and the thirty-three semaphores, their rounds over, close with
their counters at zero.
-/
module

public import proofs.«01_k».proof.Proof.Body

@[expose] public section

noncomputable section

namespace Cert.MoE

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareDrop shareTokN)

variable {F : FTy → Type} [FloatOps F]
local notation "𝕄" => MT nD τ sig Unit (Elt F) ℕ UU ℕ

variable (m : (ℓ : Loc nD τ sig) → Buf (Elt F) ℓ) (K : Dev nD × Fin 33 → ℕ)

/-! ## The semaphores, family by family -/

/-- A statement about each of the semaphores of one family; about each of all. -/
abbrev famK (Φ : Kd → sProp 𝕄) (f : Fin 4) : sProp 𝕄 :=
  iprop(bigSep Finset.univ (fun k : Fin 3 => Φ (.snd f k)) ∗ bigSep Finset.univ (fun p : Fin 4 => Φ (.rcv f p)))
abbrev allK (Φ : Kd → sProp 𝕄) : sProp 𝕄 :=
  iprop(Φ .bar ∗ bigSep Finset.univ (famK Φ) ∗ bigSep Finset.univ fun w : Fin 2 => bigSep Finset.univ fun b : Fin 2 => Φ (.loc w b))

/-- The kinds as a sum. -/
abbrev KS : Type := Unit ⊕ ((Fin 4 × (Fin 3 ⊕ Fin 4)) ⊕ (Fin 2 × Fin 2))
def ksKd : KS → Kd
  | .inl _ => .bar
  | .inr (.inl (f, .inl k)) => .snd f k
  | .inr (.inl (f, .inr p)) => .rcv f p
  | .inr (.inr (w, b)) => .loc w b
def kdKs : Kd → KS
  | .bar => .inl ()
  | .snd f k => .inr (.inl (f, .inl k))
  | .rcv f p => .inr (.inl (f, .inr p))
  | .loc w b => .inr (.inr (w, b))
def ksEquiv : KS ≃ Fin 33 where
  toFun s := ix (ksKd s)
  invFun i := kdKs (kdIx i)
  left_inv s := by
    show kdKs (kdIx (ix (ksKd s))) = s
    rw [kdIx_ix]; rcases s with _ | ⟨f, _ | _⟩ | ⟨w, b⟩ <;> rfl
  right_inv i := by
    show ix (ksKd (kdKs (kdIx i))) = i
    have h : ∀ κ : Kd, ksKd (kdKs κ) = κ := fun κ => by cases κ <;> rfl
    rw [h, ix_kdIx]

theorem allK_eq (Φ : Kd → sProp 𝕄) : bigSep Finset.univ (fun i : Fin 33 => Φ (kdIx i)) = allK Φ := by
  rw [bigSep_univ_equiv ksEquiv (fun i : Fin 33 => Φ (kdIx i))]
  have h : ∀ s : KS, kdIx (ksEquiv s) = ksKd s := fun s => kdIx_ix _
  simp only [h]
  rw [BI.bigSep_univ_sum (fun s : KS => Φ (ksKd s)), BI.bigSep_univ_sum (fun s => Φ (ksKd (.inr s))),
    bigSep_univ_prod (fun s : Fin 4 × (Fin 3 ⊕ Fin 4) => Φ (ksKd (.inr (.inl s)))), bigSep_univ_prod (fun s : Fin 2 × Fin 2 => Φ (ksKd (.inr (.inr s))))]
  have hf : (fun f : Fin 4 => bigSep Finset.univ (fun s : Fin 3 ⊕ Fin 4 => Φ (ksKd (.inr (.inl (f, s)))))) = famK Φ :=
    funext fun f => BI.bigSep_univ_sum (fun s : Fin 3 ⊕ Fin 4 => Φ (ksKd (.inr (.inl (f, s)))))
  rw [hf, bigSep_univ_eq_bigSepL [()] (by decide) (by decide) (fun a : Unit => Φ (ksKd (.inl a)))]
  rfl

theorem three_sep (Φ : Fin 3 → sProp 𝕄) : bigSep Finset.univ Φ = iprop(Φ 0 ∗ Φ 1 ∗ Φ 2) := bigSep_univ_eq_bigSepL [0, 1, 2] (by decide) (by decide) Φ
theorem two_sep (Φ : Fin 2 → sProp 𝕄) : bigSep Finset.univ Φ = iprop(Φ 0 ∗ Φ 1) := bigSep_univ_eq_bigSepL [0, 1] (by decide) (by decide) Φ
theorem quad_sep (Φ : Fin 4 → sProp 𝕄) : bigSep Finset.univ Φ = iprop(Φ 0 ∗ Φ 1 ∗ Φ 2 ∗ Φ 3) := bigSep_univ_eq_bigSepL [0, 1, 2, 3] (by decide) (by decide) Φ

/-- A semaphore with no round left. -/
def Over (c : Dev nD) (κ : Kd) : sProp 𝕄 :=
  iprop(∃ R, ⌜∀ r, R ≤ r → (sched (F := F) m).duties (cell c κ) r = ∅⌝ ∗ atPos ER (cell c κ) R ∅ 0)

theorem over_one (c : Dev nD) (κ : Kd) (hκ : ∀ w b, κ ≠ .loc w b) : atPos ER (cell c κ) 1 ∅ 0 ⊢ Over m c κ := by
  unfold Over; iintro H; iexists 1; isplitr
  · ipureintro; exact fun r h => duties_one m c κ hκ r h
  iexact H
theorem over_own (c : Dev nD) (f : Fin 4) : atPos ER (cell c (.rcv f c)) 0 ∅ 0 ⊢ Over m c (.rcv f c) := by
  unfold Over; iintro H; iexists 0; isplitr
  · ipureintro; exact fun r _ => duties_own m c f r
  iexact H
theorem over_loc (c : Dev nD) (w b : Fin 2) : atPos ER (cell c (.loc w b)) 4 ∅ 0 ⊢ Over m c (.loc w b) := by
  unfold Over; iintro H; iexists 4; isplitr
  · ipureintro; exact fun r h => duties_late m c _ r h
  iexact H

theorem close_one (c : Dev nD) (κ : Kd) : iprop(Recs m K ∗ Over m c κ) ⊢ |={Set.univ}=> (semVal (cell c κ) 0 : sProp 𝕄) := by
  unfold Over
  iintro ⟨#HR, ⟨%R, %hR, Ha⟩⟩
  ihave HI := (recs_cell m K c κ) $$ HR
  icases HI with ⟨HI, -⟩
  iapply (Rounds.cell_close ER (sched m) (Set.mem_univ (K (c, ix κ))) (fun h => h) (R := R) hR)
  isplitl [HI]; · iexact HI
  iexact Ha

theorem with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem close_all (c : Dev nD) :
    iprop(Recs m K ∗ allK (Over m c)) ⊢ |={Set.univ}=> (bigSep Finset.univ fun i : Fin 33 => semVal (kcell (c, i)) 0 : sProp 𝕄) := by
  rw [← allK_eq]
  refine (with_persistent (Ψ := fun i : Fin 33 => iprop(|={Set.univ}=> semVal (kcell (c, i)) 0)) fun i _ => ?_).trans (bigSep_fupd _ _)
  rw [kcell_eq_cell]
  exact close_one m K c (kdIx i)

/-- One family's semaphores over. -/
theorem fam_over (c : Dev nD) (f : Fin 4) :
    iprop((atPos ER (cell c (.snd f 0)) 1 ∅ 0 ∗ atPos ER (cell c (.snd f 1)) 1 ∅ 0 ∗ atPos ER (cell c (.snd f 2)) 1 ∅ 0)
        ∗ (done c f 0 ∗ done c f 1 ∗ done c f 2) ∗ atPos ER (cell c (.rcv f c)) 0 ∅ 0)
      ⊢ famK (Over m c) f := by
  unfold famK
  rw [three_sep, ring_sep c]
  iintro ⟨⟨S0, S1, S2⟩, ⟨D0, D1, D2⟩, Z⟩
  isplitl [S0 S1 S2]
  · isplitl [S0]; · iapply (over_one m c (.snd f 0) (fun _ _ h => nomatch h)); iexact S0
    isplitl [S1]; · iapply (over_one m c (.snd f 1) (fun _ _ h => nomatch h)); iexact S1
    iapply (over_one m c (.snd f 2) (fun _ _ h => nomatch h)); iexact S2
  isplitl [Z]; · iapply (over_own m c f); iexact Z
  isplitl [D0]; · iapply (over_one m c (.rcv f (peer c 0)) (fun _ _ h => nomatch h)); iexact D0
  isplitl [D1]; · iapply (over_one m c (.rcv f (peer c 1)) (fun _ _ h => nomatch h)); iexact D1
  iapply (over_one m c (.rcv f (peer c 2)) (fun _ _ h => nomatch h)); iexact D2

/-! ## Whole buffers from slots -/

theorem slots_eq {n : ℕ} {ℓ : Loc nD τ sig} (S : Fin n → Finset (Idx ℓ)) (hd : ∀ j j', j ≠ j' → Disjoint (S j) (S j')) (hu : Finset.univ.biUnion S = Finset.univ)
    (f : Buf (Elt F) ℓ) : (ℓ ↦{fullShare} f : sProp 𝕄) = bigSep Finset.univ fun j => ℓ ↦[S j]{fullShare} f := by
  rw [← pointsTo_biUnion Finset.univ S (fun j _ j' _ h => hd j j' h), hu]

theorem slots_any {n : ℕ} {ℓ : Loc nD τ sig} (S : Fin n → Finset (Idx ℓ)) (hd : ∀ j j', j ≠ j' → Disjoint (S j) (S j')) (hu : Finset.univ.biUnion S = Finset.univ)
    (j₀ : Fin n) : bigSep Finset.univ (fun j => iprop(∃ f, ℓ ↦[S j]{fullShare} f)) ⊢ (iprop(∃ f, ℓ ↦{fullShare} f) : sProp 𝕄) := by
  iintro H
  ihave H := (BI.bigSep_exists_pi Finset.univ (fun (j : Fin n) (f : Buf (Elt F) ℓ) => (ℓ ↦[S j]{fullShare} f : sProp 𝕄))) $$ H
  icases H with ⟨%fs, H⟩
  ihave H := (pointsTo_biUnion_join Finset.univ S fs (fs j₀) (fun j _ j' _ h => hd j j' h)) $$ H
  rw [hu]
  icases H with ⟨%g, -, H⟩
  iexists g
  iexact H

/-! ## The weight arrays -/

theorem w1_cover : (Finset.univ : Finset (Fin 2 × Fin 4)).biUnion (fun i => w1Set i.2 i.1) = Finset.univ := by
  refine Finset.eq_univ_iff_forall.mpr fun x => Finset.mem_biUnion.mpr ⟨(⟨(x 2).val / 1024, ?_⟩, x 0), Finset.mem_univ _, Finset.mem_filter.mpr ⟨Finset.mem_univ _, rfl, rfl⟩⟩
  have h : (x 2).val < 2048 := (x 2).isLt
  omega
theorem w2_cover : (Finset.univ : Finset (Fin 2 × Fin 4)).biUnion (fun i => w2Set i.2 i.1) = Finset.univ := by
  refine Finset.eq_univ_iff_forall.mpr fun x => Finset.mem_biUnion.mpr ⟨(⟨(x 1).val / 1024, ?_⟩, x 0), Finset.mem_univ _, Finset.mem_filter.mpr ⟨Finset.mem_univ _, rfl, rfl⟩⟩
  have h : (x 1).val < 2048 := (x 1).isLt
  omega
theorem w1_disj {i i' : Fin 2 × Fin 4} (h : i ≠ i') : Disjoint (w1Set i.2 i.1) (w1Set i'.2 i'.1) := by
  refine Finset.disjoint_left.mpr fun x hx hx' => h ?_
  have h1 := (Finset.mem_filter.mp hx).2
  have h2 := (Finset.mem_filter.mp hx').2
  exact Prod.ext (Fin.ext (h1.2.symm.trans h2.2)) (Fin.ext (h1.1.symm.trans h2.1))
theorem w2_disj {i i' : Fin 2 × Fin 4} (h : i ≠ i') : Disjoint (w2Set i.2 i.1) (w2Set i'.2 i'.1) := by
  refine Finset.disjoint_left.mpr fun x hx hx' => h ?_
  have h1 := (Finset.mem_filter.mp hx).2
  have h2 := (Finset.mem_filter.mp hx').2
  exact Prod.ext (Fin.ext (h1.2.symm.trans h2.2)) (Fin.ext (h1.1.symm.trans h2.1))

/-- An expert array is its eight parts. -/
theorem w1_parts (c : Dev nD) :
    (((c : Thread nD τ).loc main_arg2) ↦{fullShare} m ((c : Thread nD τ).loc main_arg2) : sProp 𝕄)
      = iprop(bigSep Finset.univ (srcPt m c 0 0) ∗ bigSep Finset.univ (srcPt m c 0 1)) := by
  rw [show (((c : Thread nD τ).loc main_arg2) ↦{fullShare} m ((c : Thread nD τ).loc main_arg2) : sProp 𝕄)
      = bigSep Finset.univ (fun i : Fin 2 × Fin 4 => s1Pt m c i.2 i.1) from by
        refine Eq.trans ?_ (pointsTo_biUnion (ℓ := (c : Thread nD τ).loc main_arg2) (q := fullShare) (f := m ((c : Thread nD τ).loc main_arg2)) Finset.univ (fun i : Fin 2 × Fin 4 => w1Set i.2 i.1) (fun j _ j' _ h => w1_disj h))
        rw [w1_cover],
    bigSep_univ_prod, two_sep]
  rfl
theorem w2_parts (c : Dev nD) :
    (((c : Thread nD τ).loc main_arg3) ↦{fullShare} m ((c : Thread nD τ).loc main_arg3) : sProp 𝕄)
      = iprop(bigSep Finset.univ (srcPt m c 1 0) ∗ bigSep Finset.univ (srcPt m c 1 1)) := by
  rw [show (((c : Thread nD τ).loc main_arg3) ↦{fullShare} m ((c : Thread nD τ).loc main_arg3) : sProp 𝕄)
      = bigSep Finset.univ (fun i : Fin 2 × Fin 4 => s2Pt m c i.2 i.1) from by
        refine Eq.trans ?_ (pointsTo_biUnion (ℓ := (c : Thread nD τ).loc main_arg3) (q := fullShare) (f := m ((c : Thread nD τ).loc main_arg3)) Finset.univ (fun i : Fin 2 × Fin 4 => w2Set i.2 i.1) (fun j _ j' _ h => w2_disj h))
        rw [w2_cover],
    bigSep_univ_prod, two_sep]
  rfl

/-! ## The end, buffer by buffer -/

theorem sndX (c : Dev nD) (k : Fin 3) : sndPay m c 0 k = xPt c c (shareTokN fullShare k.val) (XF m) := rfl
theorem sndR (c : Dev nD) (k : Fin 3) : sndPay m c 1 k = rPt c c (shareTokN fullShare k.val) (RF m) := rfl
theorem sndW (c : Dev nD) (k : Fin 3) : sndPay m c 2 k = wPt c c (shareTokN fullShare k.val) (WF m) := rfl
theorem sndO (c : Dev nD) (k : Fin 3) : sndPay m c 3 k = oPt c k fullShare (ROUT m c) := rfl

/-- The tokens. -/
theorem end_x (c : Dev nD) :
    iprop(allX m c ∗ asideX m c ∗ Back m c 0 0 ∗ Back m c 0 1 ∗ Back m c 0 2 ∗ atPos ER (cell c (.rcv 0 c)) 0 ∅ 0)
      ⊢ iprop((∃ f, ((c : Thread nD τ).loc cc0_scratch0) ↦{fullShare} f) ∗ famK (Over m c) 0) := by
  unfold asideX Back lentX
  simp only [sndX]
  iintro ⟨H, ⟨⟨L0, L1, L2⟩, D0, D1, D2⟩, ⟨S0, B0⟩, ⟨S1, B1⟩, ⟨S2, B2⟩, Z⟩
  isplitl [H L0 L1 L2 B0 B1 B2]
  · iexists _
    iapply (reunite (ℓ := (c : Thread nD τ).loc cc0_scratch0) (slotSet 4 256 1024) (fun _ _ h => slotSet_disjoint h) (biUnion_slotSet 4 256 1024) (XF m) c)
    isplitl [H]; · iexact H
    isplitl [B0 B1 B2]
    · unfold lent
      isplitl [B0]; · iexact B0
      isplitl [B1]; · iexact B1
      iexact B2
    isplitl [L0]; · iexact L0
    isplitl [L1] <;> iassumption
  iapply (fam_over m c 0)
  isplitl [S0 S1 S2]
  · isplitl [S0]; · iexact S0
    isplitl [S1] <;> iassumption
  isplitl [D0 D1 D2]
  · isplitl [D0]; · iexact D0
    isplitl [D1] <;> iassumption
  iexact Z

/-- The router columns. -/
theorem end_r (c : Dev nD) :
    iprop(allR m c ∗ asideR m c ∗ Back m c 1 0 ∗ Back m c 1 1 ∗ Back m c 1 2 ∗ atPos ER (cell c (.rcv 1 c)) 0 ∅ 0)
      ⊢ iprop((∃ f, ((c : Thread nD τ).loc cc0_scratch1) ↦{fullShare} f) ∗ famK (Over m c) 1) := by
  unfold asideR Back lentR
  simp only [sndR]
  iintro ⟨H, ⟨⟨L0, L1, L2⟩, D0, D1, D2⟩, ⟨S0, B0⟩, ⟨S1, B1⟩, ⟨S2, B2⟩, Z⟩
  isplitl [H L0 L1 L2 B0 B1 B2]
  · iexists _
    iapply (reunite (ℓ := (c : Thread nD τ).loc cc0_scratch1) (slotSet 4 1024 4) (fun _ _ h => slotSet_disjoint h) (biUnion_slotSet 4 1024 4) (RF m) c)
    isplitl [H]; · iexact H
    isplitl [B0 B1 B2]
    · unfold lent
      isplitl [B0]; · iexact B0
      isplitl [B1]; · iexact B1
      iexact B2
    isplitl [L0]; · iexact L0
    isplitl [L1] <;> iassumption
  iapply (fam_over m c 1)
  isplitl [S0 S1 S2]
  · isplitl [S0]; · iexact S0
    isplitl [S1] <;> iassumption
  isplitl [D0 D1 D2]
  · isplitl [D0]; · iexact D0
    isplitl [D1] <;> iassumption
  iexact Z

/-- The routing table. -/
theorem end_w (c : Dev nD) :
    iprop(allW m c ∗ asideW m c ∗ Back m c 2 0 ∗ Back m c 2 1 ∗ Back m c 2 2 ∗ atPos ER (cell c (.rcv 2 c)) 0 ∅ 0)
      ⊢ iprop((∃ f, ((c : Thread nD τ).loc cc0_scratch2) ↦{fullShare} f) ∗ famK (Over m c) 2) := by
  unfold asideW Back lentW
  simp only [sndW]
  iintro ⟨H, ⟨⟨L0, L1, L2⟩, D0, D1, D2⟩, ⟨S0, B0⟩, ⟨S1, B1⟩, ⟨S2, B2⟩, Z⟩
  isplitl [H L0 L1 L2 B0 B1 B2]
  · iexists _
    iapply (reunite (ℓ := (c : Thread nD τ).loc cc0_scratch2) (slotSet 4 256 4) (fun _ _ h => slotSet_disjoint h) (biUnion_slotSet 4 256 4) (WF m) c)
    isplitl [H]; · iexact H
    isplitl [B0 B1 B2]
    · unfold lent
      isplitl [B0]; · iexact B0
      isplitl [B1]; · iexact B1
      iexact B2
    isplitl [L0]; · iexact L0
    isplitl [L1] <;> iassumption
  iapply (fam_over m c 2)
  isplitl [S0 S1 S2]
  · isplitl [S0]; · iexact S0
    isplitl [S1] <;> iassumption
  isplitl [D0 D1 D2]
  · isplitl [D0]; · iexact D0
    isplitl [D1] <;> iassumption
  iexact Z

/-- The partial results' chunks. -/
theorem end_oi (c : Dev nD) :
    iprop(Back m c 3 0 ∗ Back m c 3 1 ∗ Back m c 3 2
        ∗ (done c 3 0 ∗ iPt c (peer c 0) fullShare (RIN m c)) ∗ (done c 3 1 ∗ iPt c (peer c 1) fullShare (RIN m c)) ∗ (done c 3 2 ∗ iPt c (peer c 2) fullShare (RIN m c))
        ∗ (∃ f, iPt c c fullShare f) ∗ atPos ER (cell c (.rcv 3 c)) 0 ∅ 0)
      ⊢ iprop((∃ f, ((c : Thread nD τ).loc cc0_scratch6) ↦{fullShare} f) ∗ (∃ f, ((c : Thread nD τ).loc cc0_scratch7) ↦{fullShare} f) ∗ famK (Over m c) 3) := by
  unfold Back
  simp only [sndO]
  iintro ⟨⟨S0, O0⟩, ⟨S1, O1⟩, ⟨S2, O2⟩, ⟨D0, I0⟩, ⟨D1, I1⟩, ⟨D2, I2⟩, I, Z⟩
  isplitl [O0 O1 O2]
  · iapply (slots_any (ℓ := (c : Thread nD τ).loc cc0_scratch6) (slotSet 3 256 1024) (fun _ _ h => slotSet_disjoint h) (biUnion_slotSet 3 256 1024) 0)
    rw [three_sep]
    isplitl [O0]; · iexists _; iexact O0
    isplitl [O1]; · iexists _; iexact O1
    iexists _; iexact O2
  isplitl [I I0 I1 I2]
  · iapply (four_any (ℓ := (c : Thread nD τ).loc cc0_scratch7) (slotSet 4 256 1024) (fun _ _ h => slotSet_disjoint h) (biUnion_slotSet 4 256 1024) c)
    isplitl [I]; · iexact I
    isplitl [I0]; · iexists _; iexact I0
    isplitl [I1]; · iexists _; iexact I1
    iexists _; iexact I2
  iapply (fam_over m c 3)
  isplitl [S0 S1 S2]
  · isplitl [S0]; · iexact S0
    isplitl [S1] <;> iassumption
  isplitl [D0 D1 D2]
  · isplitl [D0]; · iexact D0
    isplitl [D1] <;> iassumption
  iexact Z

theorem tile1 (c : Dev nD) (b : Fin 2) (e : Fin 4) : tile m c 0 b e = t1Pt c b (W1c m c e b) := rfl
theorem tile2 (c : Dev nD) (b : Fin 2) (e : Fin 4) : tile m c 1 b e = t2Pt c b (W2c m c e b) := rfl
theorem land_last (c : Dev nD) (w b : Fin 2) : Land m c w b 3 ⊢ iprop(Over m c (.loc w b) ∗ bigSep Finset.univ (srcPt m c w b)) := by
  unfold Land
  iintro ⟨A, -, -, H⟩
  isplitl [A]; · iapply (over_loc m c w b); iexact A
  iexact H

theorem end_w1 (c : Dev nD) :
    iprop(HasL m c 0 0 3 ∗ HasL m c 0 1 3)
      ⊢ iprop((∃ f, ((c : Thread nD τ).loc cc0_scratch3) ↦{fullShare} f) ∗ (((c : Thread nD τ).loc main_arg2) ↦{fullShare} m ((c : Thread nD τ).loc main_arg2))
          ∗ Over m c (.loc 0 0) ∗ Over m c (.loc 0 1)) := by
  unfold HasL
  simp only [tile1]
  iintro ⟨⟨L0, T0⟩, L1, T1⟩
  ihave L0 := (land_last m c 0 0) $$ L0
  ihave L1 := (land_last m c 0 1) $$ L1
  icases L0 with ⟨A0, S0⟩
  icases L1 with ⟨A1, S1⟩
  isplitl [T0 T1]
  · iapply (slots_any (ℓ := (c : Thread nD τ).loc cc0_scratch3) (slotSet 2 1024 1024) (fun _ _ h => slotSet_disjoint h) (biUnion_slotSet 2 1024 1024) 0)
    rw [two_sep]
    isplitl [T0]; · iexists _; iexact T0
    iexists _; iexact T1
  isplitl [S0 S1]
  · iapply (Entails.of_eq (w1_parts m c).symm)
    isplitl [S0] <;> iassumption
  isplitl [A0] <;> iassumption

theorem end_w2 (c : Dev nD) :
    iprop(HasL m c 1 0 3 ∗ HasL m c 1 1 3)
      ⊢ iprop((∃ f, ((c : Thread nD τ).loc cc0_scratch4) ↦{fullShare} f) ∗ (((c : Thread nD τ).loc main_arg3) ↦{fullShare} m ((c : Thread nD τ).loc main_arg3))
          ∗ Over m c (.loc 1 0) ∗ Over m c (.loc 1 1)) := by
  unfold HasL
  simp only [tile2]
  iintro ⟨⟨L0, T0⟩, L1, T1⟩
  ihave L0 := (land_last m c 1 0) $$ L0
  ihave L1 := (land_last m c 1 1) $$ L1
  icases L0 with ⟨A0, S0⟩
  icases L1 with ⟨A1, S1⟩
  isplitl [T0 T1]
  · iapply (slots_any (ℓ := (c : Thread nD τ).loc cc0_scratch4) (slotSet 2 1024 1024) (fun _ _ h => slotSet_disjoint h) (biUnion_slotSet 2 1024 1024) 0)
    rw [two_sep]
    isplitl [T0]; · iexists _; iexact T0
    iexists _; iexact T1
  isplitl [S0 S1]
  · iapply (Entails.of_eq (w2_parts m c).symm)
    isplitl [S0] <;> iassumption
  isplitl [A0] <;> iassumption

end Cert.MoE

end
-- ==== Proof.Open.lean ====
/-
# What a device starts with, laid out for its run

The tokens dealt to each device are exactly those of the payments it makes; with its positions, its
credit and its buffers they make up the state the run starts from.
-/
module

public import proofs.«01_k».proof.Proof.Close

@[expose] public section

noncomputable section

namespace Cert.MoE

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareDrop shareTokN)

variable {F : FTy → Type} [FloatOps F]
local notation "𝕄" => MT nD τ sig Unit (Elt F) ℕ UU ℕ

variable (m : (ℓ : Loc nD τ sig) → Buf (Elt F) ℓ) (K : Dev nD × Fin 33 → ℕ)

/-! ## The tokens by payer -/

/-- The payments a device makes: barrier units, completions of its transfers, their arrivals, its local copies. -/
abbrev Jt : Type := Fin 3 ⊕ ((Fin 4 × Fin 3) ⊕ ((Fin 4 × Fin 3) ⊕ ((Fin 2 × Fin 2) × Fin 4)))

def tokK (cj : Dev nD × Jt) : Dev nD × Kd × ℕ × Fin 4 :=
  match cj.2 with
  | .inl k => (peer cj.1 k, .bar, 0, cj.1)
  | .inr (.inl (f, k)) => (cj.1, .snd f k, 0, 0)
  | .inr (.inr (.inl (f, k))) => (peer cj.1 k, .rcv f cj.1, 0, 0)
  | .inr (.inr (.inr ((w, b), e))) => (cj.1, .loc w b, e.val, 0)

/-- How many places on `p` is from `c`. -/
def places (c p : Fin 4) : Fin 3 := ⟨(p.val + 3 - c.val) % 4 % 3, Nat.mod_lt _ (by decide)⟩
theorem places_peer (c : Dev nD) (k : Fin 3) : places c (peer c k) = k := by revert c k; decide

def untok (x : Dev nD × Kd × ℕ × Fin 4) : Dev nD × Jt :=
  match x.2.1 with
  | .bar => (x.2.2.2, .inl (places x.2.2.2 x.1))
  | .snd f k => (x.1, .inr (.inl (f, k)))
  | .rcv f p => (p, .inr (.inr (.inl (f, places p x.1))))
  | .loc w b => (x.1, .inr (.inr (.inr ((w, b), ⟨x.2.2.1 % 4, Nat.mod_lt _ (by decide)⟩))))

theorem untok_tokK (cj : Dev nD × Jt) : untok (tokK cj) = cj := by
  obtain ⟨c, k | ⟨f, k⟩ | ⟨f, k⟩ | ⟨⟨w, b⟩, e⟩⟩ := cj
  · show (c, (Sum.inl (places c (peer c k)) : Jt)) = _; rw [places_peer]
  · rfl
  · show (c, (Sum.inr (.inr (.inl (f, places c (peer c k)))) : Jt)) = _; rw [places_peer]
  · show (c, (Sum.inr (.inr (.inr ((w, b), ⟨e.val % 4, _⟩))) : Jt)) = _
    have h : (⟨e.val % 4, Nat.mod_lt _ (by decide)⟩ : Fin 4) = e := Fin.ext (Nat.mod_eq_of_lt e.isLt)
    rw [h]

def toTok (x : Dev nD × Kd × ℕ × Fin 4) : GSem nD τ sig × ℕ × Fin 4 := (cell x.1 x.2.1, x.2.2.1, x.2.2.2)
theorem cell_inj {c c' : Dev nD} {κ κ' : Kd} (h : cell c κ = cell c' κ') : c = c' ∧ κ = κ' := by
  have h2 : kd (at' κ) = kd (at' κ') := congrArg (fun g : GSem nD τ sig => kd g.2) h
  rw [kd_at, kd_at] at h2
  exact ⟨congrArg (fun g : GSem nD τ sig => g.1.1) h, Option.some.inj h2⟩
theorem toTok_inj : Function.Injective toTok := by
  rintro ⟨c, κ, r, d⟩ ⟨c', κ', r', d'⟩ h
  obtain ⟨h1, h2⟩ := cell_inj (congrArg Prod.fst h)
  have h3 : (r, d) = (r', d') := congrArg Prod.snd h
  exact Prod.ext h1 (Prod.ext h2 h3)

def tokOf (cj : Dev nD × Jt) : GSem nD τ sig × ℕ × Fin 4 := toTok (tokK cj)
theorem tokOf_inj : Function.Injective tokOf := toTok_inj.comp (Function.LeftInverse.injective untok_tokK)

theorem kcell_inj : Function.Injective (kcell : Dev nD × Fin 33 → GSem nD τ sig) := by
  rintro ⟨c, i⟩ ⟨c', i'⟩ h
  rw [kcell_eq_cell, kcell_eq_cell] at h
  obtain ⟨h1, h2⟩ := cell_inj h
  rw [h1, ← ix_kdIx i, h2, ix_kdIx]

/-- The token a payment takes. -/
def tk (c : Dev nD) (j : Jt) : sProp 𝕄 := dutyTok ER (tokOf (c, j)).1 (tokOf (c, j)).2.1 (tokOf (c, j)).2.2

/-- A family's tokens. -/
abbrev famT (c : Dev nD) (f : Fin 4) : sProp 𝕄 :=
  iprop(bigSep Finset.univ (fun k : Fin 3 => dutyTok ER (cell c (.snd f k)) 0 0) ∗ bigSep Finset.univ (fun k : Fin 3 => dutyTok ER (cell (peer c k) (.rcv f c)) 0 0))

theorem regroup4 (A B C D : sProp 𝕄) : iprop(A ∗ B ∗ C ∗ D) = iprop(A ∗ (B ∗ C) ∗ D) := by
  refine BI.Entails.antisymm (show _ ⊢ (_ : sProp 𝕄) from ?_) (show _ ⊢ (_ : sProp 𝕄) from ?_)
  · iintro ⟨A, B, C, D⟩
    isplitl [A]; · iexact A
    isplitl [B C]
    · isplitl [B] <;> iassumption
    iexact D
  · iintro ⟨A, ⟨B, C⟩, D⟩
    isplitl [A]; · iexact A
    isplitl [B]; · iexact B
    isplitl [C] <;> iassumption

theorem toks_split (c : Dev nD) :
    bigSep Finset.univ (tk (F := F) c) = iprop(bigSep Finset.univ (fun k : Fin 3 => dutyTok ER (cell (peer c k) .bar) 0 c)
      ∗ bigSep Finset.univ (famT c)
      ∗ bigSep Finset.univ fun w : Fin 2 => bigSep Finset.univ fun b : Fin 2 => bigSep Finset.univ fun e : Fin 4 => dutyTok ER (cell c (.loc w b)) e.val 0) := by
  rw [BI.bigSep_univ_sum (tk (F := F) c), BI.bigSep_univ_sum (fun s => tk (F := F) c (.inr s)), BI.bigSep_univ_sum (fun s => tk (F := F) c (.inr (.inr s))),
    bigSep_univ_prod (fun s : Fin 4 × Fin 3 => tk (F := F) c (.inr (.inl s))), bigSep_univ_prod (fun s : Fin 4 × Fin 3 => tk (F := F) c (.inr (.inr (.inl s)))),
    bigSep_univ_prod (fun s : (Fin 2 × Fin 2) × Fin 4 => tk (F := F) c (.inr (.inr (.inr s)))),
    bigSep_univ_prod (fun s : Fin 2 × Fin 2 => bigSep Finset.univ fun e : Fin 4 => tk (F := F) c (.inr (.inr (.inr (s, e)))))]
  have h : bigSep Finset.univ (famT (F := F) c)
      = iprop(bigSep Finset.univ (fun f : Fin 4 => bigSep Finset.univ fun k : Fin 3 => tk (F := F) c (.inr (.inl (f, k))))
        ∗ bigSep Finset.univ (fun f : Fin 4 => bigSep Finset.univ fun k : Fin 3 => tk (F := F) c (.inr (.inr (.inl (f, k)))))) := bigSep_sep' _ _ _
  rw [h]
  exact regroup4 _ _ _ _

/-! ## The credit the launch deals -/

/-- The device that pays `c` as its peer `k + 1` places on. -/
def payer (c : Dev nD) (k : Fin 3) : Dev nD := peer c ⟨2 - k.val, by omega⟩
theorem peer_payer (c : Dev nD) (k : Fin 3) : peer (payer c k) k = c := by revert c k; decide
theorem payer_peer (c : Dev nD) (k : Fin 3) : payer (peer c k) k = c := by revert c k; decide

/-- The credit a device holds for one payment it is to receive. -/
def crOf (c : Dev nD) : Pm → sProp 𝕄
  | .bar _ => cred (tallyAt (cell c .bar) () 1)
  | .rcv f k => cred (tallyAt (cell c (.rcv f (payer c k))) () (N f))

theorem launch_pm (a : Pm) (c : Dev nD) :
    (Pipeline.launchCred (fun d => tallyAt (a.cell d) () a.amt) c : sProp 𝕄) ⊢ crOf (F := F) c a := by
  cases a with
  | bar k => exact Pipeline.launchCred_tallyAt (SemLoc.reg barS) (fun d => peer d k) (fun d => payer d k) (fun d => peer_payer d k) (fun d => payer_peer d k) () 1 c
  | rcv f k =>
    refine (Pipeline.launchCred_elim _ c (at' (.rcv f (payer c k)))).trans (Entails.of_eq (congrArg cred ?_))
    rw [Pipeline.tallyOn_launchCredit_owing]
    unfold tallyAt
    refine congrArg _ ?_
    rw [Finset.sum_apply, Finset.sum_eq_single (payer c k) (fun d _ hd => ?_) (fun h => absurd (Finset.mem_univ _) h)]
    · unfold tallyOn
      rw [show Pm.cell (payer c k) (.rcv f k) = cell c (.rcv f (payer c k)) from by
        show cell (peer (payer c k) k) (.rcv f (payer c k)) = _; rw [peer_payer]]
      exact Pi.single_eq_same _ _
    · unfold tallyOn
      refine Pi.single_eq_of_ne (fun h => hd ?_) _
      have h2 := (cell_inj h).2
      injection h2 with _ h3
      exact h3.symm

def crList (c : Dev nD) : List Pm → sProp 𝕄
  | [] => iprop(emp)
  | a :: l => iprop(crList c l ∗ crOf c a)

theorem launch_list (l : List Pm) (c : Dev nD) : (Pipeline.launchCred (fun d => owed d l) c : sProp 𝕄) ⊢ crList (F := F) c l := by
  induction l with
  | nil => exact Entails.of_eq (Pipeline.launchCred_zero c)
  | cons a l ih =>
    unfold owed crList
    rw [Pipeline.launchCred_add]
    iintro ⟨H, A⟩
    isplitl [H]; · iapply ih; iexact H
    iapply (launch_pm a c); iexact A

/-- A family's credit. -/
abbrev famC (c : Dev nD) (f : Fin 4) : sProp 𝕄 :=
  iprop(cred (tallyAt (cell c (.rcv f (peer c 0))) () (N f)) ∗ cred (tallyAt (cell c (.rcv f (peer c 1))) () (N f)) ∗ cred (tallyAt (cell c (.rcv f (peer c 2))) () (N f)))

theorem bar_three (c : Dev nD) :
    iprop(cred (tallyAt (cell c .bar) () 1) ∗ cred (tallyAt (cell c .bar) () 1) ∗ cred (tallyAt (cell c .bar) () 1)) ⊢ (cred (tallyAt (cell c .bar) () 3) : sProp 𝕄) := by
  rw [show tallyAt (cell c .bar) () 3 = tallyAt (cell c .bar) () 1 + (tallyAt (cell c .bar) () 1 + tallyAt (cell c .bar) () 1) from by
    rw [tallyAt_add, tallyAt_add]]
  iintro ⟨A, B, C⟩
  iapply (cred_add _ _).2
  isplitl [A]; · iexact A
  iapply (cred_add _ _).2
  isplitl [B] <;> iassumption

theorem creds (c : Dev nD) :
    (Pipeline.launchCred O₀ c : sProp 𝕄) ⊢ iprop(cred (tallyAt (cell c .bar) () 3) ∗ famC (F := F) c 0 ∗ famC (F := F) c 1 ∗ famC (F := F) c 2 ∗ famC (F := F) c 3) := by
  refine (launch_list pays c).trans ?_
  unfold pays
  simp only [crList]
  have h0 : payer c 0 = peer c 2 := rfl
  have h1 : payer c 1 = peer c 1 := rfl
  have h2 : payer c 2 = peer c 0 := rfl
  simp only [crOf, h0, h1, h2]
  iintro ⟨⟨⟨⟨⟨⟨⟨⟨⟨⟨⟨⟨⟨⟨⟨-, I2⟩, I1⟩, I0⟩, W2⟩, W1⟩, W0⟩, R2⟩, X2⟩, R1⟩, X1⟩, R0⟩, X0⟩, B2⟩, B1⟩, B0⟩
  isplitl [B0 B1 B2]
  · iapply (bar_three c)
    isplitl [B0]; · iexact B0
    isplitl [B1] <;> iassumption
  isplitl [X0 X1 X2]
  · isplitl [X2]; · iexact X2
    isplitl [X1] <;> iassumption
  isplitl [R0 R1 R2]
  · isplitl [R2]; · iexact R2
    isplitl [R1] <;> iassumption
  isplitl [W0 W1 W2]
  · isplitl [W2]; · iexact W2
    isplitl [W1] <;> iassumption
  isplitl [I2]; · iexact I2
  isplitl [I1] <;> iassumption

/-! ## Laying out the start -/

/-- A family at the start. -/
theorem fam_open (c : Dev nD) (f : Fin 4) :
    iprop(famK (fun κ => atPos ER (cell c κ) 0 ∅ 0) f ∗ famT c f ∗ famC c f)
      ⊢ (iprop((Ready c f 0 ∗ Ready c f 1 ∗ Ready c f 2) ∗ (Due c f 0 ∗ Due c f 1 ∗ Due c f 2) ∗ atPos ER (cell c (.rcv f c)) 0 ∅ 0) : sProp 𝕄) := by
  unfold famK famT famC Ready Due
  rw [three_sep, three_sep, three_sep, ring_sep c]
  iintro ⟨⟨⟨S0, S1, S2⟩, Z, R0, R1, R2⟩, ⟨⟨T0, T1, T2⟩, U0, U1, U2⟩, C0, C1, C2⟩
  isplitl [S0 S1 S2 T0 T1 T2 U0 U1 U2]
  · isplitl [S0 T0 U0]
    · isplitl [T0]; · iexact T0
      isplitl [U0] <;> iassumption
    isplitl [S1 T1 U1]
    · isplitl [T1]; · iexact T1
      isplitl [U1] <;> iassumption
    isplitl [T2]; · iexact T2
    isplitl [U2] <;> iassumption
  isplitl [R0 R1 R2 C0 C1 C2]
  · isplitl [R0 C0]
    · isplitl [C0] <;> iassumption
    isplitl [R1 C1]
    · isplitl [C1] <;> iassumption
    isplitl [C2] <;> iassumption
  iexact Z

/-- A tile buffer at the start. -/
theorem idle_start (c : Dev nD) (w b : Fin 2) :
    iprop(atPos ER (cell c (.loc w b)) 0 ∅ 0 ∗ tileAny c w b ∗ bigSep Finset.univ (fun e : Fin 4 => dutyTok ER (cell c (.loc w b)) e.val 0) ∗ bigSep Finset.univ (srcPt m c w b))
      ⊢ Idle m c w b := by
  unfold Idle
  rw [show from' (0 : Fin 4).val = Finset.univ from by decide]

/-- A four-slot buffer cut up. -/
theorem four_cut {ℓ : Loc nD τ sig} (S : Fin 4 → Finset (Idx ℓ)) (hd : ∀ j j', j ≠ j' → Disjoint (S j) (S j')) (hu : Finset.univ.biUnion S = Finset.univ) (c : Fin 4) :
    (iprop(∃ f, ℓ ↦{fullShare} f) : sProp 𝕄)
      ⊢ iprop((∃ f, ℓ ↦[S c]{fullShare} f) ∗ (∃ f, ℓ ↦[S (peer c 0)]{fullShare} f) ∗ (∃ f, ℓ ↦[S (peer c 1)]{fullShare} f) ∗ ∃ f, ℓ ↦[S (peer c 2)]{fullShare} f) := by
  iintro ⟨%f, H⟩
  ihave H := (Entails.of_eq (four_eq S hd hu fullShare f c)) $$ H
  icases H with ⟨A, B, C, D⟩
  isplitl [A]; · iexists f; iexact A
  isplitl [B]; · iexists f; iexact B
  isplitl [C]; · iexists f; iexact C
  iexists f; iexact D

/-- A buffer at any contents. -/
abbrev anyPt (c : Dev nD) (b : Ref sig .tc) : sProp 𝕄 := iprop(∃ f : Buf (Elt F) ((c : Thread nD τ).loc b), ((c : Thread nD τ).loc b) ↦{fullShare} f)

theorem land_start (c : Dev nD) :
    iprop(anyPt c cc0_scratch0 ∗ anyPt c cc0_scratch1 ∗ anyPt c cc0_scratch2 ∗ anyPt c cc0_scratch7)
      ⊢ (iprop((rawX c ∗ rawR c ∗ rawW c ∗ ∃ f, iPt c c fullShare f) ∗ landing c (peer c 0) ∗ landing c (peer c 1) ∗ landing c (peer c 2)) : sProp 𝕄) := by
  unfold rawX rawR rawW landing
  iintro ⟨X, R, W, I⟩
  ihave X := (four_cut (ℓ := (c : Thread nD τ).loc cc0_scratch0) (slotSet 4 256 1024) (fun _ _ h => slotSet_disjoint h) (biUnion_slotSet 4 256 1024) c) $$ X
  ihave R := (four_cut (ℓ := (c : Thread nD τ).loc cc0_scratch1) (slotSet 4 1024 4) (fun _ _ h => slotSet_disjoint h) (biUnion_slotSet 4 1024 4) c) $$ R
  ihave W := (four_cut (ℓ := (c : Thread nD τ).loc cc0_scratch2) (slotSet 4 256 4) (fun _ _ h => slotSet_disjoint h) (biUnion_slotSet 4 256 4) c) $$ W
  ihave I := (four_cut (ℓ := (c : Thread nD τ).loc cc0_scratch7) (slotSet 4 256 1024) (fun _ _ h => slotSet_disjoint h) (biUnion_slotSet 4 256 1024) c) $$ I
  icases X with ⟨X, X0, X1, X2⟩
  icases R with ⟨R, R0, R1, R2⟩
  icases W with ⟨W, W0, W1, W2⟩
  icases I with ⟨I, I0, I1, I2⟩
  isplitl [X R W I]
  · isplitl [X]; · iexact X
    isplitl [R]; · iexact R
    isplitl [W] <;> iassumption
  isplitl [X0 R0 W0 I0]
  · isplitl [X0]; · iexact X0
    isplitl [R0]; · iexact R0
    isplitl [W0] <;> iassumption
  isplitl [X1 R1 W1 I1]
  · isplitl [X1]; · iexact X1
    isplitl [R1]; · iexact R1
    isplitl [W1] <;> iassumption
  isplitl [X2]; · iexact X2
  isplitl [R2]; · iexact R2
  isplitl [W2] <;> iassumption

theorem tiles1_open (c : Dev nD) : anyPt c cc0_scratch3 ⊢ (iprop(tileAny c 0 0 ∗ tileAny c 0 1) : sProp 𝕄) := by
  show _ ⊢ (iprop((∃ f, t1Pt c 0 f) ∗ ∃ f, t1Pt c 1 f) : sProp 𝕄)
  iintro ⟨%f, H⟩
  ihave H := (Entails.of_eq ((slots_eq (ℓ := (c : Thread nD τ).loc cc0_scratch3) (slotSet 2 1024 1024) (fun _ _ h => slotSet_disjoint h) (biUnion_slotSet 2 1024 1024) f).trans (two_sep _))) $$ H
  icases H with ⟨A, B⟩
  isplitl [A]; · iexists f; iexact A
  iexists f; iexact B
theorem tiles2_open (c : Dev nD) : anyPt c cc0_scratch4 ⊢ (iprop(tileAny c 1 0 ∗ tileAny c 1 1) : sProp 𝕄) := by
  show _ ⊢ (iprop((∃ f, t2Pt c 0 f) ∗ ∃ f, t2Pt c 1 f) : sProp 𝕄)
  iintro ⟨%f, H⟩
  ihave H := (Entails.of_eq ((slots_eq (ℓ := (c : Thread nD τ).loc cc0_scratch4) (slotSet 2 1024 1024) (fun _ _ h => slotSet_disjoint h) (biUnion_slotSet 2 1024 1024) f).trans (two_sep _))) $$ H
  icases H with ⟨A, B⟩
  isplitl [A]; · iexists f; iexact A
  iexists f; iexact B
theorem outs_open (c : Dev nD) : anyPt c cc0_scratch6 ⊢ (iprop(rawO c 0 ∗ rawO c 1 ∗ rawO c 2) : sProp 𝕄) := by
  iintro ⟨%f, H⟩
  ihave H := (Entails.of_eq ((slots_eq (ℓ := (c : Thread nD τ).loc cc0_scratch6) (slotSet 3 256 1024) (fun _ _ h => slotSet_disjoint h) (biUnion_slotSet 3 256 1024) f).trans (three_sep _))) $$ H
  icases H with ⟨A, B, C⟩
  isplitl [A]; · iexists f; iexact A
  isplitl [B]; · iexists f; iexact B
  iexists f; iexact C

/-- The device's scratch buffers at any contents. -/
abbrev scr (c : Dev nD) : sProp 𝕄 :=
  iprop(anyPt c cc0_scratch0 ∗ anyPt c cc0_scratch1 ∗ anyPt c cc0_scratch2 ∗ anyPt c cc0_scratch3 ∗ anyPt c cc0_scratch4 ∗ anyPt c cc0_scratch5 ∗ anyPt c cc0_scratch6 ∗ anyPt c cc0_scratch7)
/-- The expert arrays. -/
abbrev wts (c : Dev nD) : sProp 𝕄 :=
  iprop((((c : Thread nD τ).loc main_arg2) ↦{fullShare} m ((c : Thread nD τ).loc main_arg2)) ∗ (((c : Thread nD τ).loc main_arg3) ↦{fullShare} m ((c : Thread nD τ).loc main_arg3)))
/-- A device's positions and tokens. -/
def lin (c : Dev nD) : sProp 𝕄 :=
  iprop(bigSep Finset.univ (fun i : Fin 33 => atPos ER (kcell (c, i)) 0 ∅ 0) ∗ bigSep Finset.univ (tk (F := F) c))
/-- What the run leaves untouched. -/
def spare (c : Dev nD) : sProp 𝕄 :=
  iprop((∃ f, iPt c c fullShare f) ∗ atPos ER (cell c (.rcv 0 c)) 0 ∅ 0 ∗ atPos ER (cell c (.rcv 1 c)) 0 ∅ 0 ∗ atPos ER (cell c (.rcv 2 c)) 0 ∅ 0 ∗ atPos ER (cell c (.rcv 3 c)) 0 ∅ 0)

set_option maxHeartbeats 1000000 in
theorem open_before (c : Dev nD) :
    iprop(lin c ∗ (cred (tallyAt (cell c .bar) () 3) ∗ famC (F := F) c 0 ∗ famC (F := F) c 1 ∗ famC (F := F) c 2 ∗ famC (F := F) c 3) ∗ wts m c ∗ scr c
        ∗ ow c pays ∗ x0Pt m c ∗ r0Pt m c ∗ anyPt c cc0_stg2_0)
      ⊢ iprop(before m c ∗ spare c) := by
  unfold lin
  rw [toks_split, show bigSep Finset.univ (fun i : Fin 33 => (atPos ER (kcell (c, i)) 0 ∅ 0 : sProp 𝕄)) = allK (fun κ => atPos ER (cell c κ) 0 ∅ 0) from by
    rw [← allK_eq]; exact bigSep_congr fun i _ => by rw [kcell_eq_cell]]
  unfold allK wts
  rw [w1_parts, w2_parts]
  simp only [quad_sep (F := F) (fun f => famK _ f), quad_sep (F := F) (famT c), two_sep, three_sep (fun k => dutyTok ER (cell (peer c k) .bar) 0 c)]
  iintro ⟨⟨⟨PB, ⟨P0, P1, P2, P3⟩, ⟨L00, L01⟩, L10, L11⟩, ⟨TB0, TB1, TB2⟩, ⟨T0, T1, T2, T3⟩, ⟨U00, U01⟩, U10, U11⟩, ⟨CB, C0, C1, C2, C3⟩, ⟨⟨S00, S01⟩, S10, S11⟩,
    ⟨A0, A1, A2, A3, A4, A5, A6, A7⟩, HO, HX, HR, HY⟩
  ihave F0 := (fam_open c 0) $$ [P0 T0 C0]
  · isplitl [P0]; · iexact P0
    isplitl [T0] <;> iassumption
  ihave F1 := (fam_open c 1) $$ [P1 T1 C1]
  · isplitl [P1]; · iexact P1
    isplitl [T1] <;> iassumption
  ihave F2 := (fam_open c 2) $$ [P2 T2 C2]
  · isplitl [P2]; · iexact P2
    isplitl [T2] <;> iassumption
  ihave F3 := (fam_open c 3) $$ [P3 T3 C3]
  · isplitl [P3]; · iexact P3
    isplitl [T3] <;> iassumption
  ihave A3 := (tiles1_open c) $$ A3
  ihave A4 := (tiles2_open c) $$ A4
  ihave A6 := (outs_open c) $$ A6
  ihave A := (land_start c) $$ [A0 A1 A2 A7]
  · isplitl [A0]; · iexact A0
    isplitl [A1]; · iexact A1
    isplitl [A2] <;> iassumption
  icases A3 with ⟨B00, B01⟩
  icases A4 with ⟨B10, B11⟩
  icases A6 with ⟨O0, O1, O2⟩
  icases A with ⟨⟨X, R, W, I⟩, N0, N1, N2⟩
  icases F0 with ⟨⟨R00, R01, R02⟩, ⟨D00, D01, D02⟩, Z0⟩
  icases F1 with ⟨⟨R10, R11, R12⟩, ⟨D10, D11, D12⟩, Z1⟩
  icases F2 with ⟨⟨R20, R21, R22⟩, ⟨D20, D21, D22⟩, Z2⟩
  icases F3 with ⟨⟨R30, R31, R32⟩, ⟨D30, D31, D32⟩, Z3⟩
  isplitr [I Z0 Z1 Z2 Z3]
  · unfold before
    isplitl [HO]; · iexact HO
    isplitl [CB PB]
    · isplitl [CB] <;> iassumption
    isplitl [HX]; · iexact HX
    isplitl [HR]; · iexact HR
    isplitl [X]; · iexact X
    isplitl [R]; · iexact R
    isplitl [W]; · iexact W
    isplitl [L00 B00 U00 S00]
    · iapply (idle_start m c 0 0)
      isplitl [L00]; · iexact L00
      isplitl [B00]; · iexact B00
      isplitl [U00] <;> iassumption
    isplitl [L01 B01 U01 S01]
    · iapply (idle_start m c 0 1)
      isplitl [L01]; · iexact L01
      isplitl [B01]; · iexact B01
      isplitl [U01] <;> iassumption
    isplitl [L10 B10 U10 S10]
    · iapply (idle_start m c 1 0)
      isplitl [L10]; · iexact L10
      isplitl [B10]; · iexact B10
      isplitl [U10] <;> iassumption
    isplitl [L11 B11 U11 S11]
    · iapply (idle_start m c 1 1)
      isplitl [L11]; · iexact L11
      isplitl [B11]; · iexact B11
      isplitl [U11] <;> iassumption
    isplitl [TB0 N0]
    · isplitl [TB0] <;> iassumption
    isplitl [TB1 N1]
    · isplitl [TB1] <;> iassumption
    isplitl [TB2 N2]
    · isplitl [TB2] <;> iassumption
    isplitl [R00]; · iexact R00
    isplitl [R01]; · iexact R01
    isplitl [R02]; · iexact R02
    isplitl [R10]; · iexact R10
    isplitl [R11]; · iexact R11
    isplitl [R12]; · iexact R12
    isplitl [R20]; · iexact R20
    isplitl [R21]; · iexact R21
    isplitl [R22]; · iexact R22
    isplitl [R30]; · iexact R30
    isplitl [R31]; · iexact R31
    isplitl [R32]; · iexact R32
    isplitl [D00]; · iexact D00
    isplitl [D01]; · iexact D01
    isplitl [D02]; · iexact D02
    isplitl [D10]; · iexact D10
    isplitl [D11]; · iexact D11
    isplitl [D12]; · iexact D12
    isplitl [D20]; · iexact D20
    isplitl [D21]; · iexact D21
    isplitl [D22]; · iexact D22
    isplitl [D30]; · iexact D30
    isplitl [D31]; · iexact D31
    isplitl [D32]; · iexact D32
    isplitl [A5]; · iexact A5
    isplitl [O0]; · iexact O0
    isplitl [O1]; · iexact O1
    isplitl [O2]; · iexact O2
    iexact HY
  unfold spare
  isplitl [I]; · iexact I
  isplitl [Z0]; · iexact Z0
  isplitl [Z1]; · iexact Z1
  isplitl [Z2] <;> iassumption

end Cert.MoE

end
-- ==== Proof.Finish.lean ====
/-
# What a device ends with

The state after the run, with what the run left untouched, is every buffer whole again, the expert
arrays as they were, and every semaphore at zero.
-/
module

public import proofs.«01_k».proof.Proof.Open

@[expose] public section

noncomputable section

namespace Cert.MoE

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareDrop shareTokN)

variable {F : FTy → Type} [FloatOps F]
local notation "𝕄" => MT nD τ sig Unit (Elt F) ℕ UU ℕ

variable (m : (ℓ : Loc nD τ sig) → Buf (Elt F) ℓ) (K : Dev nD × Fin 33 → ℕ)

set_option maxHeartbeats 1000000 in
theorem finish (c : Dev nD) :
    iprop(Recs m K ∗ after m c ∗ spare (F := F) c)
      ⊢ |={Set.univ}=> iprop(ow c [] ∗ x0Pt m c ∗ r0Pt m c ∗ y0Pt m c ∗ wts m c ∗ scr (F := F) c
          ∗ bigSep Finset.univ fun i : Fin 33 => semVal (kcell (c, i)) 0) := by
  unfold after spare
  iintro ⟨#HR, ⟨HO, PB, HX, HRt, X, AX, R, AR, W, AW, L00, L01, L10, L11, HP, G0, G1, G2, HY,
    B00, B01, B02, B10, B11, B12, B20, B21, B22, B30, B31, B32⟩, I, Z0, Z1, Z2, Z3⟩
  ihave E0 := (end_x m c) $$ [X AX B00 B01 B02 Z0]
  · isplitl [X]; · iexact X
    isplitl [AX]; · iexact AX
    isplitl [B00]; · iexact B00
    isplitl [B01]; · iexact B01
    isplitl [B02] <;> iassumption
  ihave E1 := (end_r m c) $$ [R AR B10 B11 B12 Z1]
  · isplitl [R]; · iexact R
    isplitl [AR]; · iexact AR
    isplitl [B10]; · iexact B10
    isplitl [B11]; · iexact B11
    isplitl [B12] <;> iassumption
  ihave E2 := (end_w m c) $$ [W AW B20 B21 B22 Z2]
  · isplitl [W]; · iexact W
    isplitl [AW]; · iexact AW
    isplitl [B20]; · iexact B20
    isplitl [B21]; · iexact B21
    isplitl [B22] <;> iassumption
  ihave E3 := (end_oi m c) $$ [B30 B31 B32 G0 G1 G2 I Z3]
  · isplitl [B30]; · iexact B30
    isplitl [B31]; · iexact B31
    isplitl [B32]; · iexact B32
    isplitl [G0]; · iexact G0
    isplitl [G1]; · iexact G1
    isplitl [G2]; · iexact G2
    isplitl [I] <;> iassumption
  ihave E4 := (end_w1 m c) $$ [L00 L01]
  · isplitl [L00] <;> iassumption
  ihave E5 := (end_w2 m c) $$ [L10 L11]
  · isplitl [L10] <;> iassumption
  icases E0 with ⟨S0, K0⟩
  icases E1 with ⟨S1, K1⟩
  icases E2 with ⟨S2, K2⟩
  icases E3 with ⟨S6, S7, K3⟩
  icases E4 with ⟨S3, M2, K00, K01⟩
  icases E5 with ⟨S4, M3, K10, K11⟩
  ihave PB := (over_one m c .bar (fun _ _ h => nomatch h)) $$ PB
  imod (close_all m K c) $$ [PB K0 K1 K2 K3 K00 K01 K10 K11] with HZ
  · isplitr; · iexact HR
    unfold allK
    rw [quad_sep (F := F) (famK (Over m c)), two_sep, two_sep, two_sep]
    isplitl [PB]; · iexact PB
    isplitl [K0 K1 K2 K3]
    · isplitl [K0]; · iexact K0
      isplitl [K1]; · iexact K1
      isplitl [K2] <;> iassumption
    isplitl [K00 K01]
    · isplitl [K00] <;> iassumption
    isplitl [K10] <;> iassumption
  imodintro
  isplitl [HO]; · iexact HO
  isplitl [HX]; · iexact HX
  isplitl [HRt]; · iexact HRt
  isplitl [HY]; · iexact HY
  isplitl [M2 M3]
  · isplitl [M2] <;> iassumption
  isplitr [HZ]
  · isplitl [S0]; · iexact S0
    isplitl [S1]; · iexact S1
    isplitl [S2]; · iexact S2
    isplitl [S3]; · iexact S3
    isplitl [S4]; · iexact S4
    isplitl [HP]; · iexists _; iexact HP
    isplitl [S6] <;> iassumption
  iexact HZ

end Cert.MoE

end
-- ==== Proof.Run.lean ====
/-
# The launch

The proof data of the one call, the ghost state dealt to the four devices, and the run of the whole
program: every execution ends, each device's result at the computed contents, its arguments as they
were and every semaphore at zero.
-/
module

public import proofs.«01_k».proof.Proof.Finish
public import Idealize.ShloMosaic.Lib.Pipeline.CollectiveSegs

@[expose] public section

noncomputable section

namespace Cert.MoE

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareDrop shareTokN)

variable {F : FTy → Type} [FloatOps F]
local notation "𝕄" => MT nD τ sig Unit (Elt F) ℕ UU ℕ

variable (m : (ℓ : Loc nD τ sig) → Buf (Elt F) ℓ) (K : Dev nD × Fin 33 → ℕ)

variable (ρ : Dev nD → PrngReg)

def s₀ : MemSt nD τ sig (Elt F) := ⟨m, fun _ => 0, ρ⟩

/-! ## The call's data -/

/-- What a device's run starts from, apart from its scratch buffers; and what it ends with. -/
def start (c : Dev nD) : sProp 𝕄 :=
  iprop((∃ K, Recs m K ∗ lin (F := F) c) ∗ (cred (tallyAt (cell c .bar) () 3) ∗ famC (F := F) c 0 ∗ famC (F := F) c 1 ∗ famC (F := F) c 2 ∗ famC (F := F) c 3) ∗ wts m c)
def Φ₀ (c : Dev nD) : sProp 𝕄 := iprop(start m c ∗ scr c)
def Φ₁ (c : Dev nD) : sProp 𝕄 := iprop(wts m c ∗ scr c ∗ bigSep Finset.univ fun i : Fin 33 => semVal (kcell (c, i)) 0)

def dats (_ : Fin 1) (c : Dev nD) : Pipeline.Dat τ (Elt F) Unit ℕ UU ℕ cfg0 c where
  A w := (s₀ m ρ).mem ((cfg0.win w).arr.view.loc (c : Thread nD τ))
  after w _ := match w with
    | ⟨0, _⟩ => xB m c
    | ⟨1, _⟩ => rB m c
    | ⟨2, _⟩ => OUT m c
  Φ t := match t with
    | ⟨0, _⟩ => Φ₀ m c
    | ⟨_ + 1, _⟩ => Φ₁ m c
  q _ := fullShare
  owed t := match t with
    | ⟨0, _⟩ => O₀ c
    | ⟨_ + 1, _⟩ => 0

theorem cfg0_N : cfg0.N = 1 := by decide
def t₀ : Fin cfg0.N := ⟨0, by rw [cfg0_N]; decide⟩
theorem fin_N (t : Fin cfg0.N) : t = t₀ := by
  obtain ⟨t, ht⟩ := t; have := cfg0_N; exact Fin.ext (by simp only [t₀]; omega)

theorem fetch_0 (t : Fin cfg0.N) : (cfg0.win (0 : Fin 3)).fetch t = true := by rw [fin_N t]; rfl
theorem fetch_1 (t : Fin cfg0.N) : (cfg0.win (1 : Fin 3)).fetch t = true := by rw [fin_N t]; rfl

theorem owns_whole (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) ((c : Thread nD τ).loc b), ⌜f = X⌝ ∗ (((c : Thread nD τ).loc b) ↦{fullShare} f)) := by
  unfold owns; simp only [Memref.view_whole, View.read_whole, View.set_whole]

abbrev stg (c : Dev nD) (b : Ref sig .tc) (X : b.ty.Contents (Elt F)) : sProp 𝕄 :=
  iprop(∃ f : Buf (Elt F) ((c : Thread nD τ).loc b), ⌜f = X⌝ ∗ (((c : Thread nD τ).loc b) ↦{fullShare} f))

def bodyPre (c : Dev nD) : sProp 𝕄 :=
  iprop(Φ₀ m c ∗ (dats m ρ 0 c).owesAt () t₀.castSucc
    ∗ (∃ d, stg c cc0_stg0_0 ((dats m ρ 0 c).before (0 : Fin 3) t₀ d))
    ∗ (∃ d, stg c cc0_stg1_0 ((dats m ρ 0 c).before (1 : Fin 3) t₀ d))
    ∗ (∃ d, stg c cc0_stg2_0 ((dats m ρ 0 c).before (2 : Fin 3) t₀ d)))
def bodyPost (c : Dev nD) : sProp 𝕄 :=
  iprop(Φ₁ m c ∗ (dats m ρ 0 c).owesAt () t₀.succ ∗ stg c cc0_stg0_0 (xB m c) ∗ stg c cc0_stg1_0 (rB m c) ∗ stg c cc0_stg2_0 (OUT m c))

theorem wp_fupd_post (c : Dev nD) {α : Type} (p : Prog (TpuEff nD τ sig (Elt F) Λ₀ .tc) α) (Q : α → sProp 𝕄) :
    WP c p (fun a => iprop(|={Set.univ}=> Q a)) ⊢ WP c p Q := wp_fupd _ _ _ _ _

theorem whole_body (c : Dev nD) : bodyPre m ρ c ⊢ WP c prog (fun _ => bodyPost m ρ c) := by
  unfold bodyPre Φ₀ start
  iintro ⟨⟨⟨⟨%K, #HR, HL⟩, HC, HM⟩, HS⟩, Ho, ⟨%d0, %g0, %hg0, Hx⟩, ⟨%d1, %g1, %hg1, Hr⟩, %d2, %g2, %hg2, Hy⟩
  have hx : g0 = xB m c := by rw [hg0]; unfold Pipeline.Dat.before; rw [if_pos (fetch_0 t₀)]; rfl
  have hr : g1 = rB m c := by rw [hg1]; unfold Pipeline.Dat.before; rw [if_pos (fetch_1 t₀)]; rfl
  subst hx hr
  unfold Pipeline.Dat.owesAt Pipeline.owesWithin
  icases Ho with ⟨%W, %hW, HO⟩
  ihave HB := (open_before m c) $$ [HL HC HM HS HO Hx Hr Hy]
  · isplitl [HL]; · iexact HL
    isplitl [HC]; · iexact HC
    isplitl [HM]; · iexact HM
    isplitl [HS]; · iexact HS
    isplitl [HO]; · unfold ow; iexists W; iexact HO
    isplitl [Hx]; · iexact Hx
    isplitl [Hr]; · iexact Hr
    iexists g2; iexact Hy
  icases HB with ⟨HB, HP⟩
  iapply (wp_fupd_post c prog _)
  iapply (run_body m K c _) $$ [HB]
  · isplitr; · iexact HR
    iexact HB
  iintro HA
  imod (finish m K c) $$ [HA HP] with ⟨HO, Hx, Hr, Hy, HM, HS, HZ⟩
  · isplitr; · iexact HR
    isplitl [HA] <;> iassumption
  imodintro
  unfold bodyPost Φ₁ Pipeline.Dat.owesAt Pipeline.owesWithin ow
  isplitl [HM HS HZ]
  · isplitl [HM]; · iexact HM
    isplitl [HS] <;> iassumption
  isplitl [HO]
  · icases HO with ⟨%W', HO⟩
    iexists W'
    isplitr; · ipureintro; exact fun _ _ => Or.inl trivial
    iexact HO
  isplitl [Hx]
  · iexists _; isplitr; · (ipureintro; rfl)
    iexact Hx
  isplitl [Hr]
  · iexists _; isplitr; · (ipureintro; rfl)
    iexact Hr
  iexists _; isplitr; · (ipureintro; rfl)
  iexact Hy

set_option maxRecDepth 65536 in
/-- The body obligation. -/
theorem body_obligation (c : Dev nD) : Pipeline.BodyObligation (dats (F := F) m ρ 0 c) (defs₀ (F := F)) 𝒱₀ () Set.univ := fun t => by
  rw [fin_N t]
  rw [bigSep_W0, bigSep_W0]
  simp only [owns_whole]
  show bodyPre m ρ c ⊢ WP c prog (fun _ => bodyPost m ρ c)
  exact whole_body m ρ c

/-! ## The ghost state, dealt -/

theorem ownSemFacts : Pipeline.OwnSemFacts cfg0.spec osem := by decide
theorem share_eq (c : Dev nD) (w : Fin cfg0.W) : (dats m ρ 0 c).share w = fullShare := by unfold Pipeline.Dat.share; split <;> rfl

def cells : Finset (GSem nD τ sig) := Finset.univ.map ⟨kcell, kcell_inj⟩
def tokens : Finset (GSem nD τ sig × ℕ × Fin 4) := Finset.univ.map ⟨tokOf, tokOf_inj⟩
def u₀ : UU := (initOf (Pipeline.cells cfgs cellOf_inj) (Pipeline.launchToks cfgs cellOf_inj), initOf cells tokens)

/-- What the launch deals a device; and what the devices make of it together. -/
def G (c : Dev nD) : sProp 𝕄 :=
  iprop((bigSep Finset.univ fun k : Fin 33 => roundState ER (sched m) (kcell (c, k)) 0)
    ∗ (bigSep Finset.univ fun k : Fin 33 => reached ER (kcell (c, k)) 0) ∗ lin c)
def recs0 (K : Dev nD × Fin 33 → ℕ) : sProp 𝕄 :=
  bigSep Finset.univ fun ci : Dev nD × Fin 33 => iprop(cellInv ER (sched m) (K ci) (kcell ci) ∗ reached ER (kcell ci) 0)
instance recs0_persistent : BI.Persistent (recs0 m K) := by unfold recs0; infer_instance
def G' (c : Dev nD) : sProp 𝕄 := iprop(∃ K, recs0 m K ∗ lin (F := F) c)

theorem fund : BI.own (ER (initOf cells tokens)) ⊢ (|==> bigSep Finset.univ (G (F := F) m) : sProp 𝕄) := by
  have hX (Φ : GSem nD τ sig → sProp 𝕄) : bigSep cells Φ = bigSep Finset.univ fun c : Dev nD => bigSep Finset.univ fun k : Fin 33 => Φ (kcell (c, k)) := by
    unfold cells; rw [bigSep_map, bigSep_univ_prod]; rfl
  have hT : bigSep tokens (fun x => (dutyTok ER x.1 x.2.1 x.2.2 : sProp 𝕄)) = bigSep Finset.univ fun c : Dev nD => bigSep Finset.univ (tk (F := F) c) := by
    unfold tokens; rw [bigSep_map, bigSep_univ_prod]; rfl
  iintro HX
  imod (Rounds.fund ER (sched m) cells tokens) $$ HX with ⟨Hst, Hr, Hat, Htok⟩
  imodintro
  ihave Hst := (Entails.of_eq (hX fun g => roundState ER (sched m) g 0)) $$ Hst
  ihave Hat := (Entails.of_eq (hX fun g => atPos ER g 0 ∅ 0)) $$ Hat
  ihave Hr := (Entails.of_eq (hX fun g => reached ER g 0)) $$ Hr
  ihave Htok := (Entails.of_eq hT) $$ Htok
  unfold G lin; simp only [bigSep_sep']
  isplitl [Hst]; · iexact Hst
  isplitl [Hr]; · iexact Hr
  isplitl [Hat] <;> iassumption

/-- The semaphores: the barrier's one and the thirty-two of the transfers. -/
def semEquiv : Unit ⊕ Fin 32 ≃ Fin 33 where
  toFun s := match s with | .inl _ => 0 | .inr i => i.succ
  invFun i := if h : i.val = 0 then .inl () else .inr ⟨i.val - 1, by omega⟩
  left_inv s := by
    rcases s with _ | i
    · rfl
    · exact dif_neg (Nat.succ_ne_zero _)
  right_inv i := by
    by_cases h : i.val = 0
    · simp only [dif_pos h]; exact Fin.ext h.symm
    · simp only [dif_neg h]; exact Fin.ext (Nat.succ_pred_eq_of_pos (Nat.pos_of_ne_zero h))

theorem sems_eq (c : Dev nD) :
    (bigSep Finset.univ fun i : Fin 33 => semVal (kcell (c, i)) 0 : sProp 𝕄)
      = iprop(semVal (cell c .bar) 0 ∗ Pipeline.ownSems0 (Ix := Unit) (Name := ℕ) (U := UU) (Lvl := ℕ) (Val := Elt F) (τ := τ) osem c) := by
  rw [bigSep_univ_equiv semEquiv (fun i : Fin 33 => (semVal (kcell (c, i)) 0 : sProp 𝕄)),
    BI.bigSep_univ_sum (fun s : Unit ⊕ Fin 32 => (semVal (kcell (c, semEquiv s)) 0 : sProp 𝕄)),
    bigSep_univ_eq_bigSepL [()] (by decide) (by decide) (fun a : Unit => (semVal (kcell (c, semEquiv (.inl a))) 0 : sProp 𝕄))]
  rfl
theorem unscopedSems0_eq (c : Dev nD) : (unscopedSems0 c : sProp 𝕄) = semVal (cell c .bar) 0 := by
  unfold unscopedSems0; rw [bigSep_eq_bigSepL_of_eq [SemLoc.reg barS] (by decide) (by decide)]; rfl

theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k => iprop(∃ κ : ℕ, cellInv ER (sched m) κ (kcell (c, k))))
          ∗ (bigSep Finset.univ fun k : Fin 33 => reached ER (kcell (c, k)) 0) ∗ lin c) := by
  unfold G
  rw [unscopedSems0_eq]
  iintro ⟨Hos, Hus, Hst, Hr, Hl⟩
  ihave Hv := (Entails.of_eq (sems_eq (F := F) c).symm) $$ [Hos Hus]
  · isplitl [Hus] <;> iassumption
  imod (show iprop((bigSep Finset.univ fun k : Fin 33 => semVal (kcell (c, k)) 0) ∗ bigSep Finset.univ fun k : Fin 33 => roundState ER (sched m) (kcell (c, k)) 0)
      ⊢ (|={Set.univ}=> bigSep Finset.univ fun k => iprop(∃ κ : ℕ, cellInv ER (sched m) κ (kcell (c, k))) : sProp 𝕄) from by
        rw [← bigSep_sep']
        exact (bigSep_mono fun k _ => (Rounds.body_intro ER (sched m) (kcell (c, k))).trans inv_alloc).trans (bigSep_fupd _ _)) $$ [Hv Hst] with Hinv
  · isplitl [Hv] <;> iassumption
  imodintro
  isplitl [Hinv]; · iexact Hinv
  isplitl [Hr] <;> iassumption

theorem regroup :
    (bigSep Finset.univ fun c : Dev nD => iprop((bigSep Finset.univ fun k => iprop(∃ κ : ℕ, cellInv ER (sched m) κ (kcell (c, k))))
          ∗ (bigSep Finset.univ fun k : Fin 33 => reached ER (kcell (c, k)) 0) ∗ lin c) : sProp 𝕄)
      ⊢ bigSep Finset.univ (G' (F := F) m) := by
  rw [bigSep_sep', bigSep_sep', ← bigSep_univ_prod (fun ck : Dev nD × Fin 33 => iprop(∃ κ : ℕ, cellInv ER (sched m) κ (kcell ck))),
    ← bigSep_univ_prod (fun ck : Dev nD × Fin 33 => (reached ER (kcell ck) 0 : sProp 𝕄))]
  iintro ⟨HI, #HR, HL⟩
  ihave HK := (BI.bigSep_exists_pi Finset.univ (fun (ck : Dev nD × Fin 33) (κ : ℕ) => (cellInv ER (sched m) κ (kcell ck) : sProp 𝕄))) $$ HI
  icases HK with ⟨%K, #HI⟩
  iapply (with_persistent (R := recs0 m K) fun c _ => show iprop(recs0 m K ∗ lin (F := F) c) ⊢ G' m c from by
    unfold G'; iintro H; iexists K; iexact H)
  isplitr
  · unfold recs0; rw [bigSep_sep']
    isplitr; · iexact HI
    iexact HR
  iexact HL

theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' (F := F) m) :=
  ((bigSep_mono fun c _ => core_alloc m c).trans (bigSep_fupd _ _)).trans (BI.fupd_mono (regroup m))

/-! ## In and out of the call -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  rw [Pipeline.unscopedRestP_none, unscopedRest0_eq]
  iintro ⟨HM, #Hlev, Hcr, -, HG⟩
  ihave Hc := (creds (F := F) c) $$ Hcr
  imodintro
  unfold start G'
  isplitl
  · isplitl [HG]
    · icases HG with ⟨%K, #HR, HL⟩
      iexists K
      isplitr
      · iapply (show iprop(recs0 m K ∗ levAts L lv) ⊢ Recs m K from .rfl)
        isplitr; · iexact HR
        iexact Hlev
      iexact HL
    isplitl [Hc] <;> iassumption
  · iempintro

theorem phi0_intro (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl, scopedRest0_eq]
  unfold Φ₀
  iintro ⟨Hs, -, Hr⟩
  isplitl [Hs] <;> iassumption

theorem phi1_exit (c : Dev nD) :
    (dats m ρ 0 c).Φ (Fin.last cfg0.N) ⊢ iprop((unscopedSems0 c ∗ wts m c) ∗ Pipeline.ownSems0 osem c ∗ Pipeline.scopedRest cfg0.spec c) := by
  rw [show (dats m ρ 0 c).Φ (Fin.last cfg0.N) = Φ₁ m c from rfl, scopedRest0_eq, unscopedSems0_eq]
  unfold Φ₁
  rw [sems_eq]
  iintro ⟨HM, HS, HB, HZ⟩
  isplitl [HB HM]
  · isplitl [HB] <;> iassumption
  isplitl [HZ] <;> iassumption

theorem waits (c : Dev nD) : (levAts L lv : sProp 𝕄) ⊢ Pipeline.cellsWaits cfgs (dats (F := F) m ρ) () 0 c :=
  Pipeline.cellsWaits_intro cfgs (dats m ρ) () 0 c fun w s t => by
    have hk : ∀ (w : Fin 3) (s : Fin (cfg0.spec w).nbuf), levK (kd (SemLoc.dma ((cfg0.spec w).sem s))) ≤ 0 := by decide
    rcases t with ⟨_ | _, ht⟩
    · exact mayWait c _ 0 (hk w s) pays (fun a _ => lev_pos a)
    · exact mayWait c _ 0 (hk w s) [] (fun a h => nomatch h)

/-! ## The run -/

def finalA (c : Dev nD) (w : Fin cfg0.W) : Buf (Elt F) ((cfg0.win w).arr.view.loc (c : Thread nD τ)) := (dats m ρ 0 c).arrAt w cfg0.N

/-- What a device's memory holds at the end besides the windows' arrays. -/
def kept (c : Dev nD) (s : MemSt nD τ sig (Elt F)) : Prop :=
  s.mem ((c : Thread nD τ).loc main_arg2) = m ((c : Thread nD τ).loc main_arg2) ∧ s.mem ((c : Thread nD τ).loc main_arg3) = m ((c : Thread nD τ).loc main_arg3)

theorem exit_read (c : Dev nD) (s' : Phys nD τ sig (Elt F)) :
    iprop((unscopedSems0 c ∗ wts m c) ∗ emp ∗ SI s')
      ⊢ |={Set.univ}=> (iprop(⌜(∀ sm : SemLoc sig, sm.isScoped .tc = false → s'.mem.sem ((c.tc : Thread nD τ), sm) = 0) ∧ kept m c s'.mem⌝ ∗ SI s') : sProp 𝕄) := by
  iintro ⟨⟨Hu, H2, H3⟩, -, HSI⟩
  ihave %h2 := (SI_pointsTo_agree (st := s') (ℓ := (c : Thread nD τ).loc main_arg2) (q := fullShare) (f := m ((c : Thread nD τ).loc main_arg2)) (I := Finset.univ)) $$ [HSI H2]
  · isplitl [HSI] <;> iassumption
  ihave %h3 := (SI_pointsTo_agree (st := s') (ℓ := (c : Thread nD τ).loc main_arg3) (q := fullShare) (f := m ((c : Thread nD τ).loc main_arg3)) (I := Finset.univ)) $$ [HSI H3]
  · isplitl [HSI] <;> iassumption
  imod (Pipeline.unscopedSems0_read (X := unscopedSems0 c) (c := c) fupd_intro s') $$ [Hu HSI] with ⟨%h, HSI⟩
  · isplitl [Hu] <;> iassumption
  imodintro
  isplitr
  · ipureintro
    exact ⟨h, funext fun i => h2 i (Finset.mem_univ i), funext fun i => h3 i (Finset.mem_univ i)⟩
  iexact HSI

def QC : PUnit × MemSt nD τ sig (Elt F) → Prop := fun r =>
  ∀ c : Dev nD, (∀ w : Fin cfg0.W, r.2.mem ((cfg0.win w).arr.view.loc (c : Thread nD τ)) = finalA m ρ c w) ∧ kept m c r.2

set_option maxRecDepth 65536 in
/-- From any memory with zero counters every execution of the four devices' programs terminates, with each window's array
    at its final contents, the expert arrays as they were and every counter at zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m) (G' := G' m) (u₀ := u₀)
    (hu₀ := by
      unfold u₀
      iintro Hu
      ihave H := (ownU_pair _ _) $$ Hu
      icases H with ⟨HP, HX⟩
      imod (fund m) $$ HX with HG
      imodintro
      isplitl [HP] <;> iassumption)
    (hglob := glob m)
    (hA := fun _ _ => rfl) (hpf := fun _ k => k.elim0)
    (X := start m) (Y := fun c => iprop(unscopedSems0 c ∗ wts m c)) (Z := fun _ => iprop(emp))
    (hX := start_intro m ρ) (hin := phi0_intro m ρ) (hout := phi1_exit m ρ)
    (QY := fun c s => (∀ sm : SemLoc sig, sm.isScoped .tc = false → s.sem ((c.tc : Thread nD τ), sm) = 0) ∧ kept m c s)
    (hY := fun c s' => exit_read m c s')
    (hQ := fun _ h hs => ⟨fun c => ⟨fun w => (h c).1 w, (h c).2.2.2⟩, sem_eq_zero hs fun c => (h c).2.2.1⟩)

/-- The arguments the call reads through its windows are as they were. -/
theorem finalA_x (c : Dev nD) : finalA m ρ c (0 : Fin 3) = m ((c : Thread nD τ).loc main_arg0) := (dats (F := F) m ρ 0 c).arrAt_in (0 : Fin 3) rfl _
theorem finalA_r (c : Dev nD) : finalA m ρ c (1 : Fin 3) = m ((c : Thread nD τ).loc main_arg1) := (dats (F := F) m ρ 0 c).arrAt_in (1 : Fin 3) rfl _

end Cert.MoE

end
-- ==== Proof.Frames.lean ====
/-
# The frames

What `run_main` gives of each program, its contents dropped; and the buffer the result is read from.
-/
module

public import proofs.«01_k».proof.Defs
public import proofs.«01_k».proof.Proof.Run
public import proofs.«01_k».proof.Proof.Gen.Kernel
public import proofs.«01_k».proof.Proof.Gen.ReferenceIdeal.Run

@[expose] public section

noncomputable section

namespace Cert.MoE

open Cert.KernelIdeal Cert.KernelIdeal.Gen
open Idealize.ShloMosaic Idealize.ShloMosaic.TcCoe
open Idealize.SL.Sem

variable {F : FTy → Type} [FloatOps F]

section
variable (m : (ℓ : Loc nD τ sig) → Buf (Elt F) ℓ) (ρ : Dev nD → PrngReg)

/-- The result's one block is the whole buffer. -/
theorem out_whole (f : (⟨S256x1024, .f32⟩ : BufTy).Contents (Elt F)) :
    (win0_2.blk (0 : Fin 1)).view.read (Elt F) f = f :=
  Memref.read_access_unit_zero (Elt F) main_v1 (funext fun a => by fin_cases a <;> decide) (fun a => by fin_cases a <;> decide) f

theorem x_whole (c : Dev nD) : xB m c = m ((c : Thread nD τ).loc main_arg0) :=
  Memref.read_access_unit_zero (Elt F) main_arg0 (funext fun a => by fin_cases a <;> decide) (fun a => by fin_cases a <;> decide) _

theorem r_whole (c : Dev nD) : rB m c = m ((c : Thread nD τ).loc main_arg1) :=
  Memref.read_access_unit_zero (Elt F) main_arg1 (funext fun a => by fin_cases a <;> decide) (fun a => by fin_cases a <;> decide) _

theorem finalA_o (c : Dev nD) : finalA m ρ c (2 : Fin 3) = OUT m c := by
  have h : (win0_2.blk (0 : Fin 1)).view.read (Elt F) (finalA m ρ c (2 : Fin 3)) = OUT m c := by
    unfold finalA
    rw [show cfg0.N = ((0 : Fin 1) : Fin cfg0.N).val + 1 from rfl, (dats m ρ 0 c).arrAt_succ (2 : Fin 3) (0 : Fin 1)]
    rw [show (cfg0.win (2 : Fin 3)).flush (0 : Fin 1) = true from by decide, if_pos rfl]
    exact View.read_write_univ _ _
  exact (out_whole _).symm.trans h

/-- The whole run with each device's result and its arguments. -/
theorem run_values : θ_run defs (onTc (τ := τ) (main (F := F))) ⟨m, fun _ => 0, ρ⟩ (fun r =>
    (∀ c : Dev nD, r.2.mem ((c.tc : Thread nD τ).loc main_v1) = OUT m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
    ∧ r.2.sem = fun _ => 0) :=
  (θ_run defs _ _).mono (fun r h => ⟨fun c => ⟨((h.1 c).1 (2 : Fin 3)).trans (finalA_o m ρ c),
    ((h.1 c).1 (0 : Fin 3)).trans (finalA_x m ρ c), ((h.1 c).1 (1 : Fin 3)).trans (finalA_r m ρ c), (h.1 c).2.1, (h.1 c).2.2⟩, h.2⟩)
    (run_main m ρ)
end

theorem frame_kernelIdeal : Cert.quiescent_KernelIdeal := fun m ρ _ =>
  (θ_run defs _ _).mono (fun _ h => ⟨fun c => (h.1 c).2, h.2⟩) (run_values (F := Ideal) m ρ)

/-- The two programs call the same bodies. -/
theorem bodies_eq : Cert.Kernel.defs₀ (F := Bits) = defs₀ (F := Bits) :=
  congrArg Defs.onTc (funext fun l => funext fun a => by
    match l, a with
    | ⟨0, _⟩, (t, s) => exact rfl
    | ⟨n + 1, h⟩, _ => exact absurd h (Nat.not_lt.2 (Nat.le_add_left _ _)))

theorem defs_eq : Cert.Kernel.defs (F := Bits) = defs (F := Bits) :=
  congrArg (Pipeline.defs (pcfgs (F := Bits))) bodies_eq

/-- The first program prints the same text, so its frame is the same run at machine floats. -/
theorem frame_kernel : Cert.quiescent_Kernel := fun m ρ _ => by
  have h := (θ_run (defs (F := Bits)) (onTc (τ := τ) (main (F := Bits))) ⟨m, fun _ => 0, ρ⟩).mono (Q' := fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
    ∧ r.2.sem = fun _ => 0) (fun _ h => ⟨fun c => (h.1 c).2, h.2⟩) (run_values (F := Bits) m ρ)
  show (θ_run (Cert.Kernel.defs (F := Bits)) (onTc (τ := τ) (main (F := Bits))) ⟨m, fun _ => 0, ρ⟩) _
  rw [defs_eq]
  exact h

theorem frame_reference : Cert.quiescent_ReferenceIdeal := fun m ρ _ =>
  (θ_run Cert.ReferenceIdeal.defs _ _).mono (fun r h => ⟨fun c => (h c).2, Idealize.ShloMosaic.sem_eq_zero_of_no_sems (by decide) r.2⟩)
    (Cert.ReferenceIdeal.Value.run m ρ)

end Cert.MoE

end
-- ==== Proof.Top2.lean ====
/-
# The two largest of sixteen values

Sixteen values of a linear order have a first largest position and, leaving it out, a first second
largest. This module fixes the pair by its properties (`Best2`), shows that it exists, and reads it
off the three computations that meet it: a maximum over all positions, a minimum over the positions
that hold the maximum, and the first two entries of a stable sort by the negated values.
-/
module

public import Idealize.ShloMosaic.Lib.Pointwise
public import Idealize.ShloMosaic.Lib.SortPrefix

@[expose] public section

noncomputable section

namespace Cert.MoE

open Idealize.ShloMosaic

/-- Position `a` is the first at which `g` is largest, and `b` the first of the others. -/
structure Best2 (g : Fin 16 → EReal) (a b : Fin 16) : Prop where
  ne : b ≠ a
  top : ∀ j, g j ≤ g a
  first : ∀ j, j < a → g j < g a
  top2 : ∀ j, j ≠ a → g j ≤ g b
  first2 : ∀ j, j ≠ a → j < b → g j < g b

/-- Among some positions there is a first one at which `g` is largest. -/
theorem exists_first_max (g : Fin 16 → EReal) (s : Finset (Fin 16)) (hs : s.Nonempty) :
    ∃ a ∈ s, (∀ j ∈ s, g j ≤ g a) ∧ ∀ j ∈ s, j < a → g j < g a := by
  obtain ⟨i, hi, hmax⟩ := s.exists_max_image g hs
  have ht : (s.filter fun j => g j = g i).Nonempty := ⟨i, by simp [hi]⟩
  have hm := Finset.min'_mem _ ht
  rw [Finset.mem_filter] at hm
  refine ⟨_, hm.1, fun j hj => by rw [hm.2]; exact hmax j hj, fun j hj hlt => ?_⟩
  rw [hm.2]
  refine lt_of_le_of_ne (hmax j hj) fun he => ?_
  exact absurd (Finset.min'_le _ j (by simp [hj, he])) (not_le.mpr hlt)

theorem exists_best2 (g : Fin 16 → EReal) : ∃ a b, Best2 g a b := by
  obtain ⟨a, -, ha, ha'⟩ := exists_first_max g Finset.univ ⟨0, Finset.mem_univ _⟩
  obtain ⟨b, hb, hb1, hb2⟩ := exists_first_max g (Finset.univ.erase a) ⟨if a = 0 then 1 else 0, by
    rw [Finset.mem_erase]; refine ⟨?_, Finset.mem_univ _⟩; split <;> simp_all [eq_comm]⟩
  exact ⟨a, b, (Finset.mem_erase.mp hb).1, fun j => ha j (Finset.mem_univ _), fun j => ha' j (Finset.mem_univ _),
    fun j hj => hb1 j (Finset.mem_erase.mpr ⟨hj, Finset.mem_univ _⟩),
    fun j hj => hb2 j (Finset.mem_erase.mpr ⟨hj, Finset.mem_univ _⟩)⟩

/-- A value that absorbs the start and every entry absorbs the whole fold. -/
theorem fold_absorbed {α β : Type} [DecidableEq α] (op : β → β → β) [Std.Commutative op] [Std.Associative op]
    (f : α → β) (b x : β) (s : Finset α) (hb : op x b = x) (h : ∀ j ∈ s, op x (f j) = x) :
    op x (s.fold op b f) = x := by
  induction s using Finset.induction_on with
  | empty => simpa using hb
  | insert i s hi ih =>
    rw [Finset.fold_insert hi, ← Std.Associative.assoc (op := op), h i (Finset.mem_insert_self _ _)]
    exact ih fun j hj => h j (Finset.mem_insert_of_mem hj)

/-- The fold is the entry that absorbs the start and all the others. -/
theorem fold_eq_absorber {α β : Type} [DecidableEq α] [Fintype α] (op : β → β → β) [Std.Commutative op] [Std.Associative op]
    (f : α → β) (b : β) (a : α) (hb : op (f a) b = f a) (h : ∀ j, j ≠ a → op (f a) (f j) = f a) :
    Finset.univ.fold op b f = f a := by
  rw [← Finset.insert_erase (Finset.mem_univ a), Finset.fold_insert (Finset.notMem_erase _ _)]
  exact fold_absorbed op f b (f a) _ hb fun j hj => h j (Finset.mem_erase.mp hj).1

/-- The maximum from below everything is the largest value. -/
theorem fold_max_eq {g : Fin 16 → EReal} {a : Fin 16} (h : ∀ j, g j ≤ g a) : Finset.univ.fold max ⊥ g = g a :=
  fold_eq_absorber max g ⊥ a (by simp) fun j _ => max_eq_left (h j)

theorem minsi_word : ∀ a e : Fin 16, a ≤ e → IntOp.minsi (BitVec.ofNat 32 a.val) (BitVec.ofNat 32 e.val) = BitVec.ofNat 32 a.val := by
  decide

theorem minsi_word_bound : ∀ a : Fin 16, IntOp.minsi (BitVec.ofNat 32 a.val) 16#32 = BitVec.ofNat 32 a.val
    ∧ IntOp.minsi (BitVec.ofNat 32 a.val) 2147483647#32 = BitVec.ofNat 32 a.val := by
  decide

/-- The least position with a property, the number sixteen standing for the positions without it. -/
theorem fold_minsi_eq (p : Fin 16 → Prop) [DecidablePred p] (a : Fin 16) (ha : p a) (h : ∀ j, j < a → ¬ p j) :
    Finset.univ.fold IntOp.minsi 2147483647#32 (fun e : Fin 16 => if p e then BitVec.ofNat 32 e.val else 16#32)
      = BitVec.ofNat 32 a.val := by
  refine (fold_eq_absorber IntOp.minsi _ _ a ?_ fun j hj => ?_).trans (if_pos ha)
  · simp only [if_pos ha]; exact (minsi_word_bound a).2
  · simp only [if_pos ha]
    by_cases hp : p j
    · rw [if_pos hp]; exact minsi_word a j (not_lt.mp fun hlt => h j hlt hp)
    · rw [if_neg hp]; exact (minsi_word_bound a).1

/-- A stable insertion sort of an ascending list only ever asks whether a later entry precedes an earlier one. -/
theorem stableSort_ascending {n : ℕ} (R R' : Fin n → Fin n → Bool) (h : ∀ a b, a < b → R b a = R' b a) (l : List (Fin n))
    (hl : l.Pairwise (· < ·)) : stableSort R l = stableSort R' l := by
  induction l with
  | nil => rfl
  | cons a l ih =>
    rw [List.pairwise_cons] at hl
    show insertBefore R a (stableSort R l) = insertBefore R' a (stableSort R' l)
    rw [ih hl.2]
    exact insertBefore_congr R R' a _ fun b hb => h a b (hl.1 b ((perm_stableSort R' l).mem_iff.mp hb))

/-- Two orders that sort the positions alike take each entry from the same position. -/
theorem sortedFrom_of_positions {n : ℕ} {R R' : Fin n → Fin n → Bool} (h : sortPositions n R = sortPositions n R') :
    sortedFrom R = sortedFrom R' := by
  funext k
  simp only [sortedFrom, List.get_eq_getElem, Fin.val_cast]
  exact List.getElem_of_eq h _

/-- By the negated value and then the position, `p` does not precede `a`. -/
theorem not_before {g : Fin 16 → EReal} {p a : Fin 16} (h1 : g p ≤ g a) (h2 : p < a → g p < g a) :
    (decide (-g p < -g a) || (decide (g p = g a) && decide (p < a))) = false := by
  simp only [Bool.or_eq_false_iff, Bool.and_eq_false_iff, decide_eq_false_iff_not, EReal.neg_lt_neg_iff, not_lt]
  refine ⟨h1, ?_⟩
  by_cases hlt : p < a
  · exact .inl (h2 hlt).ne
  · exact .inr (not_lt.mp hlt)

/-- The first two positions of the stable sort by the negated values. -/
theorem sorted_first_two {g : Fin 16 → EReal} {a b : Fin 16} (h : Best2 g a b) :
    sortedFrom (fun k k' : Fin 16 => decide (-g k < -g k')) 0 = a ∧ sortedFrom (fun k k' : Fin 16 => decide (-g k < -g k')) 1 = b := by
  have hB := StrictTotalBefore.of_key_then_position (fun x y : EReal => decide (-x < -y)) g (by simp)
    (fun x y z h1 h2 => by
      simp only [decide_eq_true_eq] at h1 h2 ⊢
      exact h1.trans h2)
    (fun x y => by
      simp only [decide_eq_true_eq, EReal.neg_lt_neg_iff]
      rcases lt_trichotomy x y with h | h | h
      · exact .inr (.inr h)
      · exact .inr (.inl h)
      · exact .inl h)
  have hcongr : sortedFrom (fun k k' : Fin 16 => decide (-g k < -g k'))
      = sortedFrom (fun k k' : Fin 16 => (fun x y : EReal => decide (-x < -y)) (g k) (g k') || (decide (g k = g k') && decide (k < k'))) := by
    exact sortedFrom_of_positions (stableSort_ascending _ _
      (fun a b hab => by simp [not_lt.mpr hab.le]) (List.finRange 16) (List.pairwise_lt_finRange 16))
  rw [hcongr]
  have key := StrictTotalBefore.sortedFrom_eq_of_prefix hB (k := 2) (by decide) ![a, b]
    (by
      intro i j hij
      fin_cases i <;> fin_cases j <;> simp_all [h.ne, h.ne.symm])
    (fun i j hij => by
      have hi : i = 0 := by omega
      have hj : j = 1 := by omega
      rw [hi, hj]
      exact not_before (p := b) (a := a) (h.top b) (h.first b))
    (fun i p hp => by
      have hpa : p ≠ a := fun e => hp 0 e.symm
      have hi : i = 0 ∨ i = 1 := by omega
      rcases hi with hi | hi <;> rw [hi]
      · exact not_before (p := p) (a := a) (h.top p) (h.first p)
      · exact not_before (p := p) (a := b) (h.top2 p hpa) (h.first2 p hpa))
  exact ⟨key 0, key 1⟩

end Cert.MoE

end
-- ==== Proof.Mixture.lean ====
/-
# The mixture of experts, over the extended reals

The mathematics both programs compute: the gate values, every expert's two-layer product, the
weights of the two chosen experts, and the weighted sum. Nothing here mentions a program. The facts
about them that the two readings need: a hidden layer summed by halves, the weights nonnegative and
finite, and the weighted sum written either with the two weights added per expert or as two sums.
-/
module

public import proofs.«01_k».proof.Proof.Top2

@[expose] public section

noncomputable section

namespace Cert.MoE

open Idealize.ShloMosaic

/-- The position of the largest gate value. -/
def best (g : Fin 16 → EReal) : Fin 16 := (exists_best2 g).choose
/-- The position of the second largest gate value. -/
def second (g : Fin 16 → EReal) : Fin 16 := (exists_best2 g).choose_spec.choose

theorem best2 (g : Fin 16 → EReal) : Best2 g (best g) (second g) := (exists_best2 g).choose_spec.choose_spec

/-- The exponential of the second largest gate value less the largest. -/
def ratio (g : Fin 16 → EReal) : EReal := Ideal.exp (g (second g) - g (best g))
/-- The weight of the first chosen expert. -/
def weight1 (g : Fin 16 → EReal) : EReal := Ideal.div 1 (1 + ratio g)
/-- The weight of the second chosen expert. -/
def weight2 (g : Fin 16 → EReal) : EReal := Ideal.div (ratio g) (1 + ratio g)

/-- Every gate value is a real number. -/
def Finite (g : Fin 16 → EReal) : Prop := ∀ e, g e ≠ ⊤ ∧ g e ≠ ⊥

/-- For real gate values the two weights are real and nonnegative. -/
theorem ratio_real {g : Fin 16 → EReal} (h : Finite g) : ∃ r : ℝ, 0 < r ∧ ratio g = (r : EReal) := by
  obtain ⟨x, hx⟩ : ∃ x : ℝ, g (second g) = x := ⟨_, (EReal.coe_toReal (h _).1 (h _).2).symm⟩
  obtain ⟨y, hy⟩ : ∃ y : ℝ, g (best g) = y := ⟨_, (EReal.coe_toReal (h _).1 (h _).2).symm⟩
  refine ⟨Real.exp (x - y), Real.exp_pos _, ?_⟩
  rw [ratio, hx, hy, ← EReal.coe_sub, Ideal.exp_coe]

theorem weights_real {g : Fin 16 → EReal} (h : Finite g) :
    ∃ u v : ℝ, 0 ≤ u ∧ 0 ≤ v ∧ weight1 g = (u : EReal) ∧ weight2 g = (v : EReal) := by
  obtain ⟨r, hr, hr'⟩ := ratio_real h
  have h1 : (1 : EReal) + (r : EReal) = ((1 + r : ℝ) : EReal) := by rw [EReal.coe_add, EReal.coe_one]
  have hne : (1 + r : ℝ) ≠ 0 := by positivity
  refine ⟨1 / (1 + r), r / (1 + r), by positivity, by positivity, ?_, ?_⟩
  · rw [weight1, hr', h1, Ideal.div_coe hne, one_mul]
  · rw [weight2, hr', h1, Ideal.div_coe hne, ← EReal.coe_mul, mul_one_div]

/-- What the two chosen experts' weights come to for expert `e`: its weight if it was chosen, else nothing. -/
def share (g : Fin 16 → EReal) (e : Fin 16) : EReal :=
  (if best g = e then weight1 g else 0) + (if second g = e then weight2 g else 0)

/-- An expert's share is a nonnegative real number. -/
theorem share_real {g : Fin 16 → EReal} (h : Finite g) (e : Fin 16) : 0 ≤ share g e ∧ share g e ≠ ⊤ := by
  obtain ⟨u, v, hu, hv, e1, e2⟩ := weights_real h
  have : share g e = (((if best g = e then u else 0) + (if second g = e then v else 0) : ℝ) : EReal) := by
    rw [share, e1, e2, EReal.coe_add]
    split <;> split <;> simp
  rw [this]
  refine ⟨?_, EReal.coe_ne_top _⟩
  rw [EReal.coe_nonneg]
  split <;> split <;> positivity

variable (X : Fin 1024 → Fin 1024 → EReal) (R : Fin 1024 → Fin 16 → EReal)
  (U : Fin 16 → Fin 1024 → Fin 2048 → EReal) (V : Fin 16 → Fin 2048 → Fin 1024 → EReal)

/-- The gate values of token `t`. -/
def gate (t : Fin 1024) : Fin 16 → EReal := fun e => ∑ k, X t k * R k e

/-- One hidden unit's contribution. -/
def unit (e : Fin 16) (t d : Fin 1024) (f : Fin 2048) : EReal := max (∑ k, X t k * U e k f) 0 * V e f d

/-- Expert `e` on token `t`. -/
def expert (e : Fin 16) (t d : Fin 1024) : EReal := ∑ f, unit X U V e t d f

/-- The same sum over one half of the hidden units. -/
def half (e : Fin 16) (b : Fin 2) (t d : Fin 1024) : EReal :=
  ∑ j : Fin 1024, unit X U V e t d ⟨b.val * 1024 + j.val, by have := b.isLt; have := j.isLt; omega⟩

theorem expert_halves (e : Fin 16) (t d : Fin 1024) : expert X U V e t d = half X U V e 0 t d + half X U V e 1 t d := by
  rw [expert, Fin.sum_univ_two_halves 1024 1024 rfl, half, half]
  congr 1

/-- The mixture: every expert weighted by its share. -/
def mixture (t d : Fin 1024) : EReal := ∑ e, expert X U V e t d * share (gate X R t) e

/-- The halves of an expert, weighted one by one. -/
theorem halves_weighted {g : Fin 16 → EReal} (h : Finite g) (e : Fin 16) (t d : Fin 1024) :
    half X U V e 0 t d * share g e + half X U V e 1 t d * share g e = expert X U V e t d * share g e := by
  rw [expert_halves, mul_comm (_ + _), EReal.left_distrib_of_nonneg_of_ne_top (share_real h e).1 (share_real h e).2,
    mul_comm (share g e), mul_comm (share g e)]

/-- The mixture as two sums, one per chosen expert. -/
theorem mixture_two_sums {t : Fin 1024} (h : Finite (gate X R t)) (d : Fin 1024) :
    mixture X R U V t d
      = (∑ e, if best (gate X R t) = e then expert X U V e t d * weight1 (gate X R t) else 0)
        + ∑ e, if second (gate X R t) = e then expert X U V e t d * weight2 (gate X R t) else 0 := by
  obtain ⟨u, v, hu, hv, e1, e2⟩ := weights_real h
  rw [← Finset.sum_add_distrib, mixture]
  refine Finset.sum_congr rfl fun e _ => ?_
  rw [share, EReal.left_distrib_of_nonneg]
  · rw [mul_ite, mul_ite, mul_zero]
  · rw [e1]; split <;> simp [hu]
  · rw [e2]; split <;> simp [hv]

/-- A sum of real numbers is a real number. -/
theorem sum_real {ι : Type} [DecidableEq ι] (s : Finset ι) (f : ι → EReal) (h : ∀ i ∈ s, ∃ r : ℝ, f i = (r : EReal)) :
    ∃ r : ℝ, ∑ i ∈ s, f i = (r : EReal) := by
  induction s using Finset.induction_on with
  | empty => exact ⟨0, by simp⟩
  | insert i s hi ih =>
    obtain ⟨x, hx⟩ := h i (Finset.mem_insert_self _ _)
    obtain ⟨y, hy⟩ := ih fun j hj => h j (Finset.mem_insert_of_mem hj)
    exact ⟨x + y, by rw [Finset.sum_insert hi, hx, hy, EReal.coe_add]⟩

/-- Real tokens and a real router give real gate values. -/
theorem gate_finite (hX : ∀ t k, X t k ≠ ⊤ ∧ X t k ≠ ⊥) (hR : ∀ k e, R k e ≠ ⊤ ∧ R k e ≠ ⊥) (t : Fin 1024) :
    Finite (gate X R t) := by
  intro e
  obtain ⟨r, hr⟩ := sum_real Finset.univ (fun k => X t k * R k e) fun k _ =>
    ⟨(X t k).toReal * (R k e).toReal, by
      rw [EReal.coe_mul, EReal.coe_toReal (hX t k).1 (hX t k).2, EReal.coe_toReal (hR k e).1 (hR k e).2]⟩
  rw [gate, hr]
  exact ⟨EReal.coe_ne_top _, EReal.coe_ne_bot _⟩

end Cert.MoE

end
-- ==== Proof.Routing.lean ====
/-
# The kernel's choice of experts

The gate values of one token are a row of the product of a device's tokens with the four router
blocks put side by side. From that row the kernel takes the largest value, the least position that
holds it, the same again with that position struck out, and the two weights. Read over the extended
reals at one token, these are the `best`, `second`, `weight1` and `weight2` of its gate values.
-/
module

public import proofs.«01_k».proof.Proof.Vals
public import proofs.«01_k».proof.Proof.Mixture

@[expose] public section

set_option maxRecDepth 16384

noncomputable section

namespace Cert.Value

open Cert.MoE hiding ix3
open Cert.KernelIdeal Cert.KernelIdeal.Gen
open Idealize.ShloMosaic

/-- The bit pattern the kernel's maxima start from is the least extended real. -/
theorem negInf_eq : Ideal.ofBits .f32 4286578688#32 = (⊥ : EReal) := by simp [Ideal.ofBits, Ideal.ieee]

/-- The word of a position, read as a number. -/
theorem word_toInt : ∀ e : Fin 16, (BitVec.ofNat 32 e.val).toInt = (e.val : ℤ) := by decide

theorem word_real (e : Fin 16) : (FloatOps.sitofp .f32 (BitVec.ofNat 32 e.val) : Ideal .f32) = ((e.val : ℝ) : EReal) := by
  show (((BitVec.ofNat 32 e.val).toInt : ℝ) : EReal) = _
  rw [word_toInt, Int.cast_natCast]

/-- The words of two positions are equal only for equal positions. -/
theorem word_inj : ∀ e e' : Fin 16, BitVec.ofNat 32 e.val = BitVec.ofNat 32 e'.val ↔ e = e' := by decide

section
variable {r0 r1 r2 r3 : Vec Ideal S1x1024x4 .f32} {x : Vec Ideal S256x1024 .f32} {t : Fin 256} {g : Fin 16 → EReal}
  (hg : ∀ e : Fin 16, k0_pay3 (F := Ideal) r0 r1 r2 r3 x (ix2 t e) = g e)
include hg

theorem largest_apply : k0_pay4 (F := Ideal) r0 r1 r2 r3 x (ix2 t 0) = g (best g) := by
  pointwise [k0_pay4]
  simp only [hg, negInf_eq]
  exact fold_max_eq (best2 g).top

theorem first_apply : k0_pay5 (F := Ideal) r0 r1 r2 r3 x (ix2 t 0) = BitVec.ofNat 32 (best g).val := by
  pointwise [k0_pay5]
  simp only [hg, largest_apply hg]
  exact fold_minsi_eq (fun e => g e = g (best g)) _ rfl fun j hj => ((best2 g).first j hj).ne

theorem struck_apply (e : Fin 16) : k0_pay6 (F := Ideal) r0 r1 r2 r3 x (ix2 t e) = if e = best g then ⊥ else g e := by
  pointwise [k0_pay6]
  rw [hg, first_apply hg, negInf_eq]
  by_cases h : e = best g
  · subst h; simp [IntOp.cmpi, Scalar.select]
  · rw [if_neg h]
    have := beq_eq_false_iff_ne.mpr (mt (word_inj e (best g)).mp h)
    simp [IntOp.cmpi, Scalar.select, this]

theorem struck_max : Finset.univ.fold max ⊥ (fun e : Fin 16 => if e = best g then ⊥ else g e) = g (second g) := by
  have h := fold_eq_absorber max (fun e : Fin 16 => if e = best g then ⊥ else g e) ⊥ (second g) (by simp) fun j _ => by
    rw [if_neg (best2 g).ne]
    split
    · simp
    · rename_i hj; exact max_eq_left ((best2 g).top2 j hj)
  rw [h, if_neg (best2 g).ne]

theorem next_apply : k0_pay7 (F := Ideal) r0 r1 r2 r3 x (ix2 t 0) = g (second g) := by
  pointwise [k0_pay7]
  simp only [struck_apply hg, negInf_eq]
  exact struck_max hg

theorem second_apply (hfin : Finite g) : k0_pay8 (F := Ideal) r0 r1 r2 r3 x (ix2 t 0) = BitVec.ofNat 32 (second g).val := by
  pointwise [k0_pay8]
  simp only [struck_apply hg, next_apply hg]
  refine fold_minsi_eq (fun e => (if e = best g then ⊥ else g e) = g (second g)) _ (if_neg (best2 g).ne) fun j hj => ?_
  by_cases h : j = best g
  · rw [if_pos h]; exact (hfin _).2.symm
  · rw [if_neg h]; exact ((best2 g).first2 j h hj).ne

theorem ratio_apply : k0_pay9 (F := Ideal) r0 r1 r2 r3 x (ix2 t 0) = ratio g := by
  pointwise [k0_pay9]
  rw [next_apply hg, largest_apply hg, ratio]

end

variable (m : (ℓ : Loc nD τ sig) → Buf (Elt Ideal) ℓ)
variable (X : Fin 1024 → Fin 1024 → EReal) (R : Fin 1024 → Fin 16 → EReal)
  (U : Fin 16 → Fin 1024 → Fin 2048 → EReal) (V : Fin 16 → Fin 2048 → Fin 1024 → EReal)

/-- Token `r` of device `c`, among all tokens. -/
def tok (c : Fin 4) (r : Fin 256) : Fin 1024 := ⟨c.val * 256 + r.val, by have := c.isLt; have := r.isLt; omega⟩
/-- Expert `j` of device `c`, among all experts. -/
def exOf (c : Fin 4) (j : Fin 4) : Fin 16 := ⟨c.val * 4 + j.val, by have := c.isLt; have := j.isLt; omega⟩

/-- Each device holds its tokens, its router columns and its experts' matrices of the whole arrays. -/
structure Holds : Prop where
  x : ∀ (c : Dev nD) r k, xB m c (ix2 r k) = X (tok c r) k
  router : ∀ (c : Dev nD) k j, rB m c (ix2 k j) = R k (exOf c j)
  w1 : ∀ (c : Dev nD) (e : Fin 4) (k : Fin 1024) (f : Fin 2048),
    (m (c.tc.loc main_arg2) : Vec Ideal S4x1024x2048 .f32) (ix3 e k f) = U (exOf c e) k f
  w2 : ∀ (c : Dev nD) (e : Fin 4) (f : Fin 2048) (d : Fin 1024),
    (m (c.tc.loc main_arg3) : Vec Ideal S4x2048x1024 .f32) (ix3 e f d) = V (exOf c e) f d

variable {m X R U V}
variable (H : Holds m X R U V)
include H

/-- The gate values of a device's tokens. -/
theorem gates_apply (c : Dev nD) (r : Fin 256) (e : Fin 16) :
    k0_pay3 (F := Ideal) (k0_pay2 (rB m 0)) (k0_pay2 (rB m 1)) (k0_pay2 (rB m 2)) (k0_pay2 (rB m 3)) (xB m c) (ix2 r e)
      = gate X R (tok c r) e := by
  pointwise [k0_pay3, k0_pay2]
  rw [gate]
  refine Finset.sum_congr rfl fun k _ => ?_
  rw [H.x]
  congr 1
  simp only [H.router]
  split_ifs <;> exact congrArg (R k) (Fin.ext (by simp [exOf] <;> omega))

/-- A device's routing table: the two experts' numbers and their weights. -/
theorem table_apply (hfin : ∀ t, Finite (gate X R t)) (c : Dev nD) (r : Fin 256) :
    WV m c (ix3 0 r 0) = (((best (gate X R (tok c r))).val : ℝ) : EReal)
    ∧ WV m c (ix3 0 r 1) = (((second (gate X R (tok c r))).val : ℝ) : EReal)
    ∧ WV m c (ix3 0 r 2) = weight1 (gate X R (tok c r))
    ∧ WV m c (ix3 0 r 3) = weight2 (gate X R (tok c r)) := by
  have hg := gates_apply H c r
  refine ⟨?_, ?_, ?_, ?_⟩
  · pointwise [WV, k0_pay11]
    rw [first_apply hg]
    exact word_real _
  · pointwise [WV, k0_pay11]
    rw [second_apply hg (hfin _)]
    exact word_real _
  · pointwise [WV, k0_pay11, k0_pay10]
    rw [ratio_apply hg]
    rfl
  · pointwise [WV, k0_pay11, k0_pay10]
    rw [ratio_apply hg]
    rfl

end Cert.Value

end
-- ==== Proof.Partial.lean ====
/-
# A device's partial result and the sum over the devices

Each device runs its four experts on every token, a half of the hidden units at a time, and adds
each half's product times the token's share of that expert. The four partial results of a token,
added up at the device that holds it, are the mixture over all sixteen experts.
-/
module

public import proofs.«01_k».proof.Proof.Routing

@[expose] public section

set_option maxRecDepth 16384

noncomputable section

namespace Cert.Value

open Cert.MoE hiding ix3
open Cert.KernelIdeal Cert.KernelIdeal.Gen
open Idealize.ShloMosaic

variable {m : (ℓ : Loc nD τ sig) → Buf (Elt Ideal) ℓ}
variable {X : Fin 1024 → Fin 1024 → EReal} {R : Fin 1024 → Fin 16 → EReal}
  {U : Fin 16 → Fin 1024 → Fin 2048 → EReal} {V : Fin 16 → Fin 2048 → Fin 1024 → EReal}

/-- The device holding a token. -/
def devOf (t : Fin 1024) : Dev nD := (⟨t.val / 256, by have := t.isLt; omega⟩ : Fin 4)
/-- The token's place there. -/
def placeOf (t : Fin 1024) : Fin 256 := ⟨t.val % 256, by omega⟩

theorem tok_split (t : Fin 1024) : tok (devOf t) (placeOf t) = t :=
  Fin.ext (by simp only [tok, devOf, placeOf]; omega)

/-- The two ways of writing an index of three coordinates. -/
theorem ix3_same {n a b : ℕ} (i : Fin n) (j : Fin a) (k : Fin b) : Cert.MoE.ix3 i j k = ix3 i j k := by
  funext d; fin_cases d <;> rfl

/-- The number a device computes for its `j`-th expert. -/
theorem expert_word : ∀ (c : Dev nD) (j : Fin 4),
    (Scalar.addi (Scalar.muli (myW c) 4#32) (BitVec.ofNat 32 j.val)).toInt = ((exOf c j).val : ℤ) := by decide

/-- Two expert numbers, as the kernel compares them. -/
theorem number_eq (a e : Fin 16) (w : BitVec 32) (hw : w.toInt = (e.val : ℤ)) :
    (((a.val : ℝ) : EReal) = ((w.toInt : ℝ) : EReal)) = (a = e) := by
  rw [hw, Int.cast_natCast, EReal.coe_eq_coe_iff, Nat.cast_inj, Fin.val_inj]

/-- The experts, device by device. -/
theorem sum_experts (f : Fin 16 → EReal) : ∑ e, f e = ∑ c : Fin 4, ∑ j : Fin 4, f (exOf c j) := by
  rw [← Fintype.sum_prod_type']
  refine (Fintype.sum_equiv (finProdFinEquiv (m := 4) (n := 4)) _ _ fun x => congrArg f (Fin.ext ?_)).symm
  simp only [exOf, finProdFinEquiv_apply_val]
  omega

/-- A device's own term and its three peers' make up the sum over the devices. -/
theorem ring_sum (c : Dev nD) (S : Dev nD → EReal) :
    S c + S (peer c 0) + S (peer c 1) + S (peer c 2) = ∑ p : Fin 4, S p := by
  rw [Fin.sum_univ_four]
  match c with
  | 0 => rfl
  | 1 => show S 1 + S 2 + S 3 + S 0 = _; ac_rfl
  | 2 => show S 2 + S 3 + S 0 + S 1 = _; ac_rfl
  | 3 => show S 3 + S 0 + S 1 + S 2 = _; ac_rfl

section
variable (H : Holds m X R U V)
include H

theorem tokens_apply (t k : Fin 1024) : vX m (ix2 t k) = X t k := by
  pointwise [vX, k0_pay12]
  refine (?_ : _ = k0_pay1 (xB m (devOf t)) (ix3 0 (placeOf t) k)).trans ?_
  · rfl
  · pointwise [k0_pay1]
    rw [H.x, tok_split]

variable (hfin : ∀ t, Finite (gate X R t))
include hfin

theorem first_col (t : Fin 1024) : vA1 m (ix2 t 0) = (((best (gate X R t)).val : ℝ) : EReal) := by
  pointwise [vA1, k0_pay13, k0_pay14]
  have := (table_apply H hfin (devOf t) (placeOf t)).1
  rw [tok_split] at this
  exact this

theorem second_col (t : Fin 1024) : vA2 m (ix2 t 0) = (((second (gate X R t)).val : ℝ) : EReal) := by
  pointwise [vA2, k0_pay13, k0_pay15]
  have := (table_apply H hfin (devOf t) (placeOf t)).2.1
  rw [tok_split] at this
  exact this

theorem weight1_col (t : Fin 1024) : vG1 m (ix2 t 0) = weight1 (gate X R t) := by
  pointwise [vG1, k0_pay13, k0_pay16]
  have := (table_apply H hfin (devOf t) (placeOf t)).2.2.1
  rw [tok_split] at this
  exact this

theorem weight2_col (t : Fin 1024) : vG2 m (ix2 t 0) = weight2 (gate X R t) := by
  pointwise [vG2, k0_pay13, k0_pay17]
  have := (table_apply H hfin (devOf t) (placeOf t)).2.2.2
  rw [tok_split] at this
  exact this

/-- The weight a device gives its `j`-th expert on a token. -/
theorem share_apply (c : Dev nD) (j : Fin 4) (w : BitVec 32) (hw : BitVec.ofNat 32 j.val = w) (t : Fin 1024) :
    ((if vA1 m (ix2 t 0) = (((Scalar.addi (Scalar.muli (myW c) 4#32) w).toInt : ℝ) : EReal) then vG1 m (ix2 t 0) else 0)
      + (if vA2 m (ix2 t 0) = (((Scalar.addi (Scalar.muli (myW c) 4#32) w).toInt : ℝ) : EReal) then vG2 m (ix2 t 0) else 0))
    = share (gate X R t) (exOf c j) := by
  subst hw
  simp only [first_col H hfin, second_col H hfin, weight1_col H hfin, weight2_col H hfin,
    number_eq _ (exOf c j) _ (expert_word c j)]
  rfl

omit hfin in
/-- One half of an expert, as the kernel computes it. -/
theorem half_apply (c : Dev nD) (e : Fin 4) (b : Fin 2) (t d : Fin 1024) :
    (∑ j, max (∑ k, vX m (ix2 t k) * w1T m c e b (ix3 0 k j)) 0 * w2T m c e b (ix3 0 j d))
      = half X U V (exOf c e) b t d := by
  rw [half]
  refine Finset.sum_congr rfl fun j _ => ?_
  have h2 : w2T m c e b (ix3 0 j d) = V (exOf c e) (halfIx b j) d :=
    (congrArg (m (c.tc.loc main_arg3)) (ix3_same e (halfIx b j) d)).trans (H.w2 c e (halfIx b j) d)
  have h1 : ∀ k, w1T m c e b (ix3 0 k j) = U (exOf c e) k (halfIx b j) := fun k =>
    (congrArg (m (c.tc.loc main_arg2)) (ix3_same e k (halfIx b j))).trans (H.w1 c e k (halfIx b j))
  simp only [tokens_apply H, h1, h2]
  rfl

/-- A device's partial result for one token: its four experts, weighted. -/
theorem partial_apply (c : Dev nD) (p : Fin 4) (r : Fin 256) (d : Fin 1024) :
    PART m c (ix3 p r d) = ∑ j : Fin 4, expert X U V (exOf c j) (tok p r) d * share (gate X R (tok p r)) (exOf c j) := by
  have e1 : ∀ t, acc1 m c (ix2 t d) = half X U V (exOf c 0) 0 t d * share (gate X R t) (exOf c 0) := fun t => by
    pointwise [acc1, k0_pay18, k0_pay19, k0_pay20, k0_pay21]
    rw [half_apply H, share_apply H hfin c 0 0#32 rfl]
  have e2 : ∀ t, acc2 m c (ix2 t d) = expert X U V (exOf c 0) t d * share (gate X R t) (exOf c 0) := fun t => by
    pointwise [acc2, k0_pay22, k0_pay23]
    rw [half_apply H, share_apply H hfin c 0 0#32 rfl, e1, halves_weighted X U V (hfin t)]
  have e3 : ∀ t, acc3 m c (ix2 t d) = acc2 m c (ix2 t d) + half X U V (exOf c 1) 0 t d * share (gate X R t) (exOf c 1) := fun t => by
    pointwise [acc3, k0_pay24, k0_pay25, k0_pay26, k0_pay27, k0_pay28]
    rw [half_apply H, share_apply H hfin c 1 1#32 rfl]
  have e4 : ∀ t, acc4 m c (ix2 t d) = acc2 m c (ix2 t d) + expert X U V (exOf c 1) t d * share (gate X R t) (exOf c 1) := fun t => by
    pointwise [acc4, k0_pay29, k0_pay30]
    rw [half_apply H, share_apply H hfin c 1 1#32 rfl, e3, add_assoc, halves_weighted X U V (hfin t)]
  have e5 : ∀ t, acc5 m c (ix2 t d) = acc4 m c (ix2 t d) + half X U V (exOf c 2) 0 t d * share (gate X R t) (exOf c 2) := fun t => by
    pointwise [acc5, k0_pay31, k0_pay32, k0_pay33, k0_pay34, k0_pay35]
    rw [half_apply H, share_apply H hfin c 2 2#32 rfl]
  have e6 : ∀ t, acc6 m c (ix2 t d) = acc4 m c (ix2 t d) + expert X U V (exOf c 2) t d * share (gate X R t) (exOf c 2) := fun t => by
    pointwise [acc6, k0_pay36, k0_pay37]
    rw [half_apply H, share_apply H hfin c 2 2#32 rfl, e5, add_assoc, halves_weighted X U V (hfin t)]
  have e7 : ∀ t, acc7 m c (ix2 t d) = acc6 m c (ix2 t d) + half X U V (exOf c 3) 0 t d * share (gate X R t) (exOf c 3) := fun t => by
    pointwise [acc7, k0_pay38]
    rw [half_apply H, share_apply H hfin c 3 3#32 rfl]
  have e8 : ∀ t, acc7 m c (ix2 t d) + half X U V (exOf c 3) 1 t d * share (gate X R t) (exOf c 3)
      = ∑ j : Fin 4, expert X U V (exOf c j) t d * share (gate X R t) (exOf c j) := fun t => by
    rw [e7, add_assoc, halves_weighted X U V (hfin t), e6, e4, e2, Fin.sum_univ_four]
  refine Eq.trans ?_ (e8 (tok p r))
  pointwise [PART, k0_pay39]
  exact congrArg₂ (· + ·) rfl (congrArg₂ (· * ·) (half_apply H c 3 1 (tok p r) d) (share_apply H hfin c 3 3#32 rfl (tok p r)))

/-- A device's result for one of its tokens: the mixture over all sixteen experts. -/
theorem out_apply (c : Dev nD) (r : Fin 256) (d : Fin 1024) : OUT m c (ix2 r d) = mixture X R U V (tok c r) d := by
  have hown : plane (PART m c) c (ix3 0 r d) = PART m c (ix3 c r d) := rfl
  have hrecv : ∀ p : Dev nD, plane (RIN m c) p (ix3 0 r d) = PART m p (ix3 c r d) := fun p => by
    show plane (stack _) p _ = _
    rw [plane_stack]
    pointwise [k0_pay40]
    rfl
  pointwise [OUT, k0_pay43, k0_pay44, k0_pay45]
  rw [hown, hrecv, hrecv, hrecv]
  simp only [partial_apply H hfin]
  rw [ring_sum c fun p => ∑ j : Fin 4, expert X U V (exOf p j) (tok c r) d * share (gate X R (tok c r)) (exOf p j), mixture,
    sum_experts]
end

end Cert.Value

end
-- ==== Proof.Reference.lean ====
/-
# The reference's term, in named pieces

The reference composes its result out of host operations on the whole arrays. This module names the
pieces: the gate values, the two experts chosen per token, their gate values looked up, the weights,
and every expert's product; the result is those pieces put together.
-/
module

public import proofs.«01_k».proof.Proof.Gen.ReferenceIdeal.Run
public import proofs.«01_k».proof.Proof.Mixture

@[expose] public section

set_option maxRecDepth 16384

noncomputable section

namespace Cert.RefValue

open Cert.ReferenceIdeal Cert.ReferenceIdeal.Gen
open Idealize.ShloMosaic

variable (x : FVec Ideal S1024x1024 .f32) (r : FVec Ideal S1024x16 .f32) (u : FVec Ideal S16x1024x2048 .f32)
  (v : FVec Ideal S16x2048x1024 .f32)

/-- Every token's gate values. -/
def gates : FVec Ideal S1024x16 .f32 := Host.dotGeneral dot_S1024x1024_S1024x16_S1024x16_1_0_0_1_n_n none x r

/-- The experts by descending gate value. -/
def order : IVec S1024x16 32 :=
  (Host.sort2 S1024x16 1 comparator_f32_i32_d1 (Host.negf (gates x r)) (iotaInDim S1024x16 32 1)).2

/-- The first two of them. -/
def chosen : IVec S1024x2 32 := extractStridedSlice S1024x2 ![0, 0] (order x r) slices_S1024x16_S1024x2_0_0

/-- The two experts as the look-up takes them: a negative number counted from the end. -/
def wrapped : IVec S1024x2x1 32 :=
  shapeCast _ (select (cmpi .slt (chosen x r) (broadcastInDim S1024x2 ![] bcast_S_S1024x2 (constantI S_ 32 0#32)))
    (addi (chosen x r) (broadcastInDim S1024x2 ![] bcast_S_S1024x2 (constantI S_ 32 16#32))) (chosen x r)) shapeCasts_S1024x2_S1024x2x1

/-- Whether a looked-up number names an expert. -/
def inRange : IVec S1024x2 1 :=
  Host.reduce IntOp.andi (andi (cmpi .sge (wrapped x r) (broadcastInDim S1024x2x1 ![] bcast_S_S1024x2x1 (constantI S_ 32 0#32)))
    (cmpi .sle (wrapped x r) (broadcastInDim S1024x2x1 ![0, 1, 2] bcast_S1x1x1_S1024x2x1_0_1_2
      (broadcastInDim S1x1x1 ![2] bcast_S1_S1x1x1_2 (constantI S1 32 15#32)))))
    (constantI S_ 1 1#1) reducesTo_S1024x2x1_S1024x2_d2 h_S_

/-- The chosen experts' gate values. -/
def looked : FVec Ideal S1024x2 .f32 :=
  select (inRange x r) (Host.gather gather_S1024x16_S1024x2x1_S1024x2_n_1_0_0_1_2_11 (gates x r) (wrapped x r))
    (broadcastInDim S1024x2 ![] bcast_S_S1024x2 (constant S_ .f32 0x7FC00000#32))

/-- A column of one number per token, beside itself. -/
def twice (w : FVec Ideal S1024 .f32) : FVec Ideal S1024x2 .f32 :=
  broadcastInDim S1024x2 ![0, 1] bcast_S1024x1_S1024x2_0_1 (broadcastInDim S1024x1 ![0] bcast_S1024_S1024x1_0 w)

/-- The exponentials of the two gate values, the larger taken off. -/
def exps : FVec Ideal S1024x2 .f32 :=
  Host.exp (subf (looked x r) (twice (Host.reduce FloatOps.maximumf (looked x r) (constant S_ .f32 0xFF800000#32) reducesTo_S1024x2_S1024_d1 h_S_)))

/-- The two weights. -/
def weights : FVec Ideal S1024x2 .f32 :=
  Host.divf (exps x r) (twice (Host.reduceAdd (exps x r) (constant S_ .f32 0x00000000#32) reducesTo_S1024x2_S1024_d1 h_S_))

/-- Every expert on every token. -/
def experts : FVec Ideal S16x1024x1024 .f32 :=
  Host.dotGeneral dot_S16x1024x2048_S16x2048x1024_S16x1024x1024_2_1_1_2_0_0 none
    (maximumf (transpose S16x1024x2048 [0, 2, 1] (Host.dotGeneral dot_S16x1024x2048_S1024x1024_S16x2048x1024_1_1_02_0_n_n none u x)
      transposes_S16x2048x1024_S16x1024x2048_0_2_1)
      (broadcastInDim S16x1024x2048 ![] bcast_S_S16x1024x2048 (constant S_ .f32 0x00000000#32))) v

/-- One chosen expert's share of the result, its number and its weight given as columns. -/
def addOne (e : IVec S1024x1 32) (w : FVec Ideal S1024x1 .f32) : FVec Ideal S1024x1024 .f32 :=
  Host.reduceAdd (select (broadcastInDim S16x1024x1024 ![0, 1, 2] bcast_S16x1024x1_S16x1024x1024_0_1_2
      (broadcastInDim S16x1024x1 ![0, 1] bcast_S16x1024_S16x1024x1_0_1
        (cmpi .eq (broadcastInDim S16x1024 ![0, 1] bcast_S1x1024_S16x1024_0_1 (broadcastInDim S1x1024 ![1] bcast_S1024_S1x1024_1
            (shapeCast _ e shapeCasts_S1024x1_S1024)))
          (broadcastInDim S16x1024 ![0, 1] bcast_S16x1_S16x1024_0_1 (broadcastInDim S16x1 ![0] bcast_S16_S16x1_0 (iotaInDim S16 32 0))))))
      (mulf (experts x u v) (broadcastInDim S16x1024x1024 ![0, 1, 2] bcast_S1x1024x1_S16x1024x1024_0_1_2
        (broadcastInDim S1x1024x1 ![1] bcast_S1024_S1x1024x1_1 (shapeCast _ w shapeCasts_S1024x1_S1024))))
      (broadcastInDim S16x1024x1024 ![] bcast_S_S16x1024x1024 (id (constant S_ .f32 0x00000000#32))))
    (constant S_ .f32 0x00000000#32) reducesTo_S16x1024x1024_S1024x1024_d0 h_S_

/-- The result. -/
def result : FVec Ideal S1024x1024 .f32 :=
  addf (addf (broadcastInDim S1024x1024 ![] bcast_S_S1024x1024 (constant S_ .f32 0x00000000#32))
      (addOne x u v (extractStridedSlice S1024x1 ![0, 0] (chosen x r) slices_S1024x2_S1024x1_0_0)
        (extractStridedSlice S1024x1 ![0, 0] (weights x r) slices_S1024x2_S1024x1_0_0)))
    (addOne x u v (extractStridedSlice S1024x1 ![0, 1] (chosen x r) slices_S1024x2_S1024x1_0_1)
      (extractStridedSlice S1024x1 ![0, 1] (weights x r) slices_S1024x2_S1024x1_0_1))

/-- The composed term of the reference is that result. -/
theorem result_eq (m : (ℓ : Loc nD τ sig) → Buf (Elt Ideal) ℓ) (c : Dev nD) :
    Value.res_main_v53 m c
      = result (m (c.tc.loc main_arg0)) (m (c.tc.loc main_arg1)) (m (c.tc.loc main_arg2)) (m (c.tc.loc main_arg3)) := by
  unfold Value.res_main_v53
  rfl

end Cert.RefValue

end
-- ==== Proof.RefRead.lean ====
/-
# The reference's result, read at a token

The stable sort by the negated gate values puts the two largest first; the look-up of their gate
values hits the positions it is given; the weights of the two are those of the mixture; and the two
sums over the experts are its two sums.
-/
module

public import proofs.«01_k».proof.Proof.Reference

@[expose] public section

set_option maxRecDepth 16384

noncomputable section

namespace Cert.RefValue

open Cert.ReferenceIdeal Cert.ReferenceIdeal.Gen Cert.MoE
open Idealize.ShloMosaic

theorem ofBool_beq (b : Bool) : (BitVec.ofBool b == 1#1) = b := by cases b <;> rfl

/-- Over the extended reals the sort's comparison is `<` of the keys. -/
theorem comparator_eq (a b : EReal) (i j : BitVec 32) :
    comparator_f32_i32_d1 (F := Ideal) (a, i) (b, j) = BitVec.ofBool (decide (a < b)) := by
  have hz : ∀ y : EReal, Scalar.select (FloatOps.cmpf (F := Ideal) (φ := .f32) .une y y) (FloatOps.ofBits (F := Ideal) .f32 0x7FC00000#32)
      (Scalar.select (FloatOps.cmpf (F := Ideal) (φ := .f32) .oeq y (FloatOps.ofBits (F := Ideal) .f32 0x00000000#32))
        (FloatOps.ofBits (F := Ideal) .f32 0x00000000#32) y) = y := fun y => by
    have h1 : FloatOps.cmpf (F := Ideal) (φ := .f32) .une y y = 0#1 := by
      show BitVec.ofBool (decide (y ≠ y)) = _
      simp
    rw [h1]
    by_cases h : y = FloatOps.ofBits (F := Ideal) .f32 0x00000000#32
    · have h2 : FloatOps.cmpf (F := Ideal) (φ := .f32) .oeq y (FloatOps.ofBits (F := Ideal) .f32 0x00000000#32) = 1#1 := by
        show BitVec.ofBool (decide (y = _)) = _
        simp [h]
      rw [h2]; exact h.symm
    · have h2 : FloatOps.cmpf (F := Ideal) (φ := .f32) .oeq y (FloatOps.ofBits (F := Ideal) .f32 0x00000000#32) = 0#1 := by
        show BitVec.ofBool (decide (y = FloatOps.ofBits (F := Ideal) .f32 0x00000000#32)) = _
        rw [decide_eq_false h]; rfl
      rw [h2]; rfl
  unfold comparator_f32_i32_d1
  simp only [hz]
  rfl

theorem not_negative : ∀ e : Fin 16, Scalar.select (IntOp.cmpi CmpIPredicate.slt (BitVec.ofNat 32 e.val) 0#32)
    (IntOp.addi (BitVec.ofNat 32 e.val) 16#32) (BitVec.ofNat 32 e.val) = BitVec.ofNat 32 e.val := by decide

theorem between : ∀ e : Fin 16, IntOp.andi (IntOp.cmpi CmpIPredicate.sge (BitVec.ofNat 32 e.val) 0#32)
    (IntOp.cmpi CmpIPredicate.sle (BitVec.ofNat 32 e.val) 15#32) = 1#1 := by decide

theorem words_inj : ∀ e e' : Fin 16, BitVec.ofNat 32 e.val = BitVec.ofNat 32 e'.val ↔ e = e' := by decide

theorem kept_in_range : ∀ e : Fin 16, min (BitVec.ofNat 32 e.val).toInt.toNat (16 - 1) = e.val := by decide

/-- The look-up along the second axis, at an index: the row's entry at the number given, read signed and kept in range. -/
theorem lookup_apply (g : FVec Ideal S1024x16 .f32) (ix : IVec S1024x2x1 32) (t : Fin 1024) (i : Fin 2) (e : Fin 16)
    (h : ix (ix3 t i 0) = BitVec.ofNat 32 e.val) :
    Host.gather gather_S1024x16_S1024x2x1_S1024x2_n_1_0_0_1_2_11 g ix (ix2 t i) = g (ix2 t e) := by
  let G := gather_S1024x16_S1024x2x1_S1024x2_n_1_0_0_1_2_11
  show g (G.operandIdx (ix2 t i) ix) = _
  congr 1
  funext a
  refine Fin.ext ?_
  show G.start (ix2 t i) ix a + G.batchCoord (ix2 t i) a + G.offCoord (ix2 t i) a = _
  have h01 : a = 0 ∨ a = 1 := by
    match a with
    | ⟨0, _⟩ => exact .inl rfl
    | ⟨1, _⟩ => exact .inr rfl
  rcases h01 with rfl | rfl
  · rw [GatherDims.start_batching _ _ _ _ (List.mem_singleton.mpr rfl),
      GatherDims.offCoord_eq_zero _ _ _ (fun hk => ((GatherDims.mem_sKept _ _).mp hk).2 (List.mem_singleton.mpr rfl)),
      Nat.zero_add, Nat.add_zero]
    unfold GatherDims.batchCoord
    rw [dif_pos (show (0 : Fin 2) ∈ G.operandBatchingDims from List.mem_singleton.mpr rfl)]
    rfl
  · have hb : (1 : Fin 2) ∉ G.operandBatchingDims := fun hk => absurd (List.mem_singleton.mp hk) (by decide)
    rw [GatherDims.batchCoord_eq_zero _ _ _ hb,
      GatherDims.offCoord_eq_zero _ _ _ (fun hk => ((GatherDims.mem_sKept _ _).mp hk).1 (List.mem_singleton.mpr rfl)),
      Nat.add_zero]
    unfold GatherDims.start
    rw [dif_pos (show (1 : Fin 2) ∈ G.startIndexMap from List.mem_singleton.mpr rfl)]
    have hs : G.siIdx (ix2 t i) ⟨List.idxOf (1 : Fin 2) G.startIndexMap, List.idxOf_lt_length_iff.2 (List.mem_singleton.mpr rfl)⟩
        = ix3 t i 0 := by
      funext b; refine Fin.ext ?_
      match b with
      | ⟨0, _⟩ => rfl
      | ⟨1, _⟩ => rfl
      | ⟨2, _⟩ => rfl
    rw [hs, h]
    exact kept_in_range e

section
variable {x : FVec Ideal S1024x1024 .f32} {r : FVec Ideal S1024x16 .f32} {u : FVec Ideal S16x1024x2048 .f32}
  {v : FVec Ideal S16x2048x1024 .f32}
variable {X : Fin 1024 → Fin 1024 → EReal} {R : Fin 1024 → Fin 16 → EReal}
  {U : Fin 16 → Fin 1024 → Fin 2048 → EReal} {V : Fin 16 → Fin 2048 → Fin 1024 → EReal}
variable (hx : ∀ t k, x (ix2 t k) = X t k) (hr : ∀ k e, r (ix2 k e) = R k e)
  (hu : ∀ e k f, u (ix3 e k f) = U e k f) (hv : ∀ e f d, v (ix3 e f d) = V e f d)

section
include hx hr

theorem gates_read (t : Fin 1024) (e : Fin 16) : gates x r (ix2 t e) = gate X R t e := by
  pointwise [gates]
  simp only [hx, hr]
  rfl

theorem order_read (t : Fin 1024) (k : Fin 16) :
    order x r (ix2 t k)
      = BitVec.ofNat 32 (sortedFrom (fun k k' : Fin 16 => decide (-gate X R t k < -gate X R t k')) k).val := by
  have along : ∀ k' : Fin 16, (ix2 t k : S1024x16.Idx).along (1 : Fin 2) k' = ix2 t k' := fun k' => by
    funext a
    match a with
    | ⟨0, _⟩ => rfl
    | ⟨1, _⟩ => rfl
  unfold order Host.sort2
  rw [dif_pos (by decide)]
  show iotaInDim S1024x16 32 1 ((ix2 t k : S1024x16.Idx).along (1 : Fin 2) (sortedFrom _ k)) = _
  refine (congrArg (iotaInDim S1024x16 32 1) (along _)).trans ?_
  show BitVec.ofNat 32 (sortedFrom _ k).val = _
  congr 3
  funext a b
  refine (congrArg (· == 1#1) (comparator_eq (Host.negf (gates x r) ((ix2 t k : S1024x16.Idx).along (1 : Fin 2) a))
    (Host.negf (gates x r) ((ix2 t k : S1024x16.Idx).along (1 : Fin 2) b)) _ _)).trans ?_
  have hneg : ∀ k' : Fin 16, Host.negf (gates x r) ((ix2 t k : S1024x16.Idx).along (1 : Fin 2) k') = -gate X R t k' := fun k' =>
    (congrArg (Host.negf (gates x r)) (along k')).trans (congrArg (fun y : EReal => -y) (gates_read hx hr t k'))
  refine (congrArg₂ (fun p q : EReal => BitVec.ofBool (decide (p < q)) == 1#1) (hneg a) (hneg b)).trans ?_
  exact ofBool_beq _

theorem chosen_read (t : Fin 1024) :
    chosen x r (ix2 t 0) = BitVec.ofNat 32 (best (gate X R t)).val ∧ chosen x r (ix2 t 1) = BitVec.ofNat 32 (second (gate X R t)).val := by
  have h := sorted_first_two (best2 (gate X R t))
  constructor
  · pointwise [chosen]
    rw [order_read hx hr, h.1]
  · pointwise [chosen]
    rw [order_read hx hr, h.2]

theorem wrapped_of (t : Fin 1024) (i : Fin 2) (e : Fin 16) (h : chosen x r (ix2 t i) = BitVec.ofNat 32 e.val) :
    wrapped x r (ix3 t i 0) = BitVec.ofNat 32 e.val := by
  pointwise [wrapped]
  rw [h]
  exact not_negative e

theorem looked_of (t : Fin 1024) (i : Fin 2) (e : Fin 16) (h : chosen x r (ix2 t i) = BitVec.ofNat 32 e.val) :
    looked x r (ix2 t i) = gate X R t e := by
  have hw := wrapped_of hx hr t i e h
  have hin : inRange x r (ix2 t i) = 1#1 := by
    pointwise [inRange]
    rw [Finset.univ_unique, Finset.fold_singleton]
    show IntOp.andi (IntOp.andi (IntOp.cmpi CmpIPredicate.sge (wrapped x r (ix3 t i 0)) 0#32)
      (IntOp.cmpi CmpIPredicate.sle (wrapped x r (ix3 t i 0)) 15#32)) 1#1 = 1#1
    rw [hw, between]
    rfl
  pointwise [looked]
  rw [hin, lookup_apply _ _ t i e hw, gates_read hx hr]
  rfl

theorem exps_read (hfin : ∀ t, Finite (gate X R t)) (t : Fin 1024) : exps x r (ix2 t 0) = 1 ∧ exps x r (ix2 t 1) = ratio (gate X R t) := by
  have h0 := looked_of hx hr t 0 _ (chosen_read hx hr t).1
  have h1 := looked_of hx hr t 1 _ (chosen_read hx hr t).2
  obtain ⟨y, hy⟩ : ∃ y : ℝ, gate X R t (best (gate X R t)) = y := ⟨_, (EReal.coe_toReal (hfin t _).1 (hfin t _).2).symm⟩
  have hmax : Finset.fold max (Ideal.ofBits FTy.f32 4286578688#32) (fun i : Fin 2 => looked x r (ix2 t i)) Finset.univ
      = gate X R t (best (gate X R t)) := by
    have hbot : Ideal.ofBits .f32 4286578688#32 = (⊥ : EReal) := by simp [Ideal.ofBits, Ideal.ieee]
    rw [hbot, ← h0]
    refine fold_eq_absorber max (fun i : Fin 2 => looked x r (ix2 t i)) ⊥ 0 (by simp) fun j hj => ?_
    have hj1 : j = 1 := by omega
    subst hj1
    simp only [h0, h1]
    exact max_eq_left ((best2 (gate X R t)).top _)
  constructor
  · pointwise [exps, twice]
    rw [hmax, h0, hy, ← EReal.coe_sub, sub_self, Ideal.exp_coe, Real.exp_zero, EReal.coe_one]
  · pointwise [exps, twice]
    rw [hmax, h1, ratio]

theorem weights_read (hfin : ∀ t, Finite (gate X R t)) (t : Fin 1024) :
    weights x r (ix2 t 0) = weight1 (gate X R t) ∧ weights x r (ix2 t 1) = weight2 (gate X R t) := by
  have h := exps_read hx hr hfin t
  constructor
  · pointwise [weights, twice]
    rw [Fin.sum_univ_two, h.1, h.2, weight1]
  · pointwise [weights, twice]
    rw [Fin.sum_univ_two, h.1, h.2, weight2]

end

include hx hu hv
theorem experts_read (e : Fin 16) (t d : Fin 1024) : experts x u v (ix3 e t d) = expert X U V e t d := by
  pointwise [experts]
  rw [expert]
  refine Finset.sum_congr rfl fun f _ => ?_
  rw [unit, hv]
  congr 2
  refine Finset.sum_congr rfl fun k _ => ?_
  rw [hu, hx, mul_comm]

/-- One chosen expert's share of the result: its product times its weight, picked out of a sum over the experts. -/
theorem addOne_read (a : IVec S1024x1 32) (w : FVec Ideal S1024x1 .f32) (t d : Fin 1024) (p : Fin 16)
    (h : a (ix2 t 0) = BitVec.ofNat 32 p.val) :
    addOne x u v a w (ix2 t d) = ∑ e, if p = e then expert X U V e t d * w (ix2 t 0) else 0 := by
  pointwise [addOne]
  refine Finset.sum_congr rfl fun e _ => ?_
  have hz : (id (constant S_ .f32 0#32) : FVec Ideal S_ .f32) ix0 = (0 : EReal) := Ideal.ofBits_zero_f32
  rw [h, hz, experts_read hx hu hv]
  by_cases he : p = e
  · subst he
    rw [if_pos rfl]
    simp [IntOp.cmpi, Scalar.select]
  · rw [if_neg he]
    have := beq_eq_false_iff_ne.mpr (mt (words_inj p e).mp he)
    simp [IntOp.cmpi, Scalar.select, this]

include hr
/-- The reference's result is the mixture. -/
theorem result_read (hfin : ∀ t, Finite (gate X R t)) (t d : Fin 1024) : result x r u v (ix2 t d) = mixture X R U V t d := by
  have hc := chosen_read hx hr t
  have hw := weights_read hx hr hfin t
  pointwise [result]
  rw [addOne_read hx hu hv _ _ t d (best (gate X R t)) (by pointwise; exact hc.1),
    addOne_read hx hu hv _ _ t d (second (gate X R t)) (by pointwise; exact hc.2), mixture_two_sums X R U V (hfin t)]
  congr 1
  · refine Finset.sum_congr rfl fun e _ => ?_
    pointwise
    rw [hw.1]
  · refine Finset.sum_congr rfl fun e _ => ?_
    pointwise
    rw [hw.2]

end

end Cert.RefValue

end
-- ==== Proof.Finiteness.lean ====
/-
# What the precondition says

The precondition is a conjunction over all entries of a device's tokens and router columns. Where it
holds, every one of them is a real number.
-/
module

public import proofs.«01_k».proof.Pre_finite_gates_KernelIdeal
public import proofs.«01_k».proof.Pre_finite_gates_ReferenceIdeal
public import Idealize.ShloMosaic.Lib.Pointwise

@[expose] public section

set_option maxRecDepth 16384

noncomputable section

namespace Cert.Value

open Idealize.ShloMosaic

theorem preKernel : Cert.Pre_finite_gates_KernelIdeal.Facts :=
  ⟨by decide, by decide, by decide, by decide, by decide⟩

theorem preReference : Cert.Pre_finite_gates_ReferenceIdeal.Facts :=
  ⟨by decide, by decide, by decide, by decide, by decide⟩

/-- Of two bits whose conjunction is one, both are one. -/
theorem andi_one : ∀ a b : BitVec 1, IntOp.andi a b = 1#1 → a = 1#1 ∧ b = 1#1 := by decide

/-- A conjunction over finitely many bits that is one has every bit one. -/
theorem fold_andi {ι : Type} [DecidableEq ι] [Fintype ι] (f : ι → BitVec 1) (h : Finset.univ.fold IntOp.andi 1#1 f = 1#1) (i : ι) :
    f i = 1#1 := by
  rw [← Finset.insert_erase (Finset.mem_univ i), Finset.fold_insert (Finset.notMem_erase _ _)] at h
  exact (andi_one _ _ h).1

/-- A value whose magnitude is below the infinite one is a real number. -/
theorem real_of_abs {y : EReal} (h : Ideal.cmp .olt (max y (-y)) (Ideal.ofBits .f32 0x7F800000#32) = 1#1) : y ≠ ⊤ ∧ y ≠ ⊥ := by
  have ht : Ideal.ofBits .f32 0x7F800000#32 = (⊤ : EReal) := by simp [Ideal.ofBits, Ideal.ieee]
  rw [ht] at h
  have hlt : max y (-y) < ⊤ := by
    by_contra hc
    have : Ideal.cmp .olt (max y (-y)) ⊤ = BitVec.ofBool (decide (max y (-y) < ⊤)) := rfl
    rw [this, decide_eq_false hc] at h
    exact absurd h (by decide)
  constructor
  · rintro rfl; simp at hlt
  · rintro rfl; simp at hlt

/-- Where the precondition holds, a device's tokens and router columns are real numbers. -/
theorem finite_of_pre [Cert.Pre_finite_gates_KernelIdeal.Facts] (x : FVec Ideal ⟨2, ![256, 1024]⟩ .f32) (r : FVec Ideal ⟨2, ![1024, 4]⟩ .f32)
    (u : FVec Ideal ⟨3, ![4, 1024, 2048]⟩ .f32) (v : FVec Ideal ⟨3, ![4, 2048, 1024]⟩ .f32)
    (h : Cert.Pre_finite_gates_KernelIdeal.fn x r u v = fun _ => 1#1) :
    (∀ t k, x (ix2 t k) ≠ ⊤ ∧ x (ix2 t k) ≠ ⊥) ∧ ∀ k e, r (ix2 k e) ≠ ⊤ ∧ r (ix2 k e) ≠ ⊥ := by
  have h0 := congrFun h ix0
  pointwise [Cert.Pre_finite_gates_KernelIdeal.fn] at h0
  obtain ⟨hx, hr⟩ := andi_one _ _ h0
  exact ⟨fun t k => real_of_abs (fold_andi _ hx (t, k)), fun k e => real_of_abs (fold_andi _ hr (k, e))⟩

end Cert.Value

end
-- ==== Proof.Algebraic.lean ====
/-
# The kernel computes the reference

From the runs of both programs and the readings of their results: where every device holds its
blocks of the whole arrays and the tokens and the router are real numbers, device `c`'s result is
block `c` of the reference's.
-/
module

public import proofs.«01_k».proof.Defs
public import proofs.«01_k».proof.Proof.Frames
public import proofs.«01_k».proof.Proof.Partial
public import proofs.«01_k».proof.Proof.RefRead
public import proofs.«01_k».proof.Proof.Finiteness
public import Idealize.ShloMosaic.Lib.Layout

@[expose] public section

set_option maxRecDepth 16384

noncomputable section

namespace Cert.Value

open Cert.MoE hiding ix3
open Idealize.ShloMosaic Idealize.SL.Sem

/-- Where the entries of a device's blocks lie in the whole arrays. -/
theorem rows_at (h : Layout.Tiles ⟨2, ![256, 1024]⟩ ⟨2, ![1024, 1024]⟩ 0 4) (c : Fin 4) (r : Fin 256) (k : Fin 1024) :
    h.idx c (ix2 r k) = ix2 (tok c r) k := by
  funext b
  match b with
  | ⟨0, _⟩ => rfl
  | ⟨1, _⟩ => rfl

theorem columns_at (h : Layout.Tiles ⟨2, ![1024, 4]⟩ ⟨2, ![1024, 16]⟩ 1 4) (c : Fin 4) (k : Fin 1024) (j : Fin 4) :
    h.idx c (ix2 k j) = ix2 k (exOf c j) := by
  funext b
  match b with
  | ⟨0, _⟩ => rfl
  | ⟨1, _⟩ => rfl

theorem planes_at {a b : ℕ} (h : Layout.Tiles ⟨3, ![4, a, b]⟩ ⟨3, ![16, a, b]⟩ 0 4) (c : Fin 4) (e : Fin 4) (k : Fin a) (f : Fin b) :
    h.idx c (ix3 e k f) = ix3 (exOf c e) k f := by
  funext d
  match d with
  | ⟨0, _⟩ => rfl
  | ⟨1, _⟩ => rfl
  | ⟨2, _⟩ => rfl

section
variable (m' : (ℓ : Loc Cert.ReferenceIdeal.nD Cert.ReferenceIdeal.τ Cert.ReferenceIdeal.sig) → Buf (Elt Ideal) ℓ)

/-- The whole arrays, by their coordinates. -/
def wholeX (t k : Fin 1024) : EReal :=
  (m' ((0 : Dev Cert.ReferenceIdeal.nD).tc.loc Cert.ReferenceIdeal.main_arg0) : FVec Ideal ⟨2, ![1024, 1024]⟩ .f32) (ix2 t k)
def wholeR (k : Fin 1024) (e : Fin 16) : EReal :=
  (m' ((0 : Dev Cert.ReferenceIdeal.nD).tc.loc Cert.ReferenceIdeal.main_arg1) : FVec Ideal ⟨2, ![1024, 16]⟩ .f32) (ix2 k e)
def wholeU (e : Fin 16) (k : Fin 1024) (f : Fin 2048) : EReal :=
  (m' ((0 : Dev Cert.ReferenceIdeal.nD).tc.loc Cert.ReferenceIdeal.main_arg2) : FVec Ideal ⟨3, ![16, 1024, 2048]⟩ .f32) (ix3 e k f)
def wholeV (e : Fin 16) (f : Fin 2048) (d : Fin 1024) : EReal :=
  (m' ((0 : Dev Cert.ReferenceIdeal.nD).tc.loc Cert.ReferenceIdeal.main_arg3) : FVec Ideal ⟨3, ![16, 2048, 1024]⟩ .f32) (ix3 e f d)
end

/-- Tokens and router columns that are real on every device are real as wholes. -/
theorem whole_finite {m : (ℓ : Loc Cert.KernelIdeal.nD Cert.KernelIdeal.τ Cert.KernelIdeal.sig) → Buf (Elt Ideal) ℓ}
    {X : Fin 1024 → Fin 1024 → EReal} {R : Fin 1024 → Fin 16 → EReal}
    {U : Fin 16 → Fin 1024 → Fin 2048 → EReal} {V : Fin 16 → Fin 2048 → Fin 1024 → EReal}
    (H : Holds m X R U V) (hx : ∀ c r k, xB m c (ix2 r k) ≠ (⊤ : EReal) ∧ xB m c (ix2 r k) ≠ (⊥ : EReal))
    (hr : ∀ c k j, rB m c (ix2 k j) ≠ (⊤ : EReal) ∧ rB m c (ix2 k j) ≠ (⊥ : EReal)) (t : Fin 1024) :
    Finite (gate X R t) := by
  refine gate_finite X R (fun t k => ?_) (fun k e => ?_) t
  · have := hx (devOf t) (placeOf t) k
    rw [H.x, tok_split] at this
    exact this
  · have := hr (⟨e.val / 4, by omega⟩ : Fin 4) k (⟨e.val % 4, by omega⟩ : Fin 4)
    rw [H.router] at this
    have he : exOf ⟨e.val / 4, by omega⟩ ⟨e.val % 4, by omega⟩ = e := Fin.ext (by simp only [exOf]; omega)
    rw [he] at this
    exact this

theorem algebraic [Cert.Pre_finite_gates_KernelIdeal.Facts] :
    Cert.algebraic_KernelIdeal_ReferenceIdeal_pre_finite_gates_KernelIdeal
      (hKernelIdeal := Cert.KernelIdeal.Gen.facts) (hReferenceIdeal := Cert.ReferenceIdeal.Gen.facts) := by
  intro m g m' g' hpre harg
  have H : Holds m (wholeX m') (wholeR m') (wholeU m') (wholeV m') := by
    refine ⟨fun c r k => ?_, fun c k j => ?_, fun c e k f => ?_, fun c e f d => ?_⟩
    · rw [x_whole, (harg c).1]
      exact congrArg (m' _) (rows_at _ c r k)
    · rw [r_whole, (harg c).2.1]
      exact congrArg (m' _) (columns_at _ c k j)
    · rw [(harg c).2.2.1]
      exact congrArg (m' _) (planes_at _ c e k f)
    · rw [(harg c).2.2.2]
      exact congrArg (m' _) (planes_at _ c e f d)
  have hreal := fun c => finite_of_pre _ _ _ _ (hpre c)
  have hfin : ∀ t, Finite (gate (wholeX m') (wholeR m') t) := whole_finite H
    (fun c r k => by rw [x_whole]; exact (hreal c).1 r k) (fun c k j => by rw [r_whole]; exact (hreal c).2 k j)
  refine ⟨Cert.ReferenceIdeal.Value.res_main_v53 m' 0, ?_, ?_⟩
  · refine (θ_run _ _ _).mono (fun r hrun c => ?_) (run_values m g)
    obtain ⟨hout, hargs⟩ := hrun.1 c
    refine ⟨hout.trans ?_, hargs⟩
    rw [Cert.RefValue.result_eq]
    funext i
    obtain ⟨a, d, rfl⟩ : ∃ (a : Fin 256) (d : Fin 1024), i = ix2 a d := ⟨i 0, i 1, eq_ix2 i⟩
    rw [out_apply H hfin, Layout.block_apply, rows_at]
    exact (Cert.RefValue.result_read (fun _ _ => rfl) (fun _ _ => rfl) (fun _ _ _ => rfl) (fun _ _ _ => rfl) hfin _ _).symm
  · refine (θ_run _ _ _).mono (fun r hrun => hrun 0) (Cert.ReferenceIdeal.Value.run m' g')

end Cert.Value

end
-- ==== Proof.lean ====
/-
# The claims

Each of the claims of `Cert.Claim`, from the modules under `Proof/`: the frames of the kernel, of its
reading over the extended reals and of the reference; that the reading preserves the kernel; and
that kernel and reference compute the same function where the tokens and the router are finite.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Frames
public import proofs.«01_k».proof.Proof.Algebraic
public import Idealize.ShloMosaic.Adequacy
public import Idealize.ShloMosaic.Init

@[expose] public section

noncomputable section

namespace Cert.Proof

open Idealize.ShloMosaic Idealize.SL.Sem Cert.Kernel

/-- Everything that is claimed. The two frames under the precondition follow from those without it. -/
theorem claim : Cert.Claim := ⟨Cert.Kernel.Gen.facts, Cert.KernelIdeal.Gen.facts, Cert.ReferenceIdeal.Gen.facts,
  Cert.Value.preKernel, Cert.Value.preReference,
  Cert.MoE.frame_kernel,
  Cert.MoE.frame_kernelIdeal, fun m g _ => Cert.MoE.frame_kernelIdeal m g trivial,
  Cert.MoE.frame_reference, fun m g _ => Cert.MoE.frame_reference m g trivial,
  trivial,
  @Cert.Value.algebraic Cert.Value.preKernel⟩

end Cert.Proof

end
